-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_tiled [hPre_tiled : Cert.Pre_tiled.Facts] (m : (ℓ : Loc Cert.MoeIdeal.nD Cert.MoeIdeal.τ Cert.MoeIdeal.sig) → Buf (Elt Ideal) ℓ) : Prop :=
  ∀ c : Dev Cert.MoeIdeal.nD,
    (Cert.Pre_tiled.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tiled [hPre_tiled : Cert.Pre_tiled.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tiled.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_LnA (m : (ℓ : Loc Cert.LnA.nD Cert.LnA.τ Cert.LnA.sig) → Buf (Elt Bits) ℓ) : Prop :=
  True

def Pre_LnAIdeal (m : (ℓ : Loc Cert.LnAIdeal.nD Cert.LnAIdeal.τ Cert.LnAIdeal.sig) → Buf (Elt Ideal) ℓ) : Prop :=
  True

def Pre_LnARefIdeal (m : (ℓ : Loc Cert.LnARefIdeal.nD Cert.LnARefIdeal.τ Cert.LnARefIdeal.sig) → Buf (Elt Ideal) ℓ) : Prop :=
  True

def Pre_Pos (m : (ℓ : Loc Cert.Pos.nD Cert.Pos.τ Cert.Pos.sig) → Buf (Elt Bits) ℓ) : Prop :=
  True

def Pre_PosIdeal (m : (ℓ : Loc Cert.PosIdeal.nD Cert.PosIdeal.τ Cert.PosIdeal.sig) → Buf (Elt Ideal) ℓ) : Prop :=
  True

def Pre_PosRefIdeal (m : (ℓ : Loc Cert.PosRefIdeal.nD Cert.PosRefIdeal.τ Cert.PosRefIdeal.sig) → Buf (Elt Ideal) ℓ) : Prop :=
  True

def Pre_Back [hPre_placed : Cert.Pre_placed.Facts] (m : (ℓ : Loc Cert.Back.nD Cert.Back.τ Cert.Back.sig) → Buf (Elt Bits) ℓ) : Prop :=
  ∀ c : Dev Cert.Back.nD,
    (Cert.Pre_placed.fn (F := Bits) (m ((c.tc : Thread Cert.Back.nD Cert.Back.τ).loc Cert.Back.main_arg0)) (m ((c.tc : Thread Cert.Back.nD Cert.Back.τ).loc Cert.Back.main_arg1))) = (fun _ => 1#1)

def Pre_BackIdeal [hPre_placed : Cert.Pre_placed.Facts] (m : (ℓ : Loc Cert.BackIdeal.nD Cert.BackIdeal.τ Cert.BackIdeal.sig) → Buf (Elt Ideal) ℓ) : Prop :=
  ∀ c : Dev Cert.BackIdeal.nD,
    (Cert.Pre_placed.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1))) = (fun _ => 1#1)

def Pre_BackRefIdeal (m : (ℓ : Loc Cert.BackRefIdeal.nD Cert.BackRefIdeal.τ Cert.BackRefIdeal.sig) → Buf (Elt Ideal) ℓ) : Prop :=
  True

def Pre_BackRefIdeal_placed [hPre_placed : Cert.Pre_placed.Facts] (m : (ℓ : Loc Cert.BackRefIdeal.nD Cert.BackRefIdeal.τ Cert.BackRefIdeal.sig) → Buf (Elt Ideal) ℓ) : Prop :=
  ∀ c : Dev Cert.BackRefIdeal.nD,
    (Cert.Pre_placed.fn (F := Ideal) (m ((c.tc : Thread Cert.BackRefIdeal.nD Cert.BackRefIdeal.τ).loc Cert.BackRefIdeal.main_arg0)) (m ((c.tc : Thread Cert.BackRefIdeal.nD Cert.BackRefIdeal.τ).loc Cert.BackRefIdeal.main_arg1))) = (fun _ => 1#1)

def Pre_LnB (m : (ℓ : Loc Cert.LnB.nD Cert.LnB.τ Cert.LnB.sig) → Buf (Elt Bits) ℓ) : Prop :=
  True

def Pre_LnBIdeal (m : (ℓ : Loc Cert.LnBIdeal.nD Cert.LnBIdeal.τ Cert.LnBIdeal.sig) → Buf (Elt Ideal) ℓ) : Prop :=
  True

def Pre_LnBRefIdeal (m : (ℓ : Loc Cert.LnBRefIdeal.nD Cert.LnBRefIdeal.τ Cert.LnBRefIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeIdeal_pre_tiled [hMoeIdeal : Cert.MoeIdeal.Facts] [hPre_tiled : Cert.Pre_tiled.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_tiled m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_MoeRefIdeal_pre_tiled [hMoeRefIdeal : Cert.MoeRefIdeal.Facts] [hPre_tiled : Cert.Pre_tiled.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tiled m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_LnA [hLnA : Cert.LnA.Facts] : Prop :=
  ∀ (m : (ℓ : Loc Cert.LnA.nD Cert.LnA.τ Cert.LnA.sig) → Buf (Elt Bits) ℓ) (g : Dev Cert.LnA.nD → PrngReg), Pre_LnA m →
    θ_run (Cert.LnA.defs (F := Bits)) (onTc (τ := Cert.LnA.τ) (Cert.LnA.main (F := Bits))) ⟨m, fun _ => 0, g⟩ (fun r => (∀ c : Dev Cert.LnA.nD,
      r.2.mem ((c.tc : Thread Cert.LnA.nD Cert.LnA.τ).loc Cert.LnA.main_arg0) = m ((c.tc : Thread Cert.LnA.nD Cert.LnA.τ).loc Cert.LnA.main_arg0)
      ∧ r.2.mem ((c.tc : Thread Cert.LnA.nD Cert.LnA.τ).loc Cert.LnA.main_arg1) = m ((c.tc : Thread Cert.LnA.nD Cert.LnA.τ).loc Cert.LnA.main_arg1)
      ∧ r.2.mem ((c.tc : Thread Cert.LnA.nD Cert.LnA.τ).loc Cert.LnA.main_arg2) = m ((c.tc : Thread Cert.LnA.nD Cert.LnA.τ).loc Cert.LnA.main_arg2)
      ∧ r.2.mem ((c.tc : Thread Cert.LnA.nD Cert.LnA.τ).loc Cert.LnA.main_arg3) = m ((c.tc : Thread Cert.LnA.nD Cert.LnA.τ).loc Cert.LnA.main_arg3)
      ∧ r.2.mem ((c.tc : Thread Cert.LnA.nD Cert.LnA.τ).loc Cert.LnA.main_arg4) = m ((c.tc : Thread Cert.LnA.nD Cert.LnA.τ).loc Cert.LnA.main_arg4)
      ∧ r.2.mem ((c.tc : Thread Cert.LnA.nD Cert.LnA.τ).loc Cert.LnA.main_arg5) = m ((c.tc : Thread Cert.LnA.nD Cert.LnA.τ).loc Cert.LnA.main_arg5)
      ∧ r.2.mem ((c.tc : Thread Cert.LnA.nD Cert.LnA.τ).loc Cert.LnA.main_arg6) = m ((c.tc : Thread Cert.LnA.nD Cert.LnA.τ).loc Cert.LnA.main_arg6)
      ∧ r.2.mem ((c.tc : Thread Cert.LnA.nD Cert.LnA.τ).loc Cert.LnA.main_arg7) = m ((c.tc : Thread Cert.LnA.nD Cert.LnA.τ).loc Cert.LnA.main_arg7)
      ∧ r.2.mem ((c.tc : Thread Cert.LnA.nD Cert.LnA.τ).loc Cert.LnA.main_arg8) = m ((c.tc : Thread Cert.LnA.nD Cert.LnA.τ).loc Cert.LnA.main_arg8))
      ∧ r.2.sem = fun _ => 0)

def quiescent_LnAIdeal [hLnAIdeal : Cert.LnAIdeal.Facts] : Prop :=
  ∀ (m : (ℓ : Loc Cert.LnAIdeal.nD Cert.LnAIdeal.τ Cert.LnAIdeal.sig) → Buf (Elt Ideal) ℓ) (g : Dev Cert.LnAIdeal.nD → PrngReg), Pre_LnAIdeal m →
    θ_run (Cert.LnAIdeal.defs (F := Ideal)) (onTc (τ := Cert.LnAIdeal.τ) (Cert.LnAIdeal.main (F := Ideal))) ⟨m, fun _ => 0, g⟩ (fun r => (∀ c : Dev Cert.LnAIdeal.nD,
      r.2.mem ((c.tc : Thread Cert.LnAIdeal.nD Cert.LnAIdeal.τ).loc Cert.LnAIdeal.main_arg0) = m ((c.tc : Thread Cert.LnAIdeal.nD Cert.LnAIdeal.τ).loc Cert.LnAIdeal.main_arg0)
      ∧ r.2.mem ((c.tc : Thread Cert.LnAIdeal.nD Cert.LnAIdeal.τ).loc Cert.LnAIdeal.main_arg1) = m ((c.tc : Thread Cert.LnAIdeal.nD Cert.LnAIdeal.τ).loc Cert.LnAIdeal.main_arg1)
      ∧ r.2.mem ((c.tc : Thread Cert.LnAIdeal.nD Cert.LnAIdeal.τ).loc Cert.LnAIdeal.main_arg2) = m ((c.tc : Thread Cert.LnAIdeal.nD Cert.LnAIdeal.τ).loc Cert.LnAIdeal.main_arg2)
      ∧ r.2.mem ((c.tc : Thread Cert.LnAIdeal.nD Cert.LnAIdeal.τ).loc Cert.LnAIdeal.main_arg3) = m ((c.tc : Thread Cert.LnAIdeal.nD Cert.LnAIdeal.τ).loc Cert.LnAIdeal.main_arg3)
      ∧ r.2.mem ((c.tc : Thread Cert.LnAIdeal.nD Cert.LnAIdeal.τ).loc Cert.LnAIdeal.main_arg4) = m ((c.tc : Thread Cert.LnAIdeal.nD Cert.LnAIdeal.τ).loc Cert.LnAIdeal.main_arg4)
      ∧ r.2.mem ((c.tc : Thread Cert.LnAIdeal.nD Cert.LnAIdeal.τ).loc Cert.LnAIdeal.main_arg5) = m ((c.tc : Thread Cert.LnAIdeal.nD Cert.LnAIdeal.τ).loc Cert.LnAIdeal.main_arg5)
      ∧ r.2.mem ((c.tc : Thread Cert.LnAIdeal.nD Cert.LnAIdeal.τ).loc Cert.LnAIdeal.main_arg6) = m ((c.tc : Thread Cert.LnAIdeal.nD Cert.LnAIdeal.τ).loc Cert.LnAIdeal.main_arg6)
      ∧ r.2.mem ((c.tc : Thread Cert.LnAIdeal.nD Cert.LnAIdeal.τ).loc Cert.LnAIdeal.main_arg7) = m ((c.tc : Thread Cert.LnAIdeal.nD Cert.LnAIdeal.τ).loc Cert.LnAIdeal.main_arg7)
      ∧ r.2.mem ((c.tc : Thread Cert.LnAIdeal.nD Cert.LnAIdeal.τ).loc Cert.LnAIdeal.main_arg8) = m ((c.tc : Thread Cert.LnAIdeal.nD Cert.LnAIdeal.τ).loc Cert.LnAIdeal.main_arg8))
      ∧ r.2.sem = fun _ => 0)

def quiescent_LnARefIdeal [hLnARefIdeal : Cert.LnARefIdeal.Facts] : Prop :=
  ∀ (m : (ℓ : Loc Cert.LnARefIdeal.nD Cert.LnARefIdeal.τ Cert.LnARefIdeal.sig) → Buf (Elt Ideal) ℓ) (g : Dev Cert.LnARefIdeal.nD → PrngReg), Pre_LnARefIdeal m →
    θ_run (Cert.LnARefIdeal.defs (F := Ideal)) (onTc (τ := Cert.LnARefIdeal.τ) (Cert.LnARefIdeal.main (F := Ideal))) ⟨m, fun _ => 0, g⟩ (fun r => (∀ c : Dev Cert.LnARefIdeal.nD,
      r.2.mem ((c.tc : Thread Cert.LnARefIdeal.nD Cert.LnARefIdeal.τ).loc Cert.LnARefIdeal.main_arg0) = m ((c.tc : Thread Cert.LnARefIdeal.nD Cert.LnARefIdeal.τ).loc Cert.LnARefIdeal.main_arg0)
      ∧ r.2.mem ((c.tc : Thread Cert.LnARefIdeal.nD Cert.LnARefIdeal.τ).loc Cert.LnARefIdeal.main_arg1) = m ((c.tc : Thread Cert.LnARefIdeal.nD Cert.LnARefIdeal.τ).loc Cert.LnARefIdeal.main_arg1)
      ∧ r.2.mem ((c.tc : Thread Cert.LnARefIdeal.nD Cert.LnARefIdeal.τ).loc Cert.LnARefIdeal.main_arg2) = m ((c.tc : Thread Cert.LnARefIdeal.nD Cert.LnARefIdeal.τ).loc Cert.LnARefIdeal.main_arg2)
      ∧ r.2.mem ((c.tc : Thread Cert.LnARefIdeal.nD Cert.LnARefIdeal.τ).loc Cert.LnARefIdeal.main_arg3) = m ((c.tc : Thread Cert.LnARefIdeal.nD Cert.LnARefIdeal.τ).loc Cert.LnARefIdeal.main_arg3)
      ∧ r.2.mem ((c.tc : Thread Cert.LnARefIdeal.nD Cert.LnARefIdeal.τ).loc Cert.LnARefIdeal.main_arg4) = m ((c.tc : Thread Cert.LnARefIdeal.nD Cert.LnARefIdeal.τ).loc Cert.LnARefIdeal.main_arg4)
      ∧ r.2.mem ((c.tc : Thread Cert.LnARefIdeal.nD Cert.LnARefIdeal.τ).loc Cert.LnARefIdeal.main_arg5) = m ((c.tc : Thread Cert.LnARefIdeal.nD Cert.LnARefIdeal.τ).loc Cert.LnARefIdeal.main_arg5)
      ∧ r.2.mem ((c.tc : Thread Cert.LnARefIdeal.nD Cert.LnARefIdeal.τ).loc Cert.LnARefIdeal.main_arg6) = m ((c.tc : Thread Cert.LnARefIdeal.nD Cert.LnARefIdeal.τ).loc Cert.LnARefIdeal.main_arg6)
      ∧ r.2.mem ((c.tc : Thread Cert.LnARefIdeal.nD Cert.LnARefIdeal.τ).loc Cert.LnARefIdeal.main_arg7) = m ((c.tc : Thread Cert.LnARefIdeal.nD Cert.LnARefIdeal.τ).loc Cert.LnARefIdeal.main_arg7)
      ∧ r.2.mem ((c.tc : Thread Cert.LnARefIdeal.nD Cert.LnARefIdeal.τ).loc Cert.LnARefIdeal.main_arg8) = m ((c.tc : Thread Cert.LnARefIdeal.nD Cert.LnARefIdeal.τ).loc Cert.LnARefIdeal.main_arg8))
      ∧ r.2.sem = fun _ => 0)

def quiescent_Pos [hPos : Cert.Pos.Facts] : Prop :=
  ∀ (m : (ℓ : Loc Cert.Pos.nD Cert.Pos.τ Cert.Pos.sig) → Buf (Elt Bits) ℓ) (g : Dev Cert.Pos.nD → PrngReg), Pre_Pos m →
    θ_run (Cert.Pos.defs (F := Bits)) (onTc (τ := Cert.Pos.τ) (Cert.Pos.main (F := Bits))) ⟨m, fun _ => 0, g⟩ (fun r => (∀ c : Dev Cert.Pos.nD,
      r.2.mem ((c.tc : Thread Cert.Pos.nD Cert.Pos.τ).loc Cert.Pos.main_arg0) = m ((c.tc : Thread Cert.Pos.nD Cert.Pos.τ).loc Cert.Pos.main_arg0))
      ∧ r.2.sem = fun _ => 0)

def quiescent_PosIdeal [hPosIdeal : Cert.PosIdeal.Facts] : Prop :=
  ∀ (m : (ℓ : Loc Cert.PosIdeal.nD Cert.PosIdeal.τ Cert.PosIdeal.sig) → Buf (Elt Ideal) ℓ) (g : Dev Cert.PosIdeal.nD → PrngReg), Pre_PosIdeal m →
    θ_run (Cert.PosIdeal.defs (F := Ideal)) (onTc (τ := Cert.PosIdeal.τ) (Cert.PosIdeal.main (F := Ideal))) ⟨m, fun _ => 0, g⟩ (fun r => (∀ c : Dev Cert.PosIdeal.nD,
      r.2.mem ((c.tc : Thread Cert.PosIdeal.nD Cert.PosIdeal.τ).loc Cert.PosIdeal.main_arg0) = m ((c.tc : Thread Cert.PosIdeal.nD Cert.PosIdeal.τ).loc Cert.PosIdeal.main_arg0))
      ∧ r.2.sem = fun _ => 0)

def quiescent_PosRefIdeal [hPosRefIdeal : Cert.PosRefIdeal.Facts] : Prop :=
  ∀ (m : (ℓ : Loc Cert.PosRefIdeal.nD Cert.PosRefIdeal.τ Cert.PosRefIdeal.sig) → Buf (Elt Ideal) ℓ) (g : Dev Cert.PosRefIdeal.nD → PrngReg), Pre_PosRefIdeal m →
    θ_run (Cert.PosRefIdeal.defs (F := Ideal)) (onTc (τ := Cert.PosRefIdeal.τ) (Cert.PosRefIdeal.main (F := Ideal))) ⟨m, fun _ => 0, g⟩ (fun r => (∀ c : Dev Cert.PosRefIdeal.nD,
      r.2.mem ((c.tc : Thread Cert.PosRefIdeal.nD Cert.PosRefIdeal.τ).loc Cert.PosRefIdeal.main_arg0) = m ((c.tc : Thread Cert.PosRefIdeal.nD Cert.PosRefIdeal.τ).loc Cert.PosRefIdeal.main_arg0))
      ∧ r.2.sem = fun _ => 0)

def quiescent_Back [hBack : Cert.Back.Facts] [hPre_placed : Cert.Pre_placed.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1))
      ∧ r.2.sem = fun _ => 0)

def quiescent_BackIdeal [hBackIdeal : Cert.BackIdeal.Facts] [hPre_placed : Cert.Pre_placed.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1))
      ∧ r.2.sem = fun _ => 0)

def quiescent_BackRefIdeal_pre_placed [hBackRefIdeal : Cert.BackRefIdeal.Facts] [hPre_placed : Cert.Pre_placed.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal_placed m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1))
      ∧ r.2.sem = fun _ => 0)

def quiescent_LnB [hLnB : Cert.LnB.Facts] : Prop :=
  ∀ (m : (ℓ : Loc Cert.LnB.nD Cert.LnB.τ Cert.LnB.sig) → Buf (Elt Bits) ℓ) (g : Dev Cert.LnB.nD → PrngReg), Pre_LnB m →
    θ_run (Cert.LnB.defs (F := Bits)) (onTc (τ := Cert.LnB.τ) (Cert.LnB.main (F := Bits))) ⟨m, fun _ => 0, g⟩ (fun r => (∀ c : Dev Cert.LnB.nD,
      r.2.mem ((c.tc : Thread Cert.LnB.nD Cert.LnB.τ).loc Cert.LnB.main_arg0) = m ((c.tc : Thread Cert.LnB.nD Cert.LnB.τ).loc Cert.LnB.main_arg0)
      ∧ r.2.mem ((c.tc : Thread Cert.LnB.nD Cert.LnB.τ).loc Cert.LnB.main_arg1) = m ((c.tc : Thread Cert.LnB.nD Cert.LnB.τ).loc Cert.LnB.main_arg1)
      ∧ r.2.mem ((c.tc : Thread Cert.LnB.nD Cert.LnB.τ).loc Cert.LnB.main_arg2) = m ((c.tc : Thread Cert.LnB.nD Cert.LnB.τ).loc Cert.LnB.main_arg2)
      ∧ r.2.mem ((c.tc : Thread Cert.LnB.nD Cert.LnB.τ).loc Cert.LnB.main_arg3) = m ((c.tc : Thread Cert.LnB.nD Cert.LnB.τ).loc Cert.LnB.main_arg3)
      ∧ r.2.mem ((c.tc : Thread Cert.LnB.nD Cert.LnB.τ).loc Cert.LnB.main_arg4) = m ((c.tc : Thread Cert.LnB.nD Cert.LnB.τ).loc Cert.LnB.main_arg4)
      ∧ r.2.mem ((c.tc : Thread Cert.LnB.nD Cert.LnB.τ).loc Cert.LnB.main_arg5) = m ((c.tc : Thread Cert.LnB.nD Cert.LnB.τ).loc Cert.LnB.main_arg5)
      ∧ r.2.mem ((c.tc : Thread Cert.LnB.nD Cert.LnB.τ).loc Cert.LnB.main_arg6) = m ((c.tc : Thread Cert.LnB.nD Cert.LnB.τ).loc Cert.LnB.main_arg6))
      ∧ r.2.sem = fun _ => 0)

def quiescent_LnBIdeal [hLnBIdeal : Cert.LnBIdeal.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
      ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3)
      ∧ r.2.mem ((c.tc : Thread Cert.LnBIdeal.nD Cert.LnBIdeal.τ).loc Cert.LnBIdeal.main_arg4) = m ((c.tc : Thread Cert.LnBIdeal.nD Cert.LnBIdeal.τ).loc Cert.LnBIdeal.main_arg4)
      ∧ r.2.mem ((c.tc : Thread Cert.LnBIdeal.nD Cert.LnBIdeal.τ).loc Cert.LnBIdeal.main_arg5) = m ((c.tc : Thread Cert.LnBIdeal.nD Cert.LnBIdeal.τ).loc Cert.LnBIdeal.main_arg5)
      ∧ r.2.mem ((c.tc : Thread Cert.LnBIdeal.nD Cert.LnBIdeal.τ).loc Cert.LnBIdeal.main_arg6) = m ((c.tc : Thread Cert.LnBIdeal.nD Cert.LnBIdeal.τ).loc Cert.LnBIdeal.main_arg6))
      ∧ r.2.sem = fun _ => 0)

def quiescent_LnBRefIdeal [hLnBRefIdeal : Cert.LnBRefIdeal.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2)
      ∧ r.2.mem ((c.tc : Thread Cert.LnBRefIdeal.nD Cert.LnBRefIdeal.τ).loc Cert.LnBRefIdeal.main_arg3) = m ((c.tc : Thread Cert.LnBRefIdeal.nD Cert.LnBRefIdeal.τ).loc Cert.LnBRefIdeal.main_arg3)
      ∧ r.2.mem ((c.tc : Thread Cert.LnBRefIdeal.nD Cert.LnBRefIdeal.τ).loc Cert.LnBRefIdeal.main_arg4) = m ((c.tc : Thread Cert.LnBRefIdeal.nD Cert.LnBRefIdeal.τ).loc Cert.LnBRefIdeal.main_arg4)
      ∧ r.2.mem ((c.tc : Thread Cert.LnBRefIdeal.nD Cert.LnBRefIdeal.τ).loc Cert.LnBRefIdeal.main_arg5) = m ((c.tc : Thread Cert.LnBRefIdeal.nD Cert.LnBRefIdeal.τ).loc Cert.LnBRefIdeal.main_arg5)
      ∧ r.2.mem ((c.tc : Thread Cert.LnBRefIdeal.nD Cert.LnBRefIdeal.τ).loc Cert.LnBRefIdeal.main_arg6) = m ((c.tc : Thread Cert.LnBRefIdeal.nD Cert.LnBRefIdeal.τ).loc Cert.LnBRefIdeal.main_arg6))
      ∧ r.2.sem = fun _ => 0)

def preserves_Moe_MoeIdeal : Prop :=
  True

def algebraic_MoeIdeal_MoeRefIdeal_pre_tiled [hMoeIdeal : Cert.MoeIdeal.Facts] [hMoeRefIdeal : Cert.MoeRefIdeal.Facts] [hPre_tiled : Cert.Pre_tiled.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_tiled m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v42) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v25_0)) (v1 : (c : Dev Cert.InIdeal.nD) → Buf (Elt Ideal) ((c.tc : Thread Cert.InIdeal.nD Cert.InIdeal.τ).loc Cert.InIdeal.main_v25_1)) (v2 : (c : Dev Cert.InIdeal.nD) → Buf (Elt Ideal) ((c.tc : Thread Cert.InIdeal.nD Cert.InIdeal.τ).loc Cert.InIdeal.main_v25_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v25_0) = v0 c
          ∧ r.2.mem ((c.tc : Thread Cert.InIdeal.nD Cert.InIdeal.τ).loc Cert.InIdeal.main_v25_1) = v1 c
          ∧ r.2.mem ((c.tc : Thread Cert.InIdeal.nD Cert.InIdeal.τ).loc Cert.InIdeal.main_v25_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v24) = v0 c
          ∧ r.2.mem ((c.tc : Thread Cert.InRefIdeal.nD Cert.InRefIdeal.τ).loc Cert.InRefIdeal.main_v23) = v1 c
          ∧ r.2.mem ((c.tc : Thread Cert.InRefIdeal.nD Cert.InRefIdeal.τ).loc Cert.InRefIdeal.main_v25) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v16) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v23) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_LnA_LnAIdeal : Prop :=
  True

def algebraic_LnAIdeal_LnARefIdeal [hLnAIdeal : Cert.LnAIdeal.Facts] [hLnARefIdeal : Cert.LnARefIdeal.Facts] : Prop :=
  ∀ (m : (ℓ : Loc Cert.LnAIdeal.nD Cert.LnAIdeal.τ Cert.LnAIdeal.sig) → Buf (Elt Ideal) ℓ) (g : Dev Cert.LnAIdeal.nD → PrngReg)
    (m' : (ℓ : Loc Cert.LnARefIdeal.nD Cert.LnARefIdeal.τ Cert.LnARefIdeal.sig) → Buf (Elt Ideal) ℓ) (g' : Dev Cert.LnARefIdeal.nD → PrngReg), Pre_LnAIdeal m →
    (∀ c : Dev Cert.LnAIdeal.nD,
      m' ((c.tc : Thread Cert.LnARefIdeal.nD Cert.LnARefIdeal.τ).loc Cert.LnARefIdeal.main_arg0) = m ((c.tc : Thread Cert.LnAIdeal.nD Cert.LnAIdeal.τ).loc Cert.LnAIdeal.main_arg0)
      ∧ m' ((c.tc : Thread Cert.LnARefIdeal.nD Cert.LnARefIdeal.τ).loc Cert.LnARefIdeal.main_arg1) = m ((c.tc : Thread Cert.LnAIdeal.nD Cert.LnAIdeal.τ).loc Cert.LnAIdeal.main_arg1)
      ∧ m' ((c.tc : Thread Cert.LnARefIdeal.nD Cert.LnARefIdeal.τ).loc Cert.LnARefIdeal.main_arg2) = m ((c.tc : Thread Cert.LnAIdeal.nD Cert.LnAIdeal.τ).loc Cert.LnAIdeal.main_arg2)
      ∧ m' ((c.tc : Thread Cert.LnARefIdeal.nD Cert.LnARefIdeal.τ).loc Cert.LnARefIdeal.main_arg3) = m ((c.tc : Thread Cert.LnAIdeal.nD Cert.LnAIdeal.τ).loc Cert.LnAIdeal.main_arg3)
      ∧ m' ((c.tc : Thread Cert.LnARefIdeal.nD Cert.LnARefIdeal.τ).loc Cert.LnARefIdeal.main_arg4) = m ((c.tc : Thread Cert.LnAIdeal.nD Cert.LnAIdeal.τ).loc Cert.LnAIdeal.main_arg4)
      ∧ m' ((c.tc : Thread Cert.LnARefIdeal.nD Cert.LnARefIdeal.τ).loc Cert.LnARefIdeal.main_arg5) = m ((c.tc : Thread Cert.LnAIdeal.nD Cert.LnAIdeal.τ).loc Cert.LnAIdeal.main_arg5)
      ∧ m' ((c.tc : Thread Cert.LnARefIdeal.nD Cert.LnARefIdeal.τ).loc Cert.LnARefIdeal.main_arg6) = m ((c.tc : Thread Cert.LnAIdeal.nD Cert.LnAIdeal.τ).loc Cert.LnAIdeal.main_arg6)
      ∧ m' ((c.tc : Thread Cert.LnARefIdeal.nD Cert.LnARefIdeal.τ).loc Cert.LnARefIdeal.main_arg7) = m ((c.tc : Thread Cert.LnAIdeal.nD Cert.LnAIdeal.τ).loc Cert.LnAIdeal.main_arg7)
      ∧ m' ((c.tc : Thread Cert.LnARefIdeal.nD Cert.LnARefIdeal.τ).loc Cert.LnARefIdeal.main_arg8) = m ((c.tc : Thread Cert.LnAIdeal.nD Cert.LnAIdeal.τ).loc Cert.LnAIdeal.main_arg8)) →
    ∃ (v0 : (c : Dev Cert.LnAIdeal.nD) → Buf (Elt Ideal) ((c.tc : Thread Cert.LnAIdeal.nD Cert.LnAIdeal.τ).loc Cert.LnAIdeal.main_v10_0)) (v1 : (c : Dev Cert.LnAIdeal.nD) → Buf (Elt Ideal) ((c.tc : Thread Cert.LnAIdeal.nD Cert.LnAIdeal.τ).loc Cert.LnAIdeal.main_v10_1)),
      θ_run (Cert.LnAIdeal.defs (F := Ideal)) (onTc (τ := Cert.LnAIdeal.τ) (Cert.LnAIdeal.main (F := Ideal))) ⟨m, fun _ => 0, g⟩ (fun r => ∀ c : Dev Cert.LnAIdeal.nD,
          r.2.mem ((c.tc : Thread Cert.LnAIdeal.nD Cert.LnAIdeal.τ).loc Cert.LnAIdeal.main_v10_0) = v0 c
          ∧ r.2.mem ((c.tc : Thread Cert.LnAIdeal.nD Cert.LnAIdeal.τ).loc Cert.LnAIdeal.main_v10_1) = v1 c
          ∧ r.2.mem ((c.tc : Thread Cert.LnAIdeal.nD Cert.LnAIdeal.τ).loc Cert.LnAIdeal.main_arg0) = m ((c.tc : Thread Cert.LnAIdeal.nD Cert.LnAIdeal.τ).loc Cert.LnAIdeal.main_arg0)
          ∧ r.2.mem ((c.tc : Thread Cert.LnAIdeal.nD Cert.LnAIdeal.τ).loc Cert.LnAIdeal.main_arg1) = m ((c.tc : Thread Cert.LnAIdeal.nD Cert.LnAIdeal.τ).loc Cert.LnAIdeal.main_arg1)
          ∧ r.2.mem ((c.tc : Thread Cert.LnAIdeal.nD Cert.LnAIdeal.τ).loc Cert.LnAIdeal.main_arg2) = m ((c.tc : Thread Cert.LnAIdeal.nD Cert.LnAIdeal.τ).loc Cert.LnAIdeal.main_arg2)
          ∧ r.2.mem ((c.tc : Thread Cert.LnAIdeal.nD Cert.LnAIdeal.τ).loc Cert.LnAIdeal.main_arg3) = m ((c.tc : Thread Cert.LnAIdeal.nD Cert.LnAIdeal.τ).loc Cert.LnAIdeal.main_arg3)
          ∧ r.2.mem ((c.tc : Thread Cert.LnAIdeal.nD Cert.LnAIdeal.τ).loc Cert.LnAIdeal.main_arg4) = m ((c.tc : Thread Cert.LnAIdeal.nD Cert.LnAIdeal.τ).loc Cert.LnAIdeal.main_arg4)
          ∧ r.2.mem ((c.tc : Thread Cert.LnAIdeal.nD Cert.LnAIdeal.τ).loc Cert.LnAIdeal.main_arg5) = m ((c.tc : Thread Cert.LnAIdeal.nD Cert.LnAIdeal.τ).loc Cert.LnAIdeal.main_arg5)
          ∧ r.2.mem ((c.tc : Thread Cert.LnAIdeal.nD Cert.LnAIdeal.τ).loc Cert.LnAIdeal.main_arg6) = m ((c.tc : Thread Cert.LnAIdeal.nD Cert.LnAIdeal.τ).loc Cert.LnAIdeal.main_arg6)
          ∧ r.2.mem ((c.tc : Thread Cert.LnAIdeal.nD Cert.LnAIdeal.τ).loc Cert.LnAIdeal.main_arg7) = m ((c.tc : Thread Cert.LnAIdeal.nD Cert.LnAIdeal.τ).loc Cert.LnAIdeal.main_arg7)
          ∧ r.2.mem ((c.tc : Thread Cert.LnAIdeal.nD Cert.LnAIdeal.τ).loc Cert.LnAIdeal.main_arg8) = m ((c.tc : Thread Cert.LnAIdeal.nD Cert.LnAIdeal.τ).loc Cert.LnAIdeal.main_arg8))
      ∧ θ_run (Cert.LnARefIdeal.defs (F := Ideal)) (onTc (τ := Cert.LnARefIdeal.τ) (Cert.LnARefIdeal.main (F := Ideal))) ⟨m', fun _ => 0, g'⟩ (fun r => ∀ c : Dev Cert.LnARefIdeal.nD,
          r.2.mem ((c.tc : Thread Cert.LnARefIdeal.nD Cert.LnARefIdeal.τ).loc Cert.LnARefIdeal.main_v112) = v0 c
          ∧ r.2.mem ((c.tc : Thread Cert.LnARefIdeal.nD Cert.LnARefIdeal.τ).loc Cert.LnARefIdeal.main_v113) = v1 c
          ∧ r.2.mem ((c.tc : Thread Cert.LnARefIdeal.nD Cert.LnARefIdeal.τ).loc Cert.LnARefIdeal.main_arg0) = m' ((c.tc : Thread Cert.LnARefIdeal.nD Cert.LnARefIdeal.τ).loc Cert.LnARefIdeal.main_arg0)
          ∧ r.2.mem ((c.tc : Thread Cert.LnARefIdeal.nD Cert.LnARefIdeal.τ).loc Cert.LnARefIdeal.main_arg1) = m' ((c.tc : Thread Cert.LnARefIdeal.nD Cert.LnARefIdeal.τ).loc Cert.LnARefIdeal.main_arg1)
          ∧ r.2.mem ((c.tc : Thread Cert.LnARefIdeal.nD Cert.LnARefIdeal.τ).loc Cert.LnARefIdeal.main_arg2) = m' ((c.tc : Thread Cert.LnARefIdeal.nD Cert.LnARefIdeal.τ).loc Cert.LnARefIdeal.main_arg2)
          ∧ r.2.mem ((c.tc : Thread Cert.LnARefIdeal.nD Cert.LnARefIdeal.τ).loc Cert.LnARefIdeal.main_arg3) = m' ((c.tc : Thread Cert.LnARefIdeal.nD Cert.LnARefIdeal.τ).loc Cert.LnARefIdeal.main_arg3)
          ∧ r.2.mem ((c.tc : Thread Cert.LnARefIdeal.nD Cert.LnARefIdeal.τ).loc Cert.LnARefIdeal.main_arg4) = m' ((c.tc : Thread Cert.LnARefIdeal.nD Cert.LnARefIdeal.τ).loc Cert.LnARefIdeal.main_arg4)
          ∧ r.2.mem ((c.tc : Thread Cert.LnARefIdeal.nD Cert.LnARefIdeal.τ).loc Cert.LnARefIdeal.main_arg5) = m' ((c.tc : Thread Cert.LnARefIdeal.nD Cert.LnARefIdeal.τ).loc Cert.LnARefIdeal.main_arg5)
          ∧ r.2.mem ((c.tc : Thread Cert.LnARefIdeal.nD Cert.LnARefIdeal.τ).loc Cert.LnARefIdeal.main_arg6) = m' ((c.tc : Thread Cert.LnARefIdeal.nD Cert.LnARefIdeal.τ).loc Cert.LnARefIdeal.main_arg6)
          ∧ r.2.mem ((c.tc : Thread Cert.LnARefIdeal.nD Cert.LnARefIdeal.τ).loc Cert.LnARefIdeal.main_arg7) = m' ((c.tc : Thread Cert.LnARefIdeal.nD Cert.LnARefIdeal.τ).loc Cert.LnARefIdeal.main_arg7)
          ∧ r.2.mem ((c.tc : Thread Cert.LnARefIdeal.nD Cert.LnARefIdeal.τ).loc Cert.LnARefIdeal.main_arg8) = m' ((c.tc : Thread Cert.LnARefIdeal.nD Cert.LnARefIdeal.τ).loc Cert.LnARefIdeal.main_arg8))

def preserves_Pos_PosIdeal : Prop :=
  True

def algebraic_PosIdeal_PosRefIdeal [hPosIdeal : Cert.PosIdeal.Facts] [hPosRefIdeal : Cert.PosRefIdeal.Facts] : Prop :=
  ∀ (m : (ℓ : Loc Cert.PosIdeal.nD Cert.PosIdeal.τ Cert.PosIdeal.sig) → Buf (Elt Ideal) ℓ) (g : Dev Cert.PosIdeal.nD → PrngReg)
    (m' : (ℓ : Loc Cert.PosRefIdeal.nD Cert.PosRefIdeal.τ Cert.PosRefIdeal.sig) → Buf (Elt Ideal) ℓ) (g' : Dev Cert.PosRefIdeal.nD → PrngReg), Pre_PosIdeal m →
    (∀ c : Dev Cert.PosIdeal.nD,
      m' ((c.tc : Thread Cert.PosRefIdeal.nD Cert.PosRefIdeal.τ).loc Cert.PosRefIdeal.main_arg0) = m ((c.tc : Thread Cert.PosIdeal.nD Cert.PosIdeal.τ).loc Cert.PosIdeal.main_arg0)) →
    ∃ (v0 : (c : Dev Cert.PosIdeal.nD) → Buf (Elt Ideal) ((c.tc : Thread Cert.PosIdeal.nD Cert.PosIdeal.τ).loc Cert.PosIdeal.main_v1_0)) (v1 : (c : Dev Cert.PosIdeal.nD) → Buf (Elt Ideal) ((c.tc : Thread Cert.PosIdeal.nD Cert.PosIdeal.τ).loc Cert.PosIdeal.main_v1_1)),
      θ_run (Cert.PosIdeal.defs (F := Ideal)) (onTc (τ := Cert.PosIdeal.τ) (Cert.PosIdeal.main (F := Ideal))) ⟨m, fun _ => 0, g⟩ (fun r => ∀ c : Dev Cert.PosIdeal.nD,
          r.2.mem ((c.tc : Thread Cert.PosIdeal.nD Cert.PosIdeal.τ).loc Cert.PosIdeal.main_v1_0) = v0 c
          ∧ r.2.mem ((c.tc : Thread Cert.PosIdeal.nD Cert.PosIdeal.τ).loc Cert.PosIdeal.main_v1_1) = v1 c
          ∧ r.2.mem ((c.tc : Thread Cert.PosIdeal.nD Cert.PosIdeal.τ).loc Cert.PosIdeal.main_arg0) = m ((c.tc : Thread Cert.PosIdeal.nD Cert.PosIdeal.τ).loc Cert.PosIdeal.main_arg0))
      ∧ θ_run (Cert.PosRefIdeal.defs (F := Ideal)) (onTc (τ := Cert.PosRefIdeal.τ) (Cert.PosRefIdeal.main (F := Ideal))) ⟨m', fun _ => 0, g'⟩ (fun r => ∀ c : Dev Cert.PosRefIdeal.nD,
          r.2.mem ((c.tc : Thread Cert.PosRefIdeal.nD Cert.PosRefIdeal.τ).loc Cert.PosRefIdeal.main_v47) = v0 c
          ∧ r.2.mem ((c.tc : Thread Cert.PosRefIdeal.nD Cert.PosRefIdeal.τ).loc Cert.PosRefIdeal.main_v49) = v1 c
          ∧ r.2.mem ((c.tc : Thread Cert.PosRefIdeal.nD Cert.PosRefIdeal.τ).loc Cert.PosRefIdeal.main_arg0) = m' ((c.tc : Thread Cert.PosRefIdeal.nD Cert.PosRefIdeal.τ).loc Cert.PosRefIdeal.main_arg0))

def preserves_Back_BackIdeal : Prop :=
  True

def algebraic_BackIdeal_BackRefIdeal [hBackIdeal : Cert.BackIdeal.Facts] [hBackRefIdeal : Cert.BackRefIdeal.Facts] [hPre_placed : Cert.Pre_placed.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)) →
    ∃ (v0 : (c : Dev Cert.BackIdeal.nD) → Buf (Elt Ideal) ((c.tc : Thread Cert.BackIdeal.nD Cert.BackIdeal.τ).loc Cert.BackIdeal.main_v0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v6) = v0 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1))

def preserves_LnB_LnBIdeal : Prop :=
  True

def algebraic_LnBIdeal_LnBRefIdeal [hLnBIdeal : Cert.LnBIdeal.Facts] [hLnBRefIdeal : Cert.LnBRefIdeal.Facts] : Prop :=
  ∀ (m : (ℓ : Loc Cert.LnBIdeal.nD Cert.LnBIdeal.τ Cert.LnBIdeal.sig) → Buf (Elt Ideal) ℓ) (g : Dev Cert.LnBIdeal.nD → PrngReg)
    (m' : (ℓ : Loc Cert.LnBRefIdeal.nD Cert.LnBRefIdeal.τ Cert.LnBRefIdeal.sig) → Buf (Elt Ideal) ℓ) (g' : Dev Cert.LnBRefIdeal.nD → PrngReg), Pre_LnBIdeal m →
    (∀ c : Dev Cert.LnBIdeal.nD,
      m' ((c.tc : Thread Cert.LnBRefIdeal.nD Cert.LnBRefIdeal.τ).loc Cert.LnBRefIdeal.main_arg0) = m ((c.tc : Thread Cert.LnBIdeal.nD Cert.LnBIdeal.τ).loc Cert.LnBIdeal.main_arg0)
      ∧ m' ((c.tc : Thread Cert.LnBRefIdeal.nD Cert.LnBRefIdeal.τ).loc Cert.LnBRefIdeal.main_arg1) = m ((c.tc : Thread Cert.LnBIdeal.nD Cert.LnBIdeal.τ).loc Cert.LnBIdeal.main_arg1)
      ∧ m' ((c.tc : Thread Cert.LnBRefIdeal.nD Cert.LnBRefIdeal.τ).loc Cert.LnBRefIdeal.main_arg2) = m ((c.tc : Thread Cert.LnBIdeal.nD Cert.LnBIdeal.τ).loc Cert.LnBIdeal.main_arg2)
      ∧ m' ((c.tc : Thread Cert.LnBRefIdeal.nD Cert.LnBRefIdeal.τ).loc Cert.LnBRefIdeal.main_arg3) = m ((c.tc : Thread Cert.LnBIdeal.nD Cert.LnBIdeal.τ).loc Cert.LnBIdeal.main_arg3)
      ∧ m' ((c.tc : Thread Cert.LnBRefIdeal.nD Cert.LnBRefIdeal.τ).loc Cert.LnBRefIdeal.main_arg4) = m ((c.tc : Thread Cert.LnBIdeal.nD Cert.LnBIdeal.τ).loc Cert.LnBIdeal.main_arg4)
      ∧ m' ((c.tc : Thread Cert.LnBRefIdeal.nD Cert.LnBRefIdeal.τ).loc Cert.LnBRefIdeal.main_arg5) = m ((c.tc : Thread Cert.LnBIdeal.nD Cert.LnBIdeal.τ).loc Cert.LnBIdeal.main_arg5)
      ∧ m' ((c.tc : Thread Cert.LnBRefIdeal.nD Cert.LnBRefIdeal.τ).loc Cert.LnBRefIdeal.main_arg6) = m ((c.tc : Thread Cert.LnBIdeal.nD Cert.LnBIdeal.τ).loc Cert.LnBIdeal.main_arg6)) →
    ∃ (v0 : (c : Dev Cert.LnBIdeal.nD) → Buf (Elt Ideal) ((c.tc : Thread Cert.LnBIdeal.nD Cert.LnBIdeal.τ).loc Cert.LnBIdeal.main_v4)),
      θ_run (Cert.LnBIdeal.defs (F := Ideal)) (onTc (τ := Cert.LnBIdeal.τ) (Cert.LnBIdeal.main (F := Ideal))) ⟨m, fun _ => 0, g⟩ (fun r => ∀ c : Dev Cert.LnBIdeal.nD,
          r.2.mem ((c.tc : Thread Cert.LnBIdeal.nD Cert.LnBIdeal.τ).loc Cert.LnBIdeal.main_v4) = v0 c
          ∧ r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
          ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
          ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2)
          ∧ r.2.mem ((c.tc : Thread Cert.LnBIdeal.nD Cert.LnBIdeal.τ).loc Cert.LnBIdeal.main_arg3) = m ((c.tc : Thread Cert.LnBIdeal.nD Cert.LnBIdeal.τ).loc Cert.LnBIdeal.main_arg3)
          ∧ r.2.mem ((c.tc : Thread Cert.LnBIdeal.nD Cert.LnBIdeal.τ).loc Cert.LnBIdeal.main_arg4) = m ((c.tc : Thread Cert.LnBIdeal.nD Cert.LnBIdeal.τ).loc Cert.LnBIdeal.main_arg4)
          ∧ r.2.mem ((c.tc : Thread Cert.LnBIdeal.nD Cert.LnBIdeal.τ).loc Cert.LnBIdeal.main_arg5) = m ((c.tc : Thread Cert.LnBIdeal.nD Cert.LnBIdeal.τ).loc Cert.LnBIdeal.main_arg5)
          ∧ r.2.mem ((c.tc : Thread Cert.LnBIdeal.nD Cert.LnBIdeal.τ).loc Cert.LnBIdeal.main_arg6) = m ((c.tc : Thread Cert.LnBIdeal.nD Cert.LnBIdeal.τ).loc Cert.LnBIdeal.main_arg6))
      ∧ θ_run (Cert.LnBRefIdeal.defs (F := Ideal)) (onTc (τ := Cert.LnBRefIdeal.τ) (Cert.LnBRefIdeal.main (F := Ideal))) ⟨m', fun _ => 0, g'⟩ (fun r => ∀ c : Dev Cert.LnBRefIdeal.nD,
          r.2.mem ((c.tc : Thread Cert.LnBRefIdeal.nD Cert.LnBRefIdeal.τ).loc Cert.LnBRefIdeal.main_v37) = v0 c
          ∧ r.2.mem ((c.tc : Thread Cert.LnBRefIdeal.nD Cert.LnBRefIdeal.τ).loc Cert.LnBRefIdeal.main_arg0) = m' ((c.tc : Thread Cert.LnBRefIdeal.nD Cert.LnBRefIdeal.τ).loc Cert.LnBRefIdeal.main_arg0)
          ∧ r.2.mem ((c.tc : Thread Cert.LnBRefIdeal.nD Cert.LnBRefIdeal.τ).loc Cert.LnBRefIdeal.main_arg1) = m' ((c.tc : Thread Cert.LnBRefIdeal.nD Cert.LnBRefIdeal.τ).loc Cert.LnBRefIdeal.main_arg1)
          ∧ r.2.mem ((c.tc : Thread Cert.LnBRefIdeal.nD Cert.LnBRefIdeal.τ).loc Cert.LnBRefIdeal.main_arg2) = m' ((c.tc : Thread Cert.LnBRefIdeal.nD Cert.LnBRefIdeal.τ).loc Cert.LnBRefIdeal.main_arg2)
          ∧ r.2.mem ((c.tc : Thread Cert.LnBRefIdeal.nD Cert.LnBRefIdeal.τ).loc Cert.LnBRefIdeal.main_arg3) = m' ((c.tc : Thread Cert.LnBRefIdeal.nD Cert.LnBRefIdeal.τ).loc Cert.LnBRefIdeal.main_arg3)
          ∧ r.2.mem ((c.tc : Thread Cert.LnBRefIdeal.nD Cert.LnBRefIdeal.τ).loc Cert.LnBRefIdeal.main_arg4) = m' ((c.tc : Thread Cert.LnBRefIdeal.nD Cert.LnBRefIdeal.τ).loc Cert.LnBRefIdeal.main_arg4)
          ∧ r.2.mem ((c.tc : Thread Cert.LnBRefIdeal.nD Cert.LnBRefIdeal.τ).loc Cert.LnBRefIdeal.main_arg5) = m' ((c.tc : Thread Cert.LnBRefIdeal.nD Cert.LnBRefIdeal.τ).loc Cert.LnBRefIdeal.main_arg5)
          ∧ r.2.mem ((c.tc : Thread Cert.LnBRefIdeal.nD Cert.LnBRefIdeal.τ).loc Cert.LnBRefIdeal.main_arg6) = m' ((c.tc : Thread Cert.LnBRefIdeal.nD Cert.LnBRefIdeal.τ).loc Cert.LnBRefIdeal.main_arg6))

def Claim : Prop :=
  ∃ (hMoe : Cert.Moe.Facts) (hMoeIdeal : Cert.MoeIdeal.Facts) (hMoeRefIdeal : Cert.MoeRefIdeal.Facts) (hIn : Cert.In.Facts) (hInIdeal : Cert.InIdeal.Facts) (hInRefIdeal : Cert.InRefIdeal.Facts) (hKv : Cert.Kv.Facts) (hKvIdeal : Cert.KvIdeal.Facts) (hKvRefIdeal : Cert.KvRefIdeal.Facts) (hMix : Cert.Mix.Facts) (hMixIdeal : Cert.MixIdeal.Facts) (hMixRefIdeal : Cert.MixRefIdeal.Facts) (hLnA : Cert.LnA.Facts) (hLnAIdeal : Cert.LnAIdeal.Facts) (hLnARefIdeal : Cert.LnARefIdeal.Facts) (hPos : Cert.Pos.Facts) (hPosIdeal : Cert.PosIdeal.Facts) (hPosRefIdeal : Cert.PosRefIdeal.Facts) (hBack : Cert.Back.Facts) (hBackIdeal : Cert.BackIdeal.Facts) (hBackRefIdeal : Cert.BackRefIdeal.Facts) (hLnB : Cert.LnB.Facts) (hLnBIdeal : Cert.LnBIdeal.Facts) (hLnBRefIdeal : Cert.LnBRefIdeal.Facts) (hPre_tiled : Cert.Pre_tiled.Facts) (hPre_placed : Cert.Pre_placed.Facts),
    quiescent_Moe (hMoe := hMoe)
    ∧ quiescent_MoeIdeal (hMoeIdeal := hMoeIdeal)
    ∧ quiescent_MoeIdeal_pre_tiled (hMoeIdeal := hMoeIdeal) (hPre_tiled := hPre_tiled)
    ∧ quiescent_MoeRefIdeal (hMoeRefIdeal := hMoeRefIdeal)
    ∧ quiescent_MoeRefIdeal_pre_tiled (hMoeRefIdeal := hMoeRefIdeal) (hPre_tiled := hPre_tiled)
    ∧ quiescent_In (hIn := hIn)
    ∧ quiescent_InIdeal (hInIdeal := hInIdeal)
    ∧ quiescent_InRefIdeal (hInRefIdeal := hInRefIdeal)
    ∧ quiescent_Kv (hKv := hKv)
    ∧ quiescent_KvIdeal (hKvIdeal := hKvIdeal)
    ∧ quiescent_KvRefIdeal (hKvRefIdeal := hKvRefIdeal)
    ∧ quiescent_Mix (hMix := hMix)
    ∧ quiescent_MixIdeal (hMixIdeal := hMixIdeal)
    ∧ quiescent_MixRefIdeal (hMixRefIdeal := hMixRefIdeal)
    ∧ quiescent_LnA (hLnA := hLnA)
    ∧ quiescent_LnAIdeal (hLnAIdeal := hLnAIdeal)
    ∧ quiescent_LnARefIdeal (hLnARefIdeal := hLnARefIdeal)
    ∧ quiescent_Pos (hPos := hPos)
    ∧ quiescent_PosIdeal (hPosIdeal := hPosIdeal)
    ∧ quiescent_PosRefIdeal (hPosRefIdeal := hPosRefIdeal)
    ∧ quiescent_Back (hBack := hBack) (hPre_placed := hPre_placed)
    ∧ quiescent_BackIdeal (hBackIdeal := hBackIdeal) (hPre_placed := hPre_placed)
    ∧ quiescent_BackRefIdeal (hBackRefIdeal := hBackRefIdeal)
    ∧ quiescent_BackRefIdeal_pre_placed (hBackRefIdeal := hBackRefIdeal) (hPre_placed := hPre_placed)
    ∧ quiescent_LnB (hLnB := hLnB)
    ∧ quiescent_LnBIdeal (hLnBIdeal := hLnBIdeal)
    ∧ quiescent_LnBRefIdeal (hLnBRefIdeal := hLnBRefIdeal)
    ∧ preserves_Moe_MoeIdeal
    ∧ algebraic_MoeIdeal_MoeRefIdeal_pre_tiled (hMoeIdeal := hMoeIdeal) (hMoeRefIdeal := hMoeRefIdeal) (hPre_tiled := hPre_tiled)
    ∧ preserves_In_InIdeal
    ∧ algebraic_InIdeal_InRefIdeal (hInIdeal := hInIdeal) (hInRefIdeal := hInRefIdeal)
    ∧ preserves_Kv_KvIdeal
    ∧ algebraic_KvIdeal_KvRefIdeal (hKvIdeal := hKvIdeal) (hKvRefIdeal := hKvRefIdeal)
    ∧ preserves_Mix_MixIdeal
    ∧ algebraic_MixIdeal_MixRefIdeal (hMixIdeal := hMixIdeal) (hMixRefIdeal := hMixRefIdeal)
    ∧ preserves_LnA_LnAIdeal
    ∧ algebraic_LnAIdeal_LnARefIdeal (hLnAIdeal := hLnAIdeal) (hLnARefIdeal := hLnARefIdeal)
    ∧ preserves_Pos_PosIdeal
    ∧ algebraic_PosIdeal_PosRefIdeal (hPosIdeal := hPosIdeal) (hPosRefIdeal := hPosRefIdeal)
    ∧ preserves_Back_BackIdeal
    ∧ algebraic_BackIdeal_BackRefIdeal (hBackIdeal := hBackIdeal) (hBackRefIdeal := hBackRefIdeal) (hPre_placed := hPre_placed)
    ∧ preserves_LnB_LnBIdeal
    ∧ algebraic_LnBIdeal_LnBRefIdeal (hLnBIdeal := hLnBIdeal) (hLnBRefIdeal := hLnBRefIdeal)
-- ==== Pre_placed.lean ====
abbrev S16384 : Shape := ⟨1, ![16384]⟩
abbrev S18432x2048 : Shape := ⟨2, ![18432, 2048]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S18432x2048 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 18432#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_tiled.lean ====
abbrev S128 : Shape := ⟨1, ![128]⟩
abbrev S18432x2176 : Shape := ⟨2, ![18432, 2176]⟩
abbrev S16x2048x512 : Shape := ⟨3, ![16, 2048, 512]⟩
abbrev S16x512x2048 : Shape := ⟨3, ![16, 512, 2048]⟩
abbrev S1 : Shape := ⟨1, ![1]⟩
abbrev S_ : Shape := ⟨0, ![]⟩

class Facts : Prop where
  slices_S128_S1_1 : S128.Slices ![1] S1
  shapeCasts_S1_S_ : S1.ShapeCasts S_
  slices_S128_S1_2 : S128.Slices ![2] S1
  slices_S128_S1_3 : S128.Slices ![3] S1
  slices_S128_S1_8 : S128.Slices ![8] S1

variable [Facts]

def fn_part1 {F : FTy → Type} [FloatOps F] (main_v13 : IVec S_ 1) (main_v16 : IVec S_ 32) : IVec S_ 1 :=
  let main_c_6 : IVec S_ 32 := constantI S_ 32 0#32
  let main_v17 : IVec S_ 1 := cmpi .eq main_v16 main_c_6
  let main_v18 : IVec S_ 1 := andi main_v13 main_v17
  main_v18

def fn {F : FTy → Type} [FloatOps F] (main_arg0 : IVec S128 32) (main_arg1 : FVec F S18432x2176 .f32) (main_arg2 : FVec F S16x2048x512 .f32) (main_arg3 : FVec F S16x2048x512 .f32) (main_arg4 : FVec F S16x512x2048 .f32) : IVec S_ 1 :=
  let main_v0 : IVec S1 32 := (extractStridedSlice S1 ![1] · slices_S128_S1_1) main_arg0
  let main_v1 : IVec S_ 32 := shapeCast S_ main_v0 shapeCasts_S1_S_
  let main_c : IVec S_ 32 := constantI S_ 32 511#32
  let main_v2 : IVec S_ 32 := andi main_v1 main_c
  let main_c_0 : IVec S_ 32 := constantI S_ 32 0#32
  let main_v3 : IVec S_ 1 := cmpi .eq main_v2 main_c_0
  let main_v4 : IVec S1 32 := (extractStridedSlice S1 ![2] · slices_S128_S1_2) main_arg0
  let main_v5 : IVec S_ 32 := shapeCast S_ main_v4 shapeCasts_S1_S_
  let main_c_1 : IVec S_ 32 := constantI S_ 32 511#32
  let main_v6 : IVec S_ 32 := andi main_v5 main_c_1
  let main_c_2 : IVec S_ 32 := constantI S_ 32 0#32
  let main_v7 : IVec S_ 1 := cmpi .eq main_v6 main_c_2
  let main_v8 : IVec S_ 1 := andi main_v3 main_v7
  let main_v9 : IVec S1 32 := (extractStridedSlice S1 ![3] · slices_S128_S1_3) main_arg0
  let main_v10 : IVec S_ 32 := shapeCast S_ main_v9 shapeCasts_S1_S_
  let main_c_3 : IVec S_ 32 := constantI S_ 32 511#32
  let main_v11 : IVec S_ 32 := andi main_v10 main_c_3
  let main_c_4 : IVec S_ 32 := constantI S_ 32 0#32
  let main_v12 : IVec S_ 1 := cmpi .eq main_v11 main_c_4
  let main_v13 : IVec S_ 1 := andi main_v8 main_v12
  let main_v14 : IVec S1 32 := (extractStridedSlice S1 ![8] · slices_S128_S1_8) main_arg0
  let main_v15 : IVec S_ 32 := shapeCast S_ main_v14 shapeCasts_S1_S_
  let main_c_5 : IVec S_ 32 := constantI S_ 32 511#32
  let main_v16 : IVec S_ 32 := andi main_v15 main_c_5
  fn_part1 (F := F) main_v13 main_v16
-- ==== Moe.lean ====
abbrev S128 : Shape := ⟨1, ![128]⟩
abbrev S18432x2176 : Shape := ⟨2, ![18432, 2176]⟩
abbrev S16x2048x512 : Shape := ⟨3, ![16, 2048, 512]⟩
abbrev S16x512x2048 : Shape := ⟨3, ![16, 512, 2048]⟩
abbrev S18432x2048 : Shape := ⟨2, ![18432, 2048]⟩
abbrev S512x2176 : Shape := ⟨2, ![512, 2176]⟩
abbrev S1 : Shape := ⟨1, ![1]⟩
abbrev S1x2048x512 : Shape := ⟨3, ![1, 2048, 512]⟩
abbrev S1x512x2048 : Shape := ⟨3, ![1, 512, 2048]⟩
abbrev S512x2048 : Shape := ⟨2, ![512, 2048]⟩
abbrev S2048x512 : Shape := ⟨2, ![2048, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 11
  | .smem => 1
  | _ => 0

abbrev bufTy : (tb : Table) → Fin (tcTables nBuf tb) → BufTy
  | .hbm, ⟨0, _⟩ => ⟨S18432x2176, .f32⟩
  | .hbm, ⟨1, _⟩ => ⟨S16x2048x512, .f32⟩
  | .hbm, ⟨2, _⟩ => ⟨S16x2048x512, .f32⟩
  | .hbm, ⟨3, _⟩ => ⟨S16x512x2048, .f32⟩
  | .hbm, ⟨4, _⟩ => ⟨S16x2048x512, .bf16⟩
  | .hbm, ⟨5, _⟩ => ⟨S16x2048x512, .bf16⟩
  | .hbm, ⟨6, _⟩ => ⟨S16x512x2048, .bf16⟩
  | .hbm, ⟨7, _⟩ => ⟨S18432x2048, .f32⟩
  | .local _ .vmem, ⟨0, _⟩ => ⟨S512x2176, .f32⟩
  | .local _ .vmem, ⟨1, _⟩ => ⟨S512x2176, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S128, .i32⟩
  | _, _ => ⟨S18432x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![36, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) (v1 : BitVec 32) : BitVec 1 :=
  let arg0 : BitVec 32 := BitVec.ofNat 32 (i 0).val
  let c512_i32 : BitVec 32 := 512#32
  let v0 : BitVec 32 := Scalar.muli arg0 c512_i32
  let v2 : BitVec 1 := Scalar.cmpi .slt v0 v1
  let v_true : BitVec 1 := 1#1
  let v7 : BitVec 1 := Scalar.xori v2 v_true
  let arg1 : BitVec 32 := BitVec.ofNat 32 (i 1).val
  let c0_i32_1 : BitVec 32 := 0#32
  let v8 : BitVec 1 := Scalar.cmpi .eq arg1 c0_i32_1
  let v9 : BitVec 1 := Scalar.andi v7 v8
  let v10 : BitVec 32 := Scalar.extui v9
  let c0_i32_2 : BitVec 32 := 0#32
  let v11 : BitVec 1 := Scalar.cmpi .ne v10 c0_i32_2
  v11

def k0_cond3 (i : grid0.Coords) (v1 : BitVec 32) : BitVec 1 :=
  let arg0 : BitVec 32 := BitVec.ofNat 32 (i 0).val
  let c512_i32 : BitVec 32 := 512#32
  let v0 : BitVec 32 := Scalar.muli arg0 c512_i32
  let v2 : BitVec 1 := Scalar.cmpi .slt v0 v1
  let v12 : BitVec 32 := Scalar.extui v2
  let c0_i32_3 : BitVec 32 := 0#32
  let v13 : BitVec 1 := Scalar.cmpi .ne v12 c0_i32_3
  v13

def k0_cond4 (i : grid0.Coords) : BitVec 1 :=
  let arg1 : BitVec 32 := BitVec.ofNat 32 (i 1).val
  let c0_i32_19 : BitVec 32 := 0#32
  let v38 : BitVec 1 := Scalar.cmpi .eq arg1 c0_i32_19
  let v39 : BitVec 32 := Scalar.extui v38
  let c0_i32_20 : BitVec 32 := 0#32
  let v40 : BitVec 1 := Scalar.cmpi .ne v39 c0_i32_20
  v40

def k0_cond5 (i : grid0.Coords) : BitVec 1 :=
  let arg1 : BitVec 32 := BitVec.ofNat 32 (i 1).val
  let c0_i32_21 : BitVec 32 := 0#32
  let v41 : BitVec 1 := Scalar.cmpi .sgt arg1 c0_i32_21
  let v42 : BitVec 32 := Scalar.extui v41
  let c0_i32_22 : BitVec 32 := 0#32
  let v43 : BitVec 1 := Scalar.cmpi .ne v42 c0_i32_22
  v43

def cc0_transform_0 (inb_S128_S1_8 : ∀ a, (![8] : Fin 1 → Nat) a + S1.size a ≤ S128.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8 : Index := 8#32
  let v0 : BitVec 32 := pf.at 0 (Rect.unit (s := S128) ![8] S1.size inb_S128_S1_8) numel1_S1
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let v20 : BitVec 32 := Scalar.minsi arg0 v19
  let c0_i32_6 : BitVec 32 := 0#32
  let c0_i32_7 : BitVec 32 := 0#32
  ![v20.toNat, c0_i32_6.toNat]

def cc0_transform_1 (inb_S128_S1_8 : ∀ a, (![8] : Fin 1 → Nat) a + S1.size a ≤ S128.size a) (numel1_S1 : S1.numel = 1) (inb_S128_S1_1 : ∀ a, (![1] : Fin 1 → Nat) a + S1.size a ≤ S128.size a) (inb_S128_S1_2 : ∀ a, (![2] : Fin 1 → Nat) a + S1.size a ≤ S128.size a) (inb_S128_S1_3 : ∀ a, (![3] : Fin 1 → Nat) a + S1.size a ≤ S128.size a) (pf : pre0.Contents (Elt F)) (i : grid0.Coords) : Fin 3 → Nat :=
  let arg0 : BitVec 32 := BitVec.ofNat 32 (i 0).val
  let arg1 : BitVec 32 := BitVec.ofNat 32 (i 1).val
  let c8 : Index := 8#32
  let v0 : BitVec 32 := pf.at 0 (Rect.unit (s := S128) ![8] S1.size inb_S128_S1_8) numel1_S1
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let v20 : BitVec 32 := Scalar.minsi arg0 v19
  let c512_i32_6 : BitVec 32 := 512#32
  let v21 : BitVec 32 := Scalar.muli v20 c512_i32_6
  let c1 : Index := 1#32
  let v22 : BitVec 32 := pf.at 0 (Rect.unit (s := S128) ![1] S1.size inb_S128_S1_1) numel1_S1
  let v23 : BitVec 1 := Scalar.cmpi .sge v21 v22
  let v24 : BitVec 32 := Scalar.extui v23
  let c0_i32_7 : BitVec 32 := 0#32
  let v25 : BitVec 32 := Scalar.addi c0_i32_7 v24
  let c2 : Index := 2#32
  let v26 : BitVec 32 := pf.at 0 (Rect.unit (s := S128) ![2] S1.size inb_S128_S1_2) numel1_S1
  let v27 : BitVec 1 := Scalar.cmpi .sge v21 v26
  let v28 : BitVec 32 := Scalar.extui v27
  let v29 : BitVec 32 := Scalar.addi v25 v28
  let c3 : Index := 3#32
  let v30 : BitVec 32 := pf.at 0 (Rect.unit (s := S128) ![3] S1.size inb_S128_S1_3) numel1_S1
  let v31 : BitVec 1 := Scalar.cmpi .sge v21 v30
  let v32 : BitVec 32 := Scalar.extui v31
  let v33 : BitVec 32 := Scalar.addi v29 v32
  let c4_i32 : BitVec 32 := 4#32
  let v34 : BitVec 32 := Scalar.muli v33 c4_i32
  let v35 : BitVec 32 := Scalar.addi v34 arg1
  let c0_i32_8 : BitVec 32 := 0#32
  let c0_i32_9 : BitVec 32 := 0#32
  let c0_i32_10 : BitVec 32 := 0#32
  ![v35.toNat, c0_i32_8.toNat, c0_i32_9.toNat]

def cc0_transform_2 (inb_S128_S1_8 : ∀ a, (![8] : Fin 1 → Nat) a + S1.size a ≤ S128.size a) (numel1_S1 : S1.numel = 1) (inb_S128_S1_1 : ∀ a, (![1] : Fin 1 → Nat) a + S1.size a ≤ S128.size a) (inb_S128_S1_2 : ∀ a, (![2] : Fin 1 → Nat) a + S1.size a ≤ S128.size a) (inb_S128_S1_3 : ∀ a, (![3] : Fin 1 → Nat) a + S1.size a ≤ S128.size a) (pf : pre0.Contents (Elt F)) (i : grid0.Coords) : Fin 3 → Nat :=
  let arg0 : BitVec 32 := BitVec.ofNat 32 (i 0).val
  let arg1 : BitVec 32 := BitVec.ofNat 32 (i 1).val
  let c8 : Index := 8#32
  let v0 : BitVec 32 := pf.at 0 (Rect.unit (s := S128) ![8] S1.size inb_S128_S1_8) numel1_S1
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let v20 : BitVec 32 := Scalar.minsi arg0 v19
  let c512_i32_6 : BitVec 32 := 512#32
  let v21 : BitVec 32 := Scalar.muli v20 c512_i32_6
  let c1 : Index := 1#32
  let v22 : BitVec 32 := pf.at 0 (Rect.unit (s := S128) ![1] S1.size inb_S128_S1_1) numel1_S1
  let v23 : BitVec 1 := Scalar.cmpi .sge v21 v22
  let v24 : BitVec 32 := Scalar.extui v23
  let c0_i32_7 : BitVec 32 := 0#32
  let v25 : BitVec 32 := Scalar.addi c0_i32_7 v24
  let c2 : Index := 2#32
  let v26 : BitVec 32 := pf.at 0 (Rect.unit (s := S128) ![2] S1.size inb_S128_S1_2) numel1_S1
  let v27 : BitVec 1 := Scalar.cmpi .sge v21 v26
  let v28 : BitVec 32 := Scalar.extui v27
  let v29 : BitVec 32 := Scalar.addi v25 v28
  let c3 : Index := 3#32
  let v30 : BitVec 32 := pf.at 0 (Rect.unit (s := S128) ![3] S1.size inb_S128_S1_3) numel1_S1
  let v31 : BitVec 1 := Scalar.cmpi .sge v21 v30
  let v32 : BitVec 32 := Scalar.extui v31
  let v33 : BitVec 32 := Scalar.addi v29 v32
  let c4_i32 : BitVec 32 := 4#32
  let v34 : BitVec 32 := Scalar.muli v33 c4_i32
  let v35 : BitVec 32 := Scalar.addi v34 arg1
  let c0_i32_8 : BitVec 32 := 0#32
  let c0_i32_9 : BitVec 32 := 0#32
  let c0_i32_10 : BitVec 32 := 0#32
  ![v35.toNat, c0_i32_8.toNat, c0_i32_9.toNat]

def cc0_transform_3 (inb_S128_S1_8 : ∀ a, (![8] : Fin 1 → Nat) a + S1.size a ≤ S128.size a) (numel1_S1 : S1.numel = 1) (inb_S128_S1_1 : ∀ a, (![1] : Fin 1 → Nat) a + S1.size a ≤ S128.size a) (inb_S128_S1_2 : ∀ a, (![2] : Fin 1 → Nat) a + S1.size a ≤ S128.size a) (inb_S128_S1_3 : ∀ a, (![3] : Fin 1 → Nat) a + S1.size a ≤ S128.size a) (pf : pre0.Contents (Elt F)) (i : grid0.Coords) : Fin 3 → Nat :=
  let arg0 : BitVec 32 := BitVec.ofNat 32 (i 0).val
  let arg1 : BitVec 32 := BitVec.ofNat 32 (i 1).val
  let c8 : Index := 8#32
  let v0 : BitVec 32 := pf.at 0 (Rect.unit (s := S128) ![8] S1.size inb_S128_S1_8) numel1_S1
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let v20 : BitVec 32 := Scalar.minsi arg0 v19
  let c512_i32_6 : BitVec 32 := 512#32
  let v21 : BitVec 32 := Scalar.muli v20 c512_i32_6
  let c1 : Index := 1#32
  let v22 : BitVec 32 := pf.at 0 (Rect.unit (s := S128) ![1] S1.size inb_S128_S1_1) numel1_S1
  let v23 : BitVec 1 := Scalar.cmpi .sge v21 v22
  let v24 : BitVec 32 := Scalar.extui v23
  let c0_i32_7 : BitVec 32 := 0#32
  let v25 : BitVec 32 := Scalar.addi c0_i32_7 v24
  let c2 : Index := 2#32
  let v26 : BitVec 32 := pf.at 0 (Rect.unit (s := S128) ![2] S1.size inb_S128_S1_2) numel1_S1
  let v27 : BitVec 1 := Scalar.cmpi .sge v21 v26
  let v28 : BitVec 32 := Scalar.extui v27
  let v29 : BitVec 32 := Scalar.addi v25 v28
  let c3 : Index := 3#32
  let v30 : BitVec 32 := pf.at 0 (Rect.unit (s := S128) ![3] S1.size inb_S128_S1_3) numel1_S1
  let v31 : BitVec 1 := Scalar.cmpi .sge v21 v30
  let v32 : BitVec 32 := Scalar.extui v31
  let v33 : BitVec 32 := Scalar.addi v29 v32
  let c4_i32 : BitVec 32 := 4#32
  let v34 : BitVec 32 := Scalar.muli v33 c4_i32
  let v35 : BitVec 32 := Scalar.addi v34 arg1
  let c0_i32_8 : BitVec 32 := 0#32
  let c0_i32_9 : BitVec 32 := 0#32
  let c0_i32_10 : BitVec 32 := 0#32
  ![v35.toNat, c0_i32_8.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S128 : Shape := ⟨1, ![128]⟩
abbrev S18432x2176 : Shape := ⟨2, ![18432, 2176]⟩
abbrev S16x2048x512 : Shape := ⟨3, ![16, 2048, 512]⟩
abbrev S16x512x2048 : Shape := ⟨3, ![16, 512, 2048]⟩
abbrev S18432x2048 : Shape := ⟨2, ![18432, 2048]⟩
abbrev S18432x4 : Shape := ⟨2, ![18432, 4]⟩
abbrev S18432 : Shape := ⟨1, ![18432]⟩
abbrev S1 : Shape := ⟨1, ![1]⟩
abbrev S_ : Shape := ⟨0, ![]⟩
abbrev S18432x1 : Shape := ⟨2, ![18432, 1]⟩
abbrev S18432x4x1 : Shape := ⟨3, ![18432, 4, 1]⟩
abbrev S18432x1x4 : Shape := ⟨3, ![18432, 1, 4]⟩
abbrev S18432x4x4 : Shape := ⟨3, ![18432, 4, 4]⟩
abbrev S18432x16 : Shape := ⟨2, ![18432, 16]⟩
abbrev S18432x16x512 : Shape := ⟨3, ![18432, 16, 512]⟩
abbrev S18432x16x1 : Shape := ⟨3, ![18432, 16, 1]⟩

abbrev nBuf : Space → Nat
  | .hbm => 61
  | .vmem => 0
  | .smem => 0
  | _ => 0

abbrev bufTy : (tb : Table) → Fin (tcTables nBuf tb) → BufTy
  | .hbm, ⟨0, _⟩ => ⟨S128, .i32⟩
  | .hbm, ⟨1, _⟩ => ⟨S18432x2176, .f32⟩
  | .hbm, ⟨2, _⟩ => ⟨S16x2048x512, .f32⟩
  | .hbm, ⟨3, _⟩ => ⟨S16x2048x512, .f32⟩
  | .hbm, ⟨4, _⟩ => ⟨S16x512x2048, .f32⟩
  | .hbm, ⟨5, _⟩ => ⟨S18432x2048, .f32⟩
  | .hbm, ⟨6, _⟩ => ⟨S18432x4, .f32⟩
  | .hbm, ⟨7, _⟩ => ⟨S18432, .i32⟩
  | .hbm, ⟨8, _⟩ => ⟨S1, .i32⟩
  | .hbm, ⟨9, _⟩ => ⟨S_, .i32⟩
  | .hbm, ⟨10, _⟩ => ⟨S18432, .i32⟩
  | .hbm, ⟨11, _⟩ => ⟨S18432, .i1⟩
  | .hbm, ⟨12, _⟩ => ⟨S18432, .i32⟩
  | .hbm, ⟨13, _⟩ => ⟨S1, .i32⟩
  | .hbm, ⟨14, _⟩ => ⟨S_, .i32⟩
  | .hbm, ⟨15, _⟩ => ⟨S18432, .i32⟩
  | .hbm, ⟨16, _⟩ => ⟨S18432, .i1⟩
  | .hbm, ⟨17, _⟩ => ⟨S18432, .i32⟩
  | .hbm, ⟨18, _⟩ => ⟨S18432, .i32⟩
  | .hbm, ⟨19, _⟩ => ⟨S1, .i32⟩
  | .hbm, ⟨20, _⟩ => ⟨S_, .i32⟩
  | .hbm, ⟨21, _⟩ => ⟨S18432, .i32⟩
  | .hbm, ⟨22, _⟩ => ⟨S18432, .i1⟩
  | .hbm, ⟨23, _⟩ => ⟨S18432, .i32⟩
  | .hbm, ⟨24, _⟩ => ⟨S18432, .i32⟩
  | .hbm, ⟨25, _⟩ => ⟨S1, .i32⟩
  | .hbm, ⟨26, _⟩ => ⟨S_, .i32⟩
  | .hbm, ⟨27, _⟩ => ⟨S18432, .i32⟩
  | .hbm, ⟨28, _⟩ => ⟨S18432, .i1⟩
  | .hbm, ⟨29, _⟩ => ⟨S18432x1, .i32⟩
  | .hbm, ⟨30, _⟩ => ⟨S18432x4, .i32⟩
  | .hbm, ⟨31, _⟩ => ⟨S18432x4, .i32⟩
  | .hbm, ⟨32, _⟩ => ⟨S18432x4, .i1⟩
  | .hbm, ⟨33, _⟩ => ⟨S18432x1, .i1⟩
  | .hbm, ⟨34, _⟩ => ⟨S18432x4, .i1⟩
  | .hbm, ⟨35, _⟩ => ⟨S18432x4, .i1⟩
  | .hbm, ⟨36, _⟩ => ⟨S18432x4x1, .i1⟩
  | .hbm, ⟨37, _⟩ => ⟨S18432x1x4, .f32⟩
  | .hbm, ⟨38, _⟩ => ⟨S_, .f32⟩
  | .hbm, ⟨39, _⟩ => ⟨S_, .f32⟩
  | .hbm, ⟨40, _⟩ => ⟨S18432x4x4, .i1⟩
  | .hbm, ⟨41, _⟩ => ⟨S18432x4x4, .f32⟩
  | .hbm, ⟨42, _⟩ => ⟨S18432x4x4, .f32⟩
  | .hbm, ⟨43, _⟩ => ⟨S18432x4x4, .f32⟩
  | .hbm, ⟨44, _⟩ => ⟨S18432x16, .f32⟩
  | .hbm, ⟨45, _⟩ => ⟨S18432x16x512, .f32⟩
  | .hbm, ⟨46, _⟩ => ⟨S18432x16x512, .f32⟩
  | .hbm, ⟨47, _⟩ => ⟨S18432x16x512, .f32⟩
  | .hbm, ⟨48, _⟩ => ⟨S18432x16x512, .f32⟩
  | .hbm, ⟨49, _⟩ => ⟨S_, .f32⟩
  | .hbm, ⟨50, _⟩ => ⟨S18432x16x512, .f32⟩
  | .hbm, ⟨51, _⟩ => ⟨S18432x16x512, .f32⟩
  | .hbm, ⟨52, _⟩ => ⟨S_, .f32⟩
  | .hbm, ⟨53, _⟩ => ⟨S18432x16x512, .f32⟩
  | .hbm, ⟨54, _⟩ => ⟨S18432x16x512, .f32⟩
  | .hbm, ⟨55, _⟩ => ⟨S18432x16x512, .f32⟩
  | .hbm, ⟨56, _⟩ => ⟨S18432x16x512, .f32⟩
  | .hbm, ⟨57, _⟩ => ⟨S18432x16x1, .f32⟩
  | .hbm, ⟨58, _⟩ => ⟨S18432x16x512, .f32⟩
  | .hbm, ⟨59, _⟩ => ⟨S18432x16x512, .f32⟩
  | .hbm, ⟨60, _⟩ => ⟨S18432x2048, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== In.lean ====
abbrev S16384x2048 : Shape := ⟨2, ![16384, 2048]⟩
abbrev S2048x13664 : Shape := ⟨2, ![2048, 13664]⟩
abbrev S8 : Shape := ⟨1, ![8]⟩
abbrev S2048x2048 : Shape := ⟨2, ![2048, 2048]⟩
abbrev S2048x256 : Shape := ⟨2, ![2048, 256]⟩
abbrev S2048x1024 : Shape := ⟨2, ![2048, 1024]⟩
abbrev S2048x64 : Shape := ⟨2, ![2048, 64]⟩
abbrev S2048x16 : Shape := ⟨2, ![2048, 16]⟩
abbrev S2048x8 : Shape := ⟨2, ![2048, 8]⟩
abbrev S_ : Shape := ⟨0, ![]⟩
abbrev S2048x13824 : Shape := ⟨2, ![2048, 13824]⟩
abbrev S2048x96 : Shape := ⟨2, ![2048, 96]⟩
abbrev S2048x128 : Shape := ⟨2, ![2048, 128]⟩
abbrev S16 : Shape := ⟨1, ![16]⟩
abbrev S96 : Shape := ⟨1, ![96]⟩
abbrev S128 : Shape := ⟨1, ![128]⟩
abbrev S128x2048 : Shape := ⟨2, ![128, 2048]⟩
abbrev S1x128 : Shape := ⟨2, ![1, 128]⟩
abbrev S128x1 : Shape := ⟨2, ![128, 1]⟩
abbrev S16384x13824 : Shape := ⟨2, ![16384, 13824]⟩
abbrev S16384x128 : Shape := ⟨2, ![16384, 128]⟩
abbrev S128x16384 : Shape := ⟨2, ![128, 16384]⟩
abbrev S1024x2048 : Shape := ⟨2, ![1024, 2048]⟩
abbrev S2048x1536 : Shape := ⟨2, ![2048, 1536]⟩
abbrev S1024x1536 : Shape := ⟨2, ![1024, 1536]⟩
abbrev S1024x128 : Shape := ⟨2, ![1024, 128]⟩
abbrev S128x1024 : Shape := ⟨2, ![128, 1024]⟩

abbrev nBuf : Space → Nat
  | .hbm => 36
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2048x13664, .f32⟩
  | .hbm, ⟨2, _⟩ => ⟨S8, .f32⟩
  | .hbm, ⟨3, _⟩ => ⟨S8, .f32⟩
  | .hbm, ⟨4, _⟩ => ⟨S2048x2048, .f32⟩
  | .hbm, ⟨5, _⟩ => ⟨S2048x256, .f32⟩
  | .hbm, ⟨6, _⟩ => ⟨S2048x1024, .f32⟩
  | .hbm, ⟨7, _⟩ => ⟨S2048x64, .f32⟩
  | .hbm, ⟨8, _⟩ => ⟨S2048x16, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x2048, .f32⟩
  | .hbm, ⟨13, _⟩ => ⟨S2048x8, .f32⟩
  | .hbm, ⟨14, _⟩ => ⟨S2048x8, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x64, .f32⟩
  | .hbm, ⟨19, _⟩ => ⟨S2048x13824, .f32⟩
  | .hbm, ⟨20, _⟩ => ⟨S2048x13824, .bf16⟩
  | .hbm, ⟨21, _⟩ => ⟨S_, .f32⟩
  | .hbm, ⟨22, _⟩ => ⟨S2048x96, .f32⟩
  | .hbm, ⟨23, _⟩ => ⟨S2048x128, .f32⟩
  | .hbm, ⟨24, _⟩ => ⟨S2048x128, .bf16⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S96, .f32⟩
  | .hbm, ⟨29, _⟩ => ⟨S128, .f32⟩
  | .hbm, ⟨30, _⟩ => ⟨S128x2048, .bf16⟩
  | .hbm, ⟨31, _⟩ => ⟨S1x128, .f32⟩
  | .hbm, ⟨32, _⟩ => ⟨S128x1, .f32⟩
  | .hbm, ⟨33, _⟩ => ⟨S16384x13824, .bf16⟩
  | .hbm, ⟨34, _⟩ => ⟨S16384x128, .f32⟩
  | .hbm, ⟨35, _⟩ => ⟨S128x16384, .f32⟩
  | .local _ .vmem, ⟨0, _⟩ => ⟨S1024x2048, .f32⟩
  | .local _ .vmem, ⟨1, _⟩ => ⟨S1024x2048, .f32⟩
  | .local _ .vmem, ⟨2, _⟩ => ⟨S2048x1536, .bf16⟩
  | .local _ .vmem, ⟨3, _⟩ => ⟨S2048x1536, .bf16⟩
  | .local _ .vmem, ⟨4, _⟩ => ⟨S2048x128, .bf16⟩
  | .local _ .vmem, ⟨5, _⟩ => ⟨S128x2048, .bf16⟩
  | .local _ .vmem, ⟨6, _⟩ => ⟨S1x128, .f32⟩
  | .local _ .vmem, ⟨7, _⟩ => ⟨S128x1, .f32⟩
  | .local _ .vmem, ⟨8, _⟩ => ⟨S1024x1536, .bf16⟩
  | .local _ .vmem, ⟨9, _⟩ => ⟨S1024x1536, .bf16⟩
  | .local _ .vmem, ⟨10, _⟩ => ⟨S1024x128, .f32⟩
  | .local _ .vmem, ⟨11, _⟩ => ⟨S1024x128, .f32⟩
  | .local _ .vmem, ⟨12, _⟩ => ⟨S128x1024, .f32⟩
  | .local _ .vmem, ⟨13, _⟩ => ⟨S128x1024, .f32⟩
  | .local _ .vmem, ⟨14, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InRefIdeal.lean ====
abbrev S16384x2048 : Shape := ⟨2, ![16384, 2048]⟩
abbrev S2048x13664 : Shape := ⟨2, ![2048, 13664]⟩
abbrev S8 : Shape := ⟨1, ![8]⟩
abbrev S16384x13664 : Shape := ⟨2, ![16384, 13664]⟩
abbrev S16384x256 : Shape := ⟨2, ![16384, 256]⟩
abbrev S16384x1024 : Shape := ⟨2, ![16384, 1024]⟩
abbrev S16384x64 : Shape := ⟨2, ![16384, 64]⟩
abbrev S16384x16 : Shape := ⟨2, ![16384, 16]⟩
abbrev S16384x8 : Shape := ⟨2, ![16384, 8]⟩
abbrev S_ : Shape := ⟨0, ![]⟩
abbrev S16384x13824 : Shape := ⟨2, ![16384, 13824]⟩
abbrev S1x8 : Shape := ⟨2, ![1, 8]⟩
abbrev S16384x96 : Shape := ⟨2, ![16384, 96]⟩
abbrev S16384x128 : Shape := ⟨2, ![16384, 128]⟩
abbrev S128x16384 : Shape := ⟨2, ![128, 16384]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x13664, .f32⟩
  | .hbm, ⟨2, _⟩ => ⟨S8, .f32⟩
  | .hbm, ⟨3, _⟩ => ⟨S8, .f32⟩
  | .hbm, ⟨4, _⟩ => ⟨S16384x13664, .f32⟩
  | .hbm, ⟨5, _⟩ => ⟨S16384x2048, .f32⟩
  | .hbm, ⟨6, _⟩ => ⟨S16384x256, .f32⟩
  | .hbm, ⟨7, _⟩ => ⟨S16384x1024, .f32⟩
  | .hbm, ⟨8, _⟩ => ⟨S16384x64, .f32⟩
  | .hbm, ⟨9, _⟩ => ⟨S16384x16, .f32⟩
  | .hbm, ⟨10, _⟩ => ⟨S16384x1024, .f32⟩
  | .hbm, ⟨11, _⟩ => ⟨S16384x1024, .f32⟩
  | .hbm, ⟨12, _⟩ => ⟨S16384x2048, .f32⟩
  | .hbm, ⟨13, _⟩ => ⟨S16384x2048, .f32⟩
  | .hbm, ⟨14, _⟩ => ⟨S16384x8, .f32⟩
  | .hbm, ⟨15, _⟩ => ⟨S16384x8, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x64, .f32⟩
  | .hbm, ⟨20, _⟩ => ⟨S16384x13824, .f32⟩
  | .hbm, ⟨21, _⟩ => ⟨S1x8, .f32⟩
  | .hbm, ⟨22, _⟩ => ⟨S16384x8, .f32⟩
  | .hbm, ⟨23, _⟩ => ⟨S16384x8, .f32⟩
  | .hbm, ⟨24, _⟩ => ⟨S1x8, .f32⟩
  | .hbm, ⟨25, _⟩ => ⟨S16384x8, .f32⟩
  | .hbm, ⟨26, _⟩ => ⟨S16384x8, .f32⟩
  | .hbm, ⟨27, _⟩ => ⟨S_, .f32⟩
  | .hbm, ⟨28, _⟩ => ⟨S16384x96, .f32⟩
  | .hbm, ⟨29, _⟩ => ⟨S16384x128, .f32⟩
  | .hbm, ⟨30, _⟩ => ⟨S16384x13824, .bf16⟩
  | .hbm, ⟨31, _⟩ => ⟨S128x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kv.lean ====
abbrev S16384x13824 : Shape := ⟨2, ![16384, 13824]⟩
abbrev S256 : Shape := ⟨1, ![256]⟩
abbrev S256x256 : Shape := ⟨2, ![256, 256]⟩
abbrev S1x256 : Shape := ⟨2, ![1, 256]⟩
abbrev S16384x256 : Shape := ⟨2, ![16384, 256]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x13824, .bf16⟩
  | .hbm, ⟨1, _⟩ => ⟨S256, .f32⟩
  | .hbm, ⟨2, _⟩ => ⟨S256x256, .f32⟩
  | .hbm, ⟨3, _⟩ => ⟨S1x256, .f32⟩
  | .hbm, ⟨4, _⟩ => ⟨S256x256, .bf16⟩
  | .hbm, ⟨5, _⟩ => ⟨S16384x256, .bf16⟩
  | .local _ .vmem, ⟨0, _⟩ => ⟨S512x256, .bf16⟩
  | .local _ .vmem, ⟨1, _⟩ => ⟨S512x256, .bf16⟩
  | .local _ .vmem, ⟨2, _⟩ => ⟨S1x256, .f32⟩
  | .local _ .vmem, ⟨3, _⟩ => ⟨S256x256, .bf16⟩
  | .local _ .vmem, ⟨4, _⟩ => ⟨S512x256, .bf16⟩
  | .local _ .vmem, ⟨5, _⟩ => ⟨S512x256, .bf16⟩
  | _, _ => ⟨S16384x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvRefIdeal.lean ====
abbrev S16384x13824 : Shape := ⟨2, ![16384, 13824]⟩
abbrev S256 : Shape := ⟨1, ![256]⟩
abbrev S256x256 : Shape := ⟨2, ![256, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S16384x13824, .bf16⟩
  | .hbm, ⟨1, _⟩ => ⟨S256, .f32⟩
  | .hbm, ⟨2, _⟩ => ⟨S256x256, .f32⟩
  | .hbm, ⟨3, _⟩ => ⟨S16384x256, .bf16⟩
  | .hbm, ⟨4, _⟩ => ⟨S16384x256, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x256, .f32⟩
  | .hbm, ⟨17, _⟩ => ⟨S16384x256, .f32⟩
  | .hbm, ⟨18, _⟩ => ⟨S1x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S16384x256, .bf16⟩
  | _, _ => ⟨S16384x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Mix.lean ====
abbrev S16384x2048 : Shape := ⟨2, ![16384, 2048]⟩
abbrev S2048x2048 : Shape := ⟨2, ![2048, 2048]⟩
abbrev S16384x13824 : Shape := ⟨2, ![16384, 13824]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .f32⟩
  | .hbm, ⟨3, _⟩ => ⟨S2048x2048, .f32⟩
  | .hbm, ⟨4, _⟩ => ⟨S16384x13824, .bf16⟩
  | .hbm, ⟨5, _⟩ => ⟨S2048x2048, .bf16⟩
  | .hbm, ⟨6, _⟩ => ⟨S2048x2048, .bf16⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixRefIdeal.lean ====
abbrev S16384x2048 : Shape := ⟨2, ![16384, 2048]⟩
abbrev S2048x2048 : Shape := ⟨2, ![2048, 2048]⟩
abbrev S16384x13824 : Shape := ⟨2, ![16384, 13824]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .f32⟩
  | .hbm, ⟨3, _⟩ => ⟨S2048x2048, .f32⟩
  | .hbm, ⟨4, _⟩ => ⟨S16384x13824, .bf16⟩
  | .hbm, ⟨5, _⟩ => ⟨S16384x2048, .bf16⟩
  | .hbm, ⟨6, _⟩ => ⟨S16384x2048, .f32⟩
  | .hbm, ⟨7, _⟩ => ⟨S16384x2048, .bf16⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== LnA.lean ====
abbrev S16384x2048 : Shape := ⟨2, ![16384, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S_ : Shape := ⟨0, ![]⟩
abbrev S2048x108 : Shape := ⟨2, ![2048, 108]⟩
abbrev S2048x128 : Shape := ⟨2, ![2048, 128]⟩
abbrev S108 : Shape := ⟨1, ![108]⟩
abbrev S128 : Shape := ⟨1, ![128]⟩
abbrev S1x2048 : Shape := ⟨2, ![1, 2048]⟩
abbrev S128x2048 : Shape := ⟨2, ![128, 2048]⟩
abbrev S128x1 : Shape := ⟨2, ![128, 1]⟩
abbrev S16384x2176 : Shape := ⟨2, ![16384, 2176]⟩
abbrev S8x16384 : Shape := ⟨2, ![8, 16384]⟩
abbrev S512x2048 : Shape := ⟨2, ![512, 2048]⟩
abbrev S512x2176 : Shape := ⟨2, ![512, 2176]⟩
abbrev S8x512 : Shape := ⟨2, ![8, 512]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S3x512 : Shape := ⟨2, ![3, 512]⟩
abbrev S120x512 : Shape := ⟨2, ![120, 512]⟩
abbrev S512x128 : Shape := ⟨2, ![512, 128]⟩

abbrev nBuf : Space → Nat
  | .hbm => 23
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x4, .f32⟩
  | .hbm, ⟨6, _⟩ => ⟨S4, .f32⟩
  | .hbm, ⟨7, _⟩ => ⟨S2048x16, .f32⟩
  | .hbm, ⟨8, _⟩ => ⟨S16, .f32⟩
  | .hbm, ⟨9, _⟩ => ⟨S_, .f32⟩
  | .hbm, ⟨10, _⟩ => ⟨S2048x108, .f32⟩
  | .hbm, ⟨11, _⟩ => ⟨S2048x128, .f32⟩
  | .hbm, ⟨12, _⟩ => ⟨S_, .f32⟩
  | .hbm, ⟨13, _⟩ => ⟨S108, .f32⟩
  | .hbm, ⟨14, _⟩ => ⟨S128, .f32⟩
  | .hbm, ⟨15, _⟩ => ⟨S2048x2048, .bf16⟩
  | .hbm, ⟨16, _⟩ => ⟨S1x2048, .f32⟩
  | .hbm, ⟨17, _⟩ => ⟨S1x2048, .f32⟩
  | .hbm, ⟨18, _⟩ => ⟨S128x2048, .f32⟩
  | .hbm, ⟨19, _⟩ => ⟨S128x2048, .bf16⟩
  | .hbm, ⟨20, _⟩ => ⟨S128x1, .f32⟩
  | .hbm, ⟨21, _⟩ => ⟨S16384x2176, .f32⟩
  | .hbm, ⟨22, _⟩ => ⟨S8x16384, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S128x2048, .bf16⟩
  | .local _ .vmem, ⟨8, _⟩ => ⟨S128x1, .f32⟩
  | .local _ .vmem, ⟨9, _⟩ => ⟨S512x2176, .f32⟩
  | .local _ .vmem, ⟨10, _⟩ => ⟨S512x2176, .f32⟩
  | .local _ .vmem, ⟨11, _⟩ => ⟨S8x512, .f32⟩
  | .local _ .vmem, ⟨12, _⟩ => ⟨S8x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnARefIdeal.lean ====
abbrev S16384x2048 : Shape := ⟨2, ![16384, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4 : Shape := ⟨2, ![16384, 4]⟩
abbrev S1x4 : Shape := ⟨2, ![1, 4]⟩
abbrev S16384x16 : Shape := ⟨2, ![16384, 16]⟩
abbrev S1x16 : Shape := ⟨2, ![1, 16]⟩
abbrev S16384x4x4 : Shape := ⟨3, ![16384, 4, 4]⟩
abbrev S16384x4x1 : Shape := ⟨3, ![16384, 4, 1]⟩
abbrev S16384x3 : Shape := ⟨2, ![16384, 3]⟩
abbrev S16384x8 : Shape := ⟨2, ![16384, 8]⟩
abbrev S16384x120 : Shape := ⟨2, ![16384, 120]⟩
abbrev S16384x2176 : Shape := ⟨2, ![16384, 2176]⟩
abbrev S8x16384 : Shape := ⟨2, ![8, 16384]⟩

abbrev nBuf : Space → Nat
  | .hbm => 170
  | .vmem => 0
  | .smem => 0
  | _ => 0

abbrev hbmTy0_0 (i : Nat) : BufTy := match i % 128 with
  | 0 => ⟨S16384x2048, .bf16⟩
  | 1 => ⟨S16384x2048, .f32⟩
  | 2 => ⟨S2048x2048, .f32⟩
  | 3 => ⟨S2048, .f32⟩
  | 4 => ⟨S2048, .f32⟩
  | 5 => ⟨S2048x4, .f32⟩
  | 6 => ⟨S4, .f32⟩
  | 7 => ⟨S2048x16, .f32⟩
  | 8 => ⟨S16, .f32⟩
  | 9 => ⟨S_, .f32⟩
  | 10 => ⟨S16384x2048, .f32⟩
  | 11 => ⟨S16384x2048, .f32⟩
  | 12 => ⟨S16384x2048, .f32⟩
  | 13 => ⟨S16384x2048, .f32⟩
  | 14 => ⟨S16384x2048, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S16384x2048, .f32⟩
  | 22 => ⟨S16384x2048, .f32⟩
  | 23 => ⟨S16384x2048, .f32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S16384x2048, .f32⟩
  | 31 => ⟨S16384x2048, .f32⟩
  | 32 => ⟨S_, .f32⟩
  | 33 => ⟨S16384x1, .f32⟩
  | 34 => ⟨S16384x1, .f32⟩
  | 35 => ⟨S16384x1, .f32⟩
  | 36 => ⟨S16384x2048, .f32⟩
  | 37 => ⟨S16384x2048, .f32⟩
  | 38 => ⟨S1x2048, .f32⟩
  | 39 => ⟨S16384x2048, .f32⟩
  | 40 => ⟨S16384x2048, .f32⟩
  | 41 => ⟨S1x2048, .f32⟩
  | 42 => ⟨S16384x2048, .f32⟩
  | 43 => ⟨S16384x2048, .f32⟩
  | 44 => ⟨S16384x4, .f32⟩
  | 45 => ⟨S1x4, .f32⟩
  | 46 => ⟨S16384x4, .f32⟩
  | 47 => ⟨S16384x4, .f32⟩
  | 48 => ⟨S16384x4, .i32⟩
  | 49 => ⟨S_, .f32⟩
  | 50 => ⟨S16384, .f32⟩
  | 51 => ⟨S16384x1, .f32⟩
  | 52 => ⟨S16384x4, .f32⟩
  | 53 => ⟨S16384x4, .i1⟩
  | 54 => ⟨S_, .i32⟩
  | 55 => ⟨S_, .i32⟩
  | 56 => ⟨S16384x4, .i32⟩
  | 57 => ⟨S16384x4, .i32⟩
  | 58 => ⟨S_, .i32⟩
  | 59 => ⟨S16384, .i32⟩
  | 60 => ⟨S16384x1, .i32⟩
  | 61 => ⟨S_, .f32⟩
  | 62 => ⟨S16384, .f32⟩
  | 63 => ⟨S16384x1, .f32⟩
  | 64 => ⟨S16384x4, .f32⟩
  | 65 => ⟨S16384x4, .f32⟩
  | 66 => ⟨S16384x4, .f32⟩
  | 67 => ⟨S_, .f32⟩
  | 68 => ⟨S16384, .f32⟩
  | 69 => ⟨S16384x1, .f32⟩
  | 70 => ⟨S_, .f32⟩
  | 71 => ⟨S16384x1, .f32⟩
  | 72 => ⟨S16384x1, .f32⟩
  | 73 => ⟨S16384x4, .i32⟩
  | 74 => ⟨S16384x16, .f32⟩
  | 75 => ⟨S1x16, .f32⟩
  | 76 => ⟨S16384x16, .f32⟩
  | 77 => ⟨S16384x16, .f32⟩
  | 78 => ⟨S16384x4x4, .f32⟩
  | 79 => ⟨S16384x4, .i32⟩
  | 80 => ⟨S16384x4, .i1⟩
  | 81 => ⟨S16384x4x1, .i1⟩
  | 82 => ⟨S_, .f32⟩
  | 83 => ⟨S_, .f32⟩
  | 84 => ⟨S16384x4x4, .i1⟩
  | 85 => ⟨S16384x4x4, .f32⟩
  | 86 => ⟨S16384x4x4, .f32⟩
  | 87 => ⟨S_, .f32⟩
  | 88 => ⟨S16384x4, .f32⟩
  | 89 => ⟨S_, .f32⟩
  | 90 => ⟨S16384, .f32⟩
  | 91 => ⟨S_, .f32⟩
  | 92 => ⟨S16384, .f32⟩
  | 93 => ⟨S16384, .f32⟩
  | 94 => ⟨S16384x1, .f32⟩
  | 95 => ⟨S16384x4, .f32⟩
  | 96 => ⟨S16384x4, .f32⟩
  | 97 => ⟨S16384x4, .f32⟩
  | 98 => ⟨S_, .f32⟩
  | 99 => ⟨S16384, .f32⟩
  | 100 => ⟨S16384x1, .f32⟩
  | 101 => ⟨S16384x4, .f32⟩
  | 102 => ⟨S16384x4, .f32⟩
  | 103 => ⟨S16384x4, .i32⟩
  | 104 => ⟨S_, .f32⟩
  | 105 => ⟨S16384, .f32⟩
  | 106 => ⟨S16384x1, .f32⟩
  | 107 => ⟨S16384x4, .f32⟩
  | 108 => ⟨S16384x4, .i1⟩
  | 109 => ⟨S_, .i32⟩
  | 110 => ⟨S_, .i32⟩
  | 111 => ⟨S16384x4, .i32⟩
  | 112 => ⟨S16384x4, .i32⟩
  | 113 => ⟨S_, .i32⟩
  | 114 => ⟨S16384, .i32⟩
  | 115 => ⟨S16384x1, .i32⟩
  | 116 => ⟨S_, .f32⟩
  | 117 => ⟨S16384, .f32⟩
  | 118 => ⟨S16384x1, .f32⟩
  | 119 => ⟨S16384x4, .i32⟩
  | 120 => ⟨S16384x4, .i1⟩
  | 121 => ⟨S_, .f32⟩
  | 122 => ⟨S_, .f32⟩
  | 123 => ⟨S16384x4, .f32⟩
  | 124 => ⟨S16384x4, .f32⟩
  | 125 => ⟨S16384x4, .i32⟩
  | 126 => ⟨S_, .f32⟩
  | 127 => ⟨S16384, .f32⟩
  | _ => ⟨S16384x2048, .bf16⟩

abbrev hbmTy0_1 (i : Nat) : BufTy := match i % 128 with
  | 0 => ⟨S16384x1, .f32⟩
  | 1 => ⟨S16384x4, .f32⟩
  | 2 => ⟨S16384x4, .i1⟩
  | 3 => ⟨S_, .i32⟩
  | 4 => ⟨S_, .i32⟩
  | 5 => ⟨S16384x4, .i32⟩
  | 6 => ⟨S16384x4, .i32⟩
  | 7 => ⟨S_, .i32⟩
  | 8 => ⟨S16384, .i32⟩
  | 9 => ⟨S16384x1, .i32⟩
  | 10 => ⟨S_, .f32⟩
  | 11 => ⟨S16384, .f32⟩
  | 12 => ⟨S16384x1, .f32⟩
  | 13 => ⟨S16384x4, .i32⟩
  | 14 => ⟨S16384x4, .i1⟩
  | 15 => ⟨S16384x1, .f32⟩
  | 16 => ⟨S16384x1, .f32⟩
  | 17 => ⟨S_, .f32⟩
  | 18 => ⟨S_, .f32⟩
  | 19 => ⟨S16384x4, .f32⟩
  | 20 => ⟨S16384x4, .f32⟩
  | 21 => ⟨S16384x4, .f32⟩
  | 22 => ⟨S16384x4, .i32⟩
  | 23 => ⟨S16384x4, .i1⟩
  | 24 => ⟨S16384x1, .f32⟩
  | 25 => ⟨S16384x1, .f32⟩
  | 26 => ⟨S_, .f32⟩
  | 27 => ⟨S_, .f32⟩
  | 28 => ⟨S16384x4, .f32⟩
  | 29 => ⟨S16384x4, .f32⟩
  | 30 => ⟨S16384x4, .f32⟩
  | 31 => ⟨S16384x4, .f32⟩
  | 32 => ⟨S16384x4, .f32⟩
  | 33 => ⟨S16384x4, .f32⟩
  | 34 => ⟨S16384x1, .f32⟩
  | 35 => ⟨S_, .f32⟩
  | 36 => ⟨S16384x3, .f32⟩
  | 37 => ⟨S16384x8, .f32⟩
  | 38 => ⟨S_, .f32⟩
  | 39 => ⟨S16384x120, .f32⟩
  | 40 => ⟨S16384x2176, .f32⟩
  | 41 => ⟨S8x16384, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_call0_v0 : Ref sig .tc := ⟨.hbm, 55, rfl⟩
abbrev main_call0_v1 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_call2_v0 : Ref sig .tc := ⟨.hbm, 110, rfl⟩
abbrev main_call2_v1 : Ref sig .tc := ⟨.hbm, 111, rfl⟩
abbrev main_v77 : Ref sig .tc := ⟨.hbm, 112, rfl⟩
abbrev main_c_17 : Ref sig .tc := ⟨.hbm, 113, rfl⟩
abbrev main_v78 : Ref sig .tc := ⟨.hbm, 114, rfl⟩
abbrev main_v79 : Ref sig .tc := ⟨.hbm, 115, rfl⟩
abbrev main_cst_18 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_19 : Ref sig .tc := ⟨.hbm, 121, rfl⟩
abbrev main_call3_v0 : Ref sig .tc := ⟨.hbm, 122, rfl⟩
abbrev main_call3_v1 : Ref sig .tc := ⟨.hbm, 123, rfl⟩
abbrev main_v84 : Ref sig .tc := ⟨.hbm, 124, rfl⟩
abbrev main_v85 : Ref sig .tc := ⟨.hbm, 125, rfl⟩
abbrev main_cst_20 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_21 : Ref sig .tc := ⟨.hbm, 131, rfl⟩
abbrev main_call4_v0 : Ref sig .tc := ⟨.hbm, 132, rfl⟩
abbrev main_call4_v1 : Ref sig .tc := ⟨.hbm, 133, rfl⟩
abbrev main_v90 : Ref sig .tc := ⟨.hbm, 134, rfl⟩
abbrev main_c_22 : Ref sig .tc := ⟨.hbm, 135, rfl⟩
abbrev main_v91 : Ref sig .tc := ⟨.hbm, 136, rfl⟩
abbrev main_v92 : Ref sig .tc := ⟨.hbm, 137, rfl⟩
abbrev main_cst_23 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_24 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_25 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_26 : Ref sig .tc := ⟨.hbm, 163, rfl⟩
abbrev main_v109 : Ref sig .tc := ⟨.hbm, 164, rfl⟩
abbrev main_v110 : Ref sig .tc := ⟨.hbm, 165, rfl⟩
abbrev main_cst_27 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩

abbrev nD : Nat := 1
abbrev τ : Topo := Topo.v7x

variable {F : FTy → Type} [FloatOps F]
-- ==== Pos.lean ====
abbrev S16384 : Shape := ⟨1, ![16384]⟩
abbrev S128x128 : Shape := ⟨2, ![128, 128]⟩
abbrev S1x128 : Shape := ⟨2, ![1, 128]⟩
abbrev S1x1 : Shape := ⟨2, ![1, 1]⟩
abbrev S128x1 : Shape := ⟨2, ![128, 1]⟩
abbrev S1 : Shape := ⟨1, ![1]⟩

abbrev nBuf : Space → Nat
  | .hbm => 4
  | .vmem => 3
  | .smem => 0
  | _ => 0

abbrev bufTy : (tb : Table) → Fin (tcTables nBuf tb) → BufTy
  | .hbm, ⟨0, _⟩ => ⟨S16384, .f32⟩
  | .hbm, ⟨1, _⟩ => ⟨S128x128, .f32⟩
  | .hbm, ⟨2, _⟩ => ⟨S128x128, .i32⟩
  | .hbm, ⟨3, _⟩ => ⟨S1x128, .i32⟩
  | .local _ .vmem, ⟨0, _⟩ => ⟨S128x128, .f32⟩
  | .local _ .vmem, ⟨1, _⟩ => ⟨S128x128, .i32⟩
  | .local _ .vmem, ⟨2, _⟩ => ⟨S1x128, .i32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== PosRefIdeal.lean ====
abbrev S16384 : Shape := ⟨1, ![16384]⟩
abbrev S16384x1 : Shape := ⟨2, ![16384, 1]⟩
abbrev S16384x4 : Shape := ⟨2, ![16384, 4]⟩
abbrev S_ : Shape := ⟨0, ![]⟩
abbrev S4 : Shape := ⟨1, ![4]⟩
abbrev S4x4 : Shape := ⟨2, ![4, 4]⟩
abbrev S1x4 : Shape := ⟨2, ![1, 4]⟩
abbrev S16384x16384 : Shape := ⟨2, ![16384, 16384]⟩
abbrev S1x16384 : Shape := ⟨2, ![1, 16384]⟩
abbrev S1 : Shape := ⟨1, ![1]⟩
abbrev S119 : Shape := ⟨1, ![119]⟩
abbrev S128 : Shape := ⟨1, ![128]⟩
abbrev S128x128 : Shape := ⟨2, ![128, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384x1, .f32⟩
  | .hbm, ⟨2, _⟩ => ⟨S16384x4, .i32⟩
  | .hbm, ⟨3, _⟩ => ⟨S16384x4, .f32⟩
  | .hbm, ⟨4, _⟩ => ⟨S16384x4, .f32⟩
  | .hbm, ⟨5, _⟩ => ⟨S16384x4, .i1⟩
  | .hbm, ⟨6, _⟩ => ⟨S_, .f32⟩
  | .hbm, ⟨7, _⟩ => ⟨S_, .f32⟩
  | .hbm, ⟨8, _⟩ => ⟨S16384x4, .f32⟩
  | .hbm, ⟨9, _⟩ => ⟨S16384x4, .f32⟩
  | .hbm, ⟨10, _⟩ => ⟨S16384x4, .f32⟩
  | .hbm, ⟨11, _⟩ => ⟨S16384x4, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S1x4, .f32⟩
  | .hbm, ⟨28, _⟩ => ⟨S_, .f32⟩
  | .hbm, ⟨29, _⟩ => ⟨S_, .f32⟩
  | .hbm, ⟨30, _⟩ => ⟨S4x4, .f32⟩
  | .hbm, ⟨31, _⟩ => ⟨S4x4, .f32⟩
  | .hbm, ⟨32, _⟩ => ⟨S4x4, .f32⟩
  | .hbm, ⟨33, _⟩ => ⟨S_, .f32⟩
  | .hbm, ⟨34, _⟩ => ⟨S4, .f32⟩
  | .hbm, ⟨35, _⟩ => ⟨S16384x16384, .i32⟩
  | .hbm, ⟨36, _⟩ => ⟨S16384x16384, .i32⟩
  | .hbm, ⟨37, _⟩ => ⟨S16384x16384, .i1⟩
  | .hbm, ⟨38, _⟩ => ⟨S1x16384, .f32⟩
  | .hbm, ⟨39, _⟩ => ⟨S16384x1, .f32⟩
  | .hbm, ⟨40, _⟩ => ⟨S16384x16384, .f32⟩
  | .hbm, ⟨41, _⟩ => ⟨S16384x16384, .f32⟩
  | .hbm, ⟨42, _⟩ => ⟨S16384x16384, .i1⟩
  | .hbm, ⟨43, _⟩ => ⟨S16384x16384, .i1⟩
  | .hbm, ⟨44, _⟩ => ⟨S_, .f32⟩
  | .hbm, ⟨45, _⟩ => ⟨S_, .f32⟩
  | .hbm, ⟨46, _⟩ => ⟨S16384x16384, .f32⟩
  | .hbm, ⟨47, _⟩ => ⟨S16384x16384, .f32⟩
  | .hbm, ⟨48, _⟩ => ⟨S16384x16384, .f32⟩
  | .hbm, ⟨49, _⟩ => ⟨S16384x16384, .f32⟩
  | .hbm, ⟨50, _⟩ => ⟨S_, .f32⟩
  | .hbm, ⟨51, _⟩ => ⟨S16384, .f32⟩
  | .hbm, ⟨52, _⟩ => ⟨S1x4, .f32⟩
  | .hbm, ⟨53, _⟩ => ⟨S16384x1, .f32⟩
  | .hbm, ⟨54, _⟩ => ⟨S16384x4, .f32⟩
  | .hbm, ⟨55, _⟩ => ⟨S16384x4, .f32⟩
  | .hbm, ⟨56, _⟩ => ⟨S16384x4, .f32⟩
  | .hbm, ⟨57, _⟩ => ⟨S_, .f32⟩
  | .hbm, ⟨58, _⟩ => ⟨S16384x4, .f32⟩
  | .hbm, ⟨59, _⟩ => ⟨S16384x4, .f32⟩
  | .hbm, ⟨60, _⟩ => ⟨S_, .f32⟩
  | .hbm, ⟨61, _⟩ => ⟨S_, .f32⟩
  | .hbm, ⟨62, _⟩ => ⟨S16384x4, .f32⟩
  | .hbm, ⟨63, _⟩ => ⟨S16384x4, .f32⟩
  | .hbm, ⟨64, _⟩ => ⟨S_, .f32⟩
  | .hbm, ⟨65, _⟩ => ⟨S16384, .f32⟩
  | .hbm, ⟨66, _⟩ => ⟨S_, .f32⟩
  | .hbm, ⟨67, _⟩ => ⟨S_, .f32⟩
  | .hbm, ⟨68, _⟩ => ⟨S1, .f32⟩
  | .hbm, ⟨69, _⟩ => ⟨S_, .f32⟩
  | .hbm, ⟨70, _⟩ => ⟨S119, .f32⟩
  | .hbm, ⟨71, _⟩ => ⟨S128, .f32⟩
  | .hbm, ⟨72, _⟩ => ⟨S16384, .i32⟩
  | .hbm, ⟨73, _⟩ => ⟨S128x128, .i32⟩
  | .hbm, ⟨74, _⟩ => ⟨S128, .i32⟩
  | .hbm, ⟨75, _⟩ => ⟨S1x128, .i32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_call3_v0 : Ref sig .tc := ⟨.hbm, 61, rfl⟩
abbrev main_call3_v1 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Back.lean ====
abbrev S16384 : Shape := ⟨1, ![16384]⟩
abbrev S18432x2048 : Shape := ⟨2, ![18432, 2048]⟩
abbrev S16384x2048 : Shape := ⟨2, ![16384, 2048]⟩
abbrev S_ : Shape := ⟨0, ![]⟩
abbrev S1 : Shape := ⟨1, ![1]⟩
abbrev S1x2048 : Shape := ⟨2, ![1, 2048]⟩

abbrev nBuf : Space → Nat
  | .hbm => 2
  | .vmem => 0
  | .smem => 1
  | _ => 0

abbrev bufTy : (tb : Table) → Fin (tcTables nBuf tb) → BufTy
  | .hbm, ⟨0, _⟩ => ⟨S18432x2048, .f32⟩
  | .hbm, ⟨1, _⟩ => ⟨S16384x2048, .f32⟩
  | .local _ .smem, ⟨0, _⟩ => ⟨S16384, .i32⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_arg0 : Ref sig .tc := ⟨.smem, 0, rfl⟩

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let v3 : BitVec 32 := Scalar.addi v0 arg5
  let v4 : Index := Scalar.indexCast v3
  ![v4.toNat]
def k0_off2 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg5 : BitVec 32 := Scf.iv c0_i32 c1_i32 k0_t1
  let v6 : BitVec 32 := Scalar.addi v0 arg5
  let c0_i32_6 : BitVec 32 := 0#32
  ![v6.toNat, 0]
def k0_off3 (v5 : BitVec 32) : Fin 2 → Nat :=
  let c0_i32_7 : BitVec 32 := 0#32
  ![v5.toNat, 0]

def k0_chk1 (v5 : BitVec 32) : Prop :=
  (∀ a, (k0_off3 v5) a + S1x2048.size a ≤ S18432x2048.size a)
theorem k0_off3_inb : ∀ (v5 : BitVec 32) (k0_hw1 : k0_chk1 v5), ∀ a, (k0_off3 v5) a + S1x2048.size a ≤ S18432x2048.size a := fun v5 k0_hw1 => k0_hw1

@[reducible] def k0_t2_loop : Scf.Loop 32 :=
  let c0_i32_2 : BitVec 32 := 0#32
  let c512_i32_3 : BitVec 32 := 512#32
  let v2 : BitVec 32 := Scalar.addi c0_i32_2 c512_i32_3
  let c1_i32_4 : BitVec 32 := 1#32
  ⟨c0_i32_2, v2, c1_i32_4⟩
def k0_off4 (i : grid0.Coords) (k0_t2 : Fin k0_t2_loop.trips) : Fin 1 → Nat :=
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg5 : BitVec 32 := Scf.iv c0_i32_2 c1_i32_4 k0_t2
  let v3 : BitVec 32 := Scalar.addi v0 arg5
  let v4 : Index := Scalar.indexCast v3
  ![v4.toNat]
def k0_off5 (i : grid0.Coords) (k0_t2 : Fin k0_t2_loop.trips) : Fin 2 → Nat :=
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg5 : BitVec 32 := Scf.iv c0_i32_2 c1_i32_4 k0_t2
  let v6 : BitVec 32 := Scalar.addi v0 arg5
  let c0_i32_6 : BitVec 32 := 0#32
  ![v6.toNat, 0]
def k0_off6 (v5 : BitVec 32) : Fin 2 → Nat :=
  let c0_i32_7 : BitVec 32 := 0#32
  ![v5.toNat, 0]

def k0_chk2 (v5 : BitVec 32) : Prop :=
  (∀ a, (k0_off6 v5) a + S1x2048.size a ≤ S18432x2048.size a)
theorem k0_off6_inb : ∀ (v5 : BitVec 32) (k0_hw2 : k0_chk2 v5), ∀ a, (k0_off6 v5) a + S1x2048.size a ≤ S18432x2048.size a := fun v5 k0_hw2 => k0_hw2
-- ==== BackRefIdeal.lean ====
abbrev S16384 : Shape := ⟨1, ![16384]⟩
abbrev S18432x2048 : Shape := ⟨2, ![18432, 2048]⟩
abbrev S_ : Shape := ⟨0, ![]⟩
abbrev S16384x1 : Shape := ⟨2, ![16384, 1]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384, .i32⟩
  | .hbm, ⟨1, _⟩ => ⟨S18432x2048, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S16384x2048, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LnB.lean ====
abbrev S16384x2176 : Shape := ⟨2, ![16384, 2176]⟩
abbrev S16384x2048 : Shape := ⟨2, ![16384, 2048]⟩
abbrev S16384x256 : Shape := ⟨2, ![16384, 256]⟩
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x2176, .f32⟩
  | .hbm, ⟨1, _⟩ => ⟨S16384x2048, .f32⟩
  | .hbm, ⟨2, _⟩ => ⟨S16384x256, .f32⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S256x2048, .bf16⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnBRefIdeal.lean ====
abbrev S16384x2176 : Shape := ⟨2, ![16384, 2176]⟩
abbrev S16384x2048 : Shape := ⟨2, ![16384, 2048]⟩
abbrev S16384x256 : Shape := ⟨2, ![16384, 256]⟩
abbrev S256x2048 : Shape := ⟨2, ![256, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2176, .f32⟩
  | .hbm, ⟨1, _⟩ => ⟨S16384x2048, .f32⟩
  | .hbm, ⟨2, _⟩ => ⟨S16384x256, .f32⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S1x2048, .f32⟩
  | .hbm, ⟨48, _⟩ => ⟨S16384x2048, .f32⟩
  | .hbm, ⟨49, _⟩ => ⟨S16384x2048, .f32⟩
  | .hbm, ⟨50, _⟩ => ⟨S1x2048, .f32⟩
  | .hbm, ⟨51, _⟩ => ⟨S16384x2048, .f32⟩
  | .hbm, ⟨52, _⟩ => ⟨S16384x2048, .f32⟩
  | _, _ => ⟨S16384x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.MoeIdeal.Kit.lean ====
/- The routed experts' kernel: what its runs share. Its host prefix, the prefetched table, the windows' blocks, the body's
   branch conditions as conditions on the grid point and on the table's word, and the staging memrefs. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.Kit
public import Idealize.ShloMosaic.Lib.Pipeline.TableIdle
public import Idealize.ShloMosaic.Lib.Pipeline.ValueKit
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.MoeIdeal.Routed

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 4 (result 0 (%3)) is written back at the points ≡ 3 (mod 4), at any contents of the tables (its index map reads none). -/
theorem flush0_4 (a : (pcfg0 (F := F)).Adm) : ∀ t : Fin (cfg0 a).N, ((cfg0 a).win 4).flush t = true ↔ t.val % 4 = 3 :=
  (fun t => Pipeline.Window.flushOf_reads cc0_transform_4 reads0_4 hreads0_4 0 (by decide) (by decide) (Pipeline.Window.sep_of_coord cc0_transform_4 0 0 (fun _ => rfl) (by decide)) (P := 4) (m := 3) (by decide) rfl t : ∀ t : Fin grid0.N, Pipeline.Window.flushOf grid0 true cc0_transform_4 t = true ↔ t.val % 4 = 3)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S128 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body , table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_MoeIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body's branch conditions -/

/-- The table's word 8 (the end of the last group): what the body and the index maps read of it. -/
abbrev lastW (xt : pre0.Contents (Elt F)) : BitVec 32 := xt.atD 0 ![8]

/-- A row tile is in some group: it starts below the end of the last group. -/
abbrev Valid (v1 : BitVec 32) (n : ℕ) : Prop := ((n * 512 : ℕ) : ℤ) < v1.toInt

instance (v1 : BitVec 32) (n : ℕ) : Decidable (Valid v1 n) := inferInstanceAs (Decidable (_ < _))

/-- The first conditional's condition, the only one the printed program leaves in line. -/
abbrev cond0 (i : grid0.Coords) (v1 : BitVec 32) : Prop :=
  Scalar.cmpi .ne (Scalar.extui (Scalar.andi (Scalar.cmpi .slt (Scalar.muli (BitVec.ofNat 32 (i 0).val) 512#32) v1) (Scalar.cmpi .eq (BitVec.ofNat 32 (i 1).val) 0#32))) 0#32 = 1#1

theorem slt_iff (n : ℕ) (hn : n < 36) (v1 : BitVec 32) :
    Scalar.cmpi .slt (Scalar.muli (BitVec.ofNat 32 n) 512#32) v1 = if Valid v1 n then 1#1 else 0#1 := by
  have h : Scalar.muli (BitVec.ofNat 32 n) 512#32 = BitVec.ofNat 32 (n * 512) := by
    show BitVec.ofNat 32 n * 512#32 = _
    rw [← BitVec.ofNat_mul]
  have h2 : (BitVec.ofNat 32 (n * 512)).toInt = ((n * 512 : ℕ) : ℤ) := by
    exact WordCmp.toInt_ofNat_of_lt (by show n * 512 < 2147483648; omega)
  rw [h]
  show BitVec.ofBool ((BitVec.ofNat 32 (n * 512)).slt v1) = _
  rw [BitVec.slt_eq_decide, h2]
  by_cases hv : Valid v1 n
  · rw [if_pos hv, decide_eq_true hv]; rfl
  · rw [if_neg hv, decide_eq_false hv]; rfl

theorem coord0 (t : Fin grid0.N) : (grid0.coords t 0).val = t.val / 4 := by
  have ht : t.val < 144 := Nat.lt_of_lt_of_eq t.isLt N_0
  have e0 : (grid0.coords t 0).val = t.val / 4 % 36 := Pipeline.Grid.coords_val t 0 (by decide) rfl
  omega
theorem coord1 (t : Fin grid0.N) : (grid0.coords t 1).val = t.val % 4 := by
  have e1 : (grid0.coords t 1).val = t.val / 1 % 4 := Pipeline.Grid.coords_val t 1 (by decide) rfl
  omega

theorem eq0_iff (n : ℕ) (hn : n < 4) : Scalar.cmpi .eq (BitVec.ofNat 32 n) 0#32 = if n = 0 then 1#1 else 0#1 := by
  revert n; decide
theorem gt0_iff (n : ℕ) (hn : n < 4) : Scalar.cmpi .sgt (BitVec.ofNat 32 n) 0#32 = if n = 0 then 0#1 else 1#1 := by
  revert n; decide

theorem hcond0 (v1 : BitVec 32) (t : Fin grid0.N) : cond0 (grid0.coords t) v1 ↔ Valid v1 (t.val / 4) ∧ t.val % 4 = 0 := by
  have ht : t.val < 144 := Nat.lt_of_lt_of_eq t.isLt N_0
  unfold cond0
  rw [coord0, coord1, slt_iff _ (by omega), eq0_iff _ (by omega)]
  by_cases h1 : Valid v1 (t.val / 4) <;> by_cases h2 : t.val % 4 = 0 <;> simp only [h1, h2, if_true, if_false] <;> decide
theorem hcond2 (v1 : BitVec 32) (t : Fin grid0.N) : k0_cond2 (grid0.coords t) v1 = 1#1 ↔ ¬ Valid v1 (t.val / 4) ∧ t.val % 4 = 0 := by
  have ht : t.val < 144 := Nat.lt_of_lt_of_eq t.isLt N_0
  unfold k0_cond2
  dsimp only
  rw [coord0, coord1, slt_iff _ (by omega), eq0_iff _ (by omega)]
  by_cases h1 : Valid v1 (t.val / 4) <;> by_cases h2 : t.val % 4 = 0 <;> simp only [h1, h2, if_true, if_false] <;> decide
theorem hcond3 (v1 : BitVec 32) (t : Fin grid0.N) : k0_cond3 (grid0.coords t) v1 = 1#1 ↔ Valid v1 (t.val / 4) := by
  have ht : t.val < 144 := Nat.lt_of_lt_of_eq t.isLt N_0
  unfold k0_cond3
  dsimp only
  rw [coord0, slt_iff _ (by omega)]
  by_cases h1 : Valid v1 (t.val / 4) <;> simp only [h1, if_true, if_false] <;> decide
theorem hcond4 (t : Fin grid0.N) : k0_cond4 (grid0.coords t) = 1#1 ↔ t.val % 4 = 0 := by
  unfold k0_cond4
  dsimp only
  rw [coord1, eq0_iff _ (by omega)]
  by_cases h2 : t.val % 4 = 0 <;> simp only [h2, if_true, if_false] <;> decide
theorem hcond5 (t : Fin grid0.N) : k0_cond5 (grid0.coords t) = 1#1 ↔ ¬ t.val % 4 = 0 := by
  unfold k0_cond5
  dsimp only
  rw [coord1, gt0_iff _ (by omega)]
  by_cases h2 : t.val % 4 = 0 <;> simp only [h2, if_true, if_false] <;> decide

/-- The output window is idle where the row tile is in no group, past the first expert. -/
theorem idle4 (pf : pre0.Contents (Elt F)) (t : Fin grid0.N) :
    idle0 pf 4 (grid0.coords t) = decide (¬ Valid (lastW pf) (t.val / 4) ∧ ¬ t.val % 4 = 0) := by
  rw [Bool.eq_iff_iff, decide_eq_true_iff]
  have h2 := hcond2 (lastW pf) t
  have h3 := hcond3 (lastW pf) t
  have h4 := hcond4 t
  have h5 := hcond5 t
  simp only [idle0, Bool.and_eq_true, Bool.not_eq_true', Bool.and_eq_false_iff, beq_eq_false_iff_ne, ne_eq]
  constructor
  · rintro ⟨⟨a, b⟩, d⟩
    by_cases hv : Valid (lastW pf) (t.val / 4)
    · rcases b with b | b
      · exact absurd (h3.mpr hv) b
      · rcases d with d | d
        · exact absurd (h3.mpr hv) d
        · exact absurd (h5.mpr fun e => b (h4.mpr e)) d
    · exact ⟨hv, fun e => a (h2.mpr ⟨hv, e⟩)⟩
  · rintro ⟨a, b⟩
    exact ⟨⟨fun e => b (h2.mp e).2, .inl fun e => a (h3.mp e)⟩, .inl fun e => a (h3.mp e)⟩

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x2176 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x2048 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S512x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.MoeIdeal.Routed

end
-- ==== Proof.MoeIdeal.Body.lean ====
/- The routed experts' kernel: what its body leaves, in each of its four cases. -/
module

public import proofs.«01_k».proof.Proof.MoeIdeal.Kit

@[expose] public section

set_option maxRecDepth 16384

noncomputable section

namespace Cert.MoeIdeal.Routed

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The row tile's activations, rounded: what the first expert's point keeps in the scratch. -/
def actsOf (x0 : Vec F S512x2176 .f32) : Vec F S512x2048 .bf16 :=
  k0_pay1 (View.ld x0 (Rect.unit (s := S512x2176) ![0, 0] S512x2048.size inb_S512x2176_S512x2048_0_0))

/-- The row tile's routing weights. -/
def routeOf (x0 : Vec F S512x2176 .f32) : Vec F S512x128 .f32 :=
  View.ld x0 (Rect.unit (s := S512x2176) ![0, 2048] S512x128.size inb_S512x2176_S512x128_0_2048)

theorem readAt_whole {s : Shape} {e : EltTy} (mr : Memref sig .tc .vmem s e) (h : mr.IsWhole) (X : s.Idx → Elt F e) (off : Fin s.rank → ℕ)
    (h0 : ∀ a, off a = 0) (inb : ∀ a, off a + s.size a ≤ s.size a) :
    mr.view.readAt (Elt F) (Rect.unit (s := s) off s.size inb).toLoadRect (h.unread X) = X := by
  funext x
  rw [Memref.IsWhole.readAt_unread]
  congr 1
  funext a
  apply Fin.ext
  show off a + 1 * (x a).val = (x a).val
  rw [h0]; omega

theorem readAt_part {s : Shape} {e : EltTy} (mr : Memref sig .tc .vmem s e) (h : mr.IsWhole) (X : s.Idx → Elt F e) (r : Rect s) :
    mr.view.readAt (Elt F) r.toLoadRect (h.unread X) = View.ld X r :=
  funext fun x => h.readAt_unread X r.toLoadRect x

/-- A store over a whole buffer leaves its payload. -/
theorem read_store_whole {s : Shape} {e : EltTy} (v : View sig .tc .vmem s e) (f : v.ty.Contents (Elt F)) (off : Fin s.rank → ℕ)
    (h0 : ∀ a, off a = 0) (inb : ∀ a, off a + s.size a ≤ s.size a) (X : s.Idx → Elt F e) (L : List (View.Piece (Elt F) s e)) :
    v.read (Elt F) (v.writes (Elt F) f (⟨Rect.unit (s := s) off s.size inb, X⟩ :: L)) = X := by
  have e0 : off = fun _ => 0 := funext h0
  funext y
  rw [View.read_writes_apply_eq_canon v f y _ ⟨_, List.mem_cons_self .., View.mem_set_unit_zero e0 inb y⟩, View.canon_cons_unit_zero e0]

set_option maxHeartbeats 1000000 in
/-- The first expert of a row tile in a group: the activations are kept in the scratch and the output is that expert's part. -/
theorem run_first (c : Dev nD) (i : grid0.Coords) (arg3 : Memref sig .tc .vmem S512x2176 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .bf16) (harg8 : arg8.IsWhole)
    (x0 : Vec F S512x2176 .f32) (x1 : Vec F S1x2048x512 .bf16) (x2 : Vec F S1x2048x512 .bf16) (x3 : Vec F S1x512x2048 .bf16) (pf : pre0.Contents (Elt F))
    (hc0 : cond0 i (lastW pf)) (hc2 : ¬ k0_cond2 i (lastW pf) = 1#1) (hc3 : k0_cond3 i (lastW pf) = 1#1) (hc4 : k0_cond4 i = 1#1) (hc5 : ¬ k0_cond5 i = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ tbPt0 c tbM0_0 (pf 0)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 i (actsOf x0) x1 x2 (routeOf x0) x3) ∗ owns (c : Thread nD τ) arg8 fullShare (actsOf x0) ∗ tbPt0 c tbM0_0 (pf 0)) -∗ K ⟨⟩))
          ⊢ wp frame (wpE (defs₀ (F := F)) Variants.none c none) E (cc0_moe i tbM0_0 htbM0_0 arg3 harg3 arg4 harg4 arg5 harg5 arg6 harg6 arg7 harg7 arg8 harg8) K := by
    intro E K
    simp only [cc0_moe_eq_skeleton]; unfold cc0_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, Hk⟩
    obtain rfl := harg3.eq_unread hf0; obtain rfl := harg4.eq_unread hf1; obtain rfl := harg5.eq_unread hf2; obtain rfl := harg6.eq_unread hf3
    skip
    skip
    sl_exec (disch := first | sl_exact hc0 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      rw [read_store_whole _ _ _ (by decide), readAt_whole _ _ _ _ (by decide), readAt_whole _ _ _ _ (by decide), readAt_whole _ _ _ _ (by decide), readAt_part]
      unfold run_first.sl.v14 run_first.sl.HS0_1
      rw [View.readCov_cons_toLoadRect, readAt_part]
      rfl
    isplitl [HS0]
    · iexists _; isplitr; swap; · iexact HS0
      ipureintro
      unfold run_first.sl.HS0_1
      rw [read_store_whole _ _ _ (by decide), readAt_part]
      rfl
    iexact HT0

set_option maxHeartbeats 1000000 in
/-- A later expert of such a row tile: its part, from the activations kept, is added to the output. -/
theorem run_next (c : Dev nD) (i : grid0.Coords) (arg3 : Memref sig .tc .vmem S512x2176 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .bf16) (harg8 : arg8.IsWhole)
    (x0 : Vec F S512x2176 .f32) (x1 : Vec F S1x2048x512 .bf16) (x2 : Vec F S1x2048x512 .bf16) (x3 : Vec F S1x512x2048 .bf16) (pf : pre0.Contents (Elt F)) (a : Vec F S512x2048 .bf16) (o : Vec F S512x2048 .f32)
    (hc0 : ¬ cond0 i (lastW pf)) (hc2 : ¬ k0_cond2 i (lastW pf) = 1#1) (hc3 : k0_cond3 i (lastW pf) = 1#1) (hc4 : ¬ k0_cond4 i = 1#1) (hc5 : k0_cond5 i = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare a ∗ tbPt0 c tbM0_0 (pf 0)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay4 i a x1 x2 (routeOf x0) x3 o) ∗ owns (c : Thread nD τ) arg8 fullShare a ∗ tbPt0 c tbM0_0 (pf 0)) -∗ K ⟨⟩))
          ⊢ wp frame (wpE (defs₀ (F := F)) Variants.none c none) E (cc0_moe i tbM0_0 htbM0_0 arg3 harg3 arg4 harg4 arg5 harg5 arg6 harg6 arg7 harg7 arg8 harg8) K := by
    intro E K
    simp only [cc0_moe_eq_skeleton]; unfold cc0_moe_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0
    sl_exec (disch := first | sl_exact hc0 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      rw [read_store_whole _ _ _ (by decide), readAt_whole _ _ _ _ (by decide), readAt_whole _ _ _ _ (by decide), readAt_whole _ _ _ _ (by decide), readAt_whole _ _ _ _ (by decide), readAt_whole _ _ _ _ (by decide), readAt_part]
      rfl
    isplitl [HS0]
    · iexists _; isplitr; swap; · iexact HS0
      ipureintro
      exact harg8.read_unread _
    iexact HT0

set_option maxHeartbeats 1000000 in
/-- The first point of a row tile in no group: the output is zero. -/
theorem run_zero (c : Dev nD) (i : grid0.Coords) (arg3 : Memref sig .tc .vmem S512x2176 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .bf16) (harg8 : arg8.IsWhole)
    (x0 : Vec F S512x2176 .f32) (x1 : Vec F S1x2048x512 .bf16) (x2 : Vec F S1x2048x512 .bf16) (x3 : Vec F S1x512x2048 .bf16) (pf : pre0.Contents (Elt F)) (a : Vec F S512x2048 .bf16)
    (hc0 : ¬ cond0 i (lastW pf)) (hc2 : k0_cond2 i (lastW pf) = 1#1) (hc3 : ¬ k0_cond3 i (lastW pf) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare a ∗ tbPt0 c tbM0_0 (pf 0)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 (F := F)) ∗ owns (c : Thread nD τ) arg8 fullShare a ∗ tbPt0 c tbM0_0 (pf 0)) -∗ K ⟨⟩))
          ⊢ wp frame (wpE (defs₀ (F := F)) Variants.none c none) E (cc0_moe i tbM0_0 htbM0_0 arg3 harg3 arg4 harg4 arg5 harg5 arg6 harg6 arg7 harg7 arg8 harg8) K := by
    intro E K
    simp only [cc0_moe_eq_skeleton]; unfold cc0_moe_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, Hk⟩
    obtain rfl := harg3.eq_unread hf0; obtain rfl := harg4.eq_unread hf1; obtain rfl := harg5.eq_unread hf2; obtain rfl := harg6.eq_unread hf3
    skip
    obtain rfl := harg8.eq_unread hfs0
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      rw [read_store_whole _ _ _ (by decide)]
    isplitl [HS0]
    · iexists _; isplitr; swap; · iexact HS0
      ipureintro
      exact harg8.read_unread _
    iexact HT0

set_option maxHeartbeats 1000000 in
/-- A later point of such a row tile: nothing is touched. -/
theorem run_idle (c : Dev nD) (i : grid0.Coords) (arg3 : Memref sig .tc .vmem S512x2176 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S512x2048 .f32) (harg7 : arg7.IsWhole) (arg8 : Memref sig .tc .vmem S512x2048 .bf16) (harg8 : arg8.IsWhole)
    (x0 : Vec F S512x2176 .f32) (x1 : Vec F S1x2048x512 .bf16) (x2 : Vec F S1x2048x512 .bf16) (x3 : Vec F S1x512x2048 .bf16) (pf : pre0.Contents (Elt F)) (a : Vec F S512x2048 .bf16) (o : Vec F S512x2048 .f32)
    (hc0 : ¬ cond0 i (lastW pf)) (hc2 : ¬ k0_cond2 i (lastW pf) = 1#1) (hc3 : ¬ k0_cond3 i (lastW pf) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare a ∗ tbPt0 c tbM0_0 (pf 0)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare a ∗ tbPt0 c tbM0_0 (pf 0)) -∗ K ⟨⟩))
          ⊢ wp frame (wpE (defs₀ (F := F)) Variants.none c none) E (cc0_moe i tbM0_0 htbM0_0 arg3 harg3 arg4 harg4 arg5 harg5 arg6 harg6 arg7 harg7 arg8 harg8) K := by
    intro E K
    simp only [cc0_moe_eq_skeleton]; unfold cc0_moe_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hfs0
    sl_exec (disch := first | sl_exact hc0 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      exact harg7.read_unread _
    isplitl [HS0]
    · iexists _; isplitr; swap; · iexact HS0
      ipureintro
      exact harg8.read_unread _
    iexact HT0

end Cert.MoeIdeal.Routed

end
-- ==== Proof.MoeIdeal.Run.lean ====
/- The routed experts' kernel: what its output and its scratch hold point by point, the obligation of its body, and its
   run, which names the result array and leaves the arguments as they were. -/
module

public import proofs.«01_k».proof.Proof.MoeIdeal.Body
public import Idealize.ShloMosaic.Lib.Claim

@[expose] public section

set_option maxRecDepth 16384

noncomputable section

namespace Cert.MoeIdeal.Routed

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, point by point -/

/-- The activations row tile `r` keeps in the scratch: its block's, rounded, as its first point stores them. -/
def kept (hO : Ok m) (c : Dev nD) (r : ℕ) : Vec F S512x2048 .bf16 :=
  if h : 4 * r < (cfgM m hO).N then actsOf (iblk m hO c 0 ⟨4 * r, h⟩) else actsOf (iblk m hO c 0 ⟨0, by rw [show (cfgM m hO).N = 144 from N_0]; decide⟩)

/-- The part of the expert of point `t`, computed from the activations kept. -/
def part (hO : Ok m) (c : Dev nD) (t : Fin (cfgM m hO).N) : Vec F S512x2048 .f32 :=
  k0_pay3 (grid0.coords t) (kept m hO c (t.val / 4)) (iblk m hO c 1 t) (iblk m hO c 2 t) (routeOf (iblk m hO c 0 t)) (iblk m hO c 3 t)

/-- The output after point `t`, from what it held before. -/
def step (hO : Ok m) (c : Dev nD) (t : Fin (cfgM m hO).N) (o : Vec F S512x2048 .f32) : Vec F S512x2048 .f32 :=
  if Valid (lastW (tbl m)) (t.val / 4) then
    if t.val % 4 = 0 then part m hO c t
    else k0_pay4 (grid0.coords t) (kept m hO c (t.val / 4)) (iblk m hO c 1 t) (iblk m hO c 2 t) (routeOf (iblk m hO c 0 t)) (iblk m hO c 3 t) o
  else if t.val % 4 = 0 then k0_pay2 (F := F) else o

/-- The output after point `n`: the sum of the parts of the row tile's experts so far, or zero for a row tile in no group. -/
def outs (hO : Ok m) (c : Dev nD) : (n : ℕ) → n < (cfgM m hO).N → Vec F S512x2048 .f32
  | 0, h => step m hO c ⟨0, h⟩ (k0_pay2 (F := F))
  | n + 1, h => step m hO c ⟨n + 1, h⟩ (outs hO c n (Nat.lt_of_succ_lt h))

theorem outs_first (hO : Ok m) (c : Dev nD) (t : Fin (cfgM m hO).N) (h0 : t.val % 4 = 0) :
    outs m hO c t.val t.isLt = if Valid (lastW (tbl m)) (t.val / 4) then part m hO c t else k0_pay2 (F := F) := by
  obtain ⟨n, hn⟩ := t
  cases n with
  | zero => rw [outs, step, if_pos h0, if_pos h0]
  | succ n => rw [outs, step, if_pos h0, if_pos h0]

theorem outs_next (hO : Ok m) (c : Dev nD) (t : Fin (cfgM m hO).N) (h0 : ¬ t.val % 4 = 0) :
    outs m hO c t.val t.isLt = step m hO c t (outs m hO c (t.val - 1) (Nat.lt_of_le_of_lt (Nat.sub_le _ _) t.isLt)) := by
  obtain ⟨n, hn⟩ := t
  cases n with
  | zero => exact absurd rfl h0
  | succ n => rfl

theorem kept_first (hO : Ok m) (c : Dev nD) (t : Fin (cfgM m hO).N) (h0 : t.val % 4 = 0) :
    kept m hO c (t.val / 4) = actsOf (iblk m hO c 0 t) := by
  have e : 4 * (t.val / 4) = t.val := by omega
  have h : 4 * (t.val / 4) < (cfgM m hO).N := by rw [e]; exact t.isLt
  unfold kept
  rw [dif_pos h]
  exact congrArg (fun t => actsOf (iblk m hO c 0 t)) (Fin.ext e)

/-- Before point `n` the scratch holds the row tile's activations, past its first point and if it is in a group. -/
abbrev Held (n : ℕ) : Prop := ¬ n % 4 = 0 ∧ Valid (lastW (tbl m)) (n / 4)

/-- The scratch before point `n`. -/
def scr (hO : Ok m) (c : Dev nD) (n : ℕ) : sProp 𝕄 :=
  iprop(∃ a, ⌜Held m n → a = kept m hO c (n / 4)⌝ ∗ owns (c : Thread nD τ) scM0_0 fullShare a)

/-! ## The pipeline's proof data -/

/-- The arrays as the region finds them; after the body at point `t` each input's buffer at its block and the output's at
    `outs`; the scratch as `scr` says. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outs m hO c t.val t.isLt
  Φ n := iprop((scr m hO c n.val ∗ (∃ r, prngReg c r)) ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

theorem after0_4 (hO : Ok m) (c : Dev nD) (t : Fin (cfgM m hO).N) : (dats m hO 0 c).after 4 t = outs m hO c t.val t.isLt := rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

theorem idle0_4 (hO : Ok m) (t : Fin (cfgM m hO).N) :
    (cfgM m hO).idle 4 ((cfgM m hO).grid.coords t) = decide (¬ Valid (lastW (tbl m)) (t.val / 4) ∧ ¬ t.val % 4 = 0) := idle4 (tbl m) t

theorem fresh4 (hO : Ok m) : ∀ n, n ≤ (cfgM m hO).N → (cfgM m hO).fresh 4 n = decide (n % 4 = 0) :=
  (cfgM m hO).fresh_tab 4 (fun n => decide (n % 4 = 0)) rfl fun t => by
    rw [idle0_4]
    by_cases hf : t.val % 4 = 3
    · rw [(flush0_4 (adm m hO) t).mpr hf, Bool.true_or, decide_eq_true_iff]; omega
    · rw [Bool.eq_false_iff.mpr fun e => hf ((flush0_4 (adm m hO) t).mp e), Bool.false_or]
      have e1 : decide ((t.val + 1) % 4 = 0) = false := decide_eq_false (by omega)
      rw [e1]
      by_cases h0 : t.val % 4 = 0 <;> simp [h0]

/-- The output's buffer before a point: anything at a row tile's first, else what the point before left. -/
theorem before0_4 (hO : Ok m) (c : Dev nD) (t : Fin (cfgM m hO).N) (d) : (dats m hO 0 c).before 4 t d
    = if t.val % 4 = 0 then d else outs m hO c (t.val - 1) (Nat.lt_of_le_of_lt (Nat.sub_le _ _) t.isLt) := by
  rw [(dats m hO 0 c).before_out_traj 4 rfl (fun _ _ => rfl) (fun t ht hi _ => by
    rw [idle0_4, decide_eq_true_iff] at hi
    rw [after0_4, after0_4, outs_next m hO c t hi.2, step, if_neg hi.1, if_neg hi.2]) t.val t rfl d, fresh4 m hO t.val (le_of_lt t.isLt)]
  by_cases h0 : t.val % 4 = 0
  · rw [decide_eq_true h0, if_pos rfl]; exact (if_pos h0).symm
  · rw [decide_eq_false h0, if_neg Bool.false_ne_true]; exact (if_neg h0).symm

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves4_live (hO : Ok m) (c : Dev nD) (t : Fin (cfgM m hO).N) (h : Valid (lastW (tbl m)) (t.val / 4) ∨ t.val % 4 = 0) :
    (dats m hO 0 c).leavesExact 4 t = owns (c : Thread nD τ) (ms0_4 m hO t) fullShare (outs m hO c t.val t.isLt) := by
  unfold Dat.leavesExact
  rw [idle0_4, decide_eq_false (by tauto)]
  rfl

/-- At an idle point the buffer goes back as it was found, which is what the point before left. -/
theorem leaves4_idle (hO : Ok m) (c : Dev nD) (t : Fin (cfgM m hO).N) (hv : ¬ Valid (lastW (tbl m)) (t.val / 4)) (h0 : ¬ t.val % 4 = 0) :
    owns (c : Thread nD τ) (ms0_4 m hO t) fullShare (outs m hO c (t.val - 1) (Nat.lt_of_le_of_lt (Nat.sub_le _ _) t.isLt))
      ⊢ (dats m hO 0 c).leavesExact 4 t := by
  unfold Dat.leavesExact
  rw [idle0_4, decide_eq_true ⟨hv, h0⟩]
  by_cases hf : ((cfgM m hO).win 4).flush t = true
  · rw [hf, after0_4, outs_next m hO c t h0, step, if_neg hv, if_neg h0]
    exact .rfl
  · rw [Bool.eq_false_iff.mpr hf]
    have e : ∀ d, (dats m hO 0 c).before 4 t d = outs m hO c (t.val - 1) (Nat.lt_of_le_of_lt (Nat.sub_le _ _) t.isLt) :=
      fun d => (before0_4 m hO c t d).trans (if_neg h0)
    simp only [e]
    iintro H
    iexists (outs m hO c (t.val - 1) (Nat.lt_of_le_of_lt (Nat.sub_le _ _) t.isLt))
    iexact H

set_option maxHeartbeats 800000 in
/-- The body at any point, by the four cases. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hb : ∀ d, ¬ t.val % 4 = 0 → (dats m hO 0 c).before 4 t d = outs m hO c (t.val - 1) (Nat.lt_of_le_of_lt (Nat.sub_le _ _) t.isLt) :=
    fun d h0 => (before0_4 m hO c t d).trans (if_neg h0)
  unfold bodyPre bodyPost bodyAt0
  simp only [before0_0, before0_1, before0_2, before0_3]
  have hN : t.val < 144 := lt_of_lt_of_eq t.isLt (show (cfgM m hO).N = 144 from N_0)
  by_cases hv : Valid (lastW (tbl m)) (t.val / 4)
  · by_cases h0 : t.val % 4 = 0
    · rw [leaves4_live m hO c t (.inl hv), outs_first m hO c t h0, if_pos hv, part, kept_first m hO c t h0]
      rw [show (dats m hO 0 c).owesAt () t.succ = (dats m hO 0 c).owesAt () t.castSucc from rfl]
      rw [show (dats m hO 0 c).Φ t.castSucc = iprop((scr m hO c t.val ∗ (∃ r, prngReg c r)) ∗ Pipeline.ΦT pre0 (tbl m) c) from rfl,
        show (dats m hO 0 c).Φ t.succ = iprop((scr m hO c (t.val + 1) ∗ (∃ r, prngReg c r)) ∗ Pipeline.ΦT pre0 (tbl m) c) from rfl, PhiT0_eq]
      rw [show (dats m hO 0 c).leavesExact 0 t = owns (c : Thread nD τ) (ms0_0 m hO t) fullShare ((dats m hO 0 c).after 0 t) from by
        unfold Dat.leavesExact; rw [liveAt0_0 m hO t]; try rfl, after0_0]
      rw [show (dats m hO 0 c).leavesExact 1 t = owns (c : Thread nD τ) (ms0_1 m hO t) fullShare ((dats m hO 0 c).after 1 t) from by
        unfold Dat.leavesExact; rw [liveAt0_1 m hO t]; try rfl, after0_1]
      rw [show (dats m hO 0 c).leavesExact 2 t = owns (c : Thread nD τ) (ms0_2 m hO t) fullShare ((dats m hO 0 c).after 2 t) from by
        unfold Dat.leavesExact; rw [liveAt0_2 m hO t]; try rfl, after0_2]
      rw [show (dats m hO 0 c).leavesExact 3 t = owns (c : Thread nD τ) (ms0_3 m hO t) fullShare ((dats m hO 0 c).after 3 t) from by
        unfold Dat.leavesExact; rw [liveAt0_3 m hO t]; try rfl, after0_3]
      unfold scr
      iintro ⟨⟨⟨⟨%a, -, HS0⟩, Hg⟩, HT0⟩, Ho, ⟨%d0, H0⟩, ⟨%d1, H1⟩, ⟨%d2, H2⟩, ⟨%d3, H3⟩, ⟨%d4, H4⟩⟩
      iapply ((run_first c (grid0.coords t) _ _ _ _ _ _ _ _ _ _ _ _ (iblk m hO c 0 t) (iblk m hO c 1 t) (iblk m hO c 2 t) (iblk m hO c 3 t) (tbl m) ((hcond0 _ t).mpr ⟨hv, h0⟩) (fun h => ((hcond2 _ t).mp h).1 hv) ((hcond3 _ t).mpr hv) ((hcond4 t).mpr h0) (fun h => (hcond5 t).mp h h0)) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HT0]; · iexact HT0
      iintro ⟨H0, H1, H2, H3, H4, HS0, HT0⟩
      isplitl [HS0 Hg HT0]
      · isplitl [HS0 Hg]
        · isplitl [HS0]
          · iexists _; isplitr; swap; · iexact HS0
            ipureintro
            intro _
            rw [show (t.val + 1) / 4 = t.val / 4 by omega, kept_first m hO c t h0]
          iexact Hg
        iexact HT0
      isplitl [Ho]; · iexact Ho
      isplitl [H0]; · iexact H0
      isplitl [H1]; · iexact H1
      isplitl [H2]; · iexact H2
      isplitl [H3]; · iexact H3
      iexact H4
    · have hh : Held m t.val := ⟨h0, hv⟩
      rw [leaves4_live m hO c t (.inl hv), outs_next m hO c t h0, step, if_pos hv, if_neg h0]
      simp only [fun d => hb d h0]
      rw [show (dats m hO 0 c).owesAt () t.succ = (dats m hO 0 c).owesAt () t.castSucc from rfl]
      rw [show (dats m hO 0 c).Φ t.castSucc = iprop((scr m hO c t.val ∗ (∃ r, prngReg c r)) ∗ Pipeline.ΦT pre0 (tbl m) c) from rfl,
        show (dats m hO 0 c).Φ t.succ = iprop((scr m hO c (t.val + 1) ∗ (∃ r, prngReg c r)) ∗ Pipeline.ΦT pre0 (tbl m) c) from rfl, PhiT0_eq]
      rw [show (dats m hO 0 c).leavesExact 0 t = owns (c : Thread nD τ) (ms0_0 m hO t) fullShare ((dats m hO 0 c).after 0 t) from by
        unfold Dat.leavesExact; rw [liveAt0_0 m hO t]; try rfl, after0_0]
      rw [show (dats m hO 0 c).leavesExact 1 t = owns (c : Thread nD τ) (ms0_1 m hO t) fullShare ((dats m hO 0 c).after 1 t) from by
        unfold Dat.leavesExact; rw [liveAt0_1 m hO t]; try rfl, after0_1]
      rw [show (dats m hO 0 c).leavesExact 2 t = owns (c : Thread nD τ) (ms0_2 m hO t) fullShare ((dats m hO 0 c).after 2 t) from by
        unfold Dat.leavesExact; rw [liveAt0_2 m hO t]; try rfl, after0_2]
      rw [show (dats m hO 0 c).leavesExact 3 t = owns (c : Thread nD τ) (ms0_3 m hO t) fullShare ((dats m hO 0 c).after 3 t) from by
        unfold Dat.leavesExact; rw [liveAt0_3 m hO t]; try rfl, after0_3]
      unfold scr
      iintro ⟨⟨⟨⟨%a, %ha, HS0⟩, Hg⟩, HT0⟩, Ho, ⟨%d0, H0⟩, ⟨%d1, H1⟩, ⟨%d2, H2⟩, ⟨%d3, H3⟩, ⟨%d4, H4⟩⟩
      obtain rfl := ha hh
      iapply ((run_next c (grid0.coords t) _ _ _ _ _ _ _ _ _ _ _ _ (iblk m hO c 0 t) (iblk m hO c 1 t) (iblk m hO c 2 t) (iblk m hO c 3 t) (tbl m) (kept m hO c (t.val / 4)) (outs m hO c (t.val - 1) (Nat.lt_of_le_of_lt (Nat.sub_le _ _) t.isLt)) (fun h => h0 ((hcond0 _ t).mp h).2) (fun h => ((hcond2 _ t).mp h).1 hv) ((hcond3 _ t).mpr hv) (fun h => h0 ((hcond4 t).mp h)) ((hcond5 t).mpr h0)) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      iintro ⟨H0, H1, H2, H3, H4, HS0, HT0⟩
      isplitl [HS0 Hg HT0]
      · isplitl [HS0 Hg]
        · isplitl [HS0]
          · iexists _; isplitr; swap; · iexact HS0
            ipureintro
            intro hh'
            rw [show (t.val + 1) / 4 = t.val / 4 by have := hh'.1; omega]
          iexact Hg
        iexact HT0
      isplitl [Ho]; · iexact Ho
      isplitl [H0]; · iexact H0
      isplitl [H1]; · iexact H1
      isplitl [H2]; · iexact H2
      isplitl [H3]; · iexact H3
      iexact H4
  · by_cases h0 : t.val % 4 = 0
    · rw [leaves4_live m hO c t (.inr h0), outs_first m hO c t h0, if_neg hv]
      rw [show (dats m hO 0 c).owesAt () t.succ = (dats m hO 0 c).owesAt () t.castSucc from rfl]
      rw [show (dats m hO 0 c).Φ t.castSucc = iprop((scr m hO c t.val ∗ (∃ r, prngReg c r)) ∗ Pipeline.ΦT pre0 (tbl m) c) from rfl,
        show (dats m hO 0 c).Φ t.succ = iprop((scr m hO c (t.val + 1) ∗ (∃ r, prngReg c r)) ∗ Pipeline.ΦT pre0 (tbl m) c) from rfl, PhiT0_eq]
      rw [show (dats m hO 0 c).leavesExact 0 t = owns (c : Thread nD τ) (ms0_0 m hO t) fullShare ((dats m hO 0 c).after 0 t) from by
        unfold Dat.leavesExact; rw [liveAt0_0 m hO t]; try rfl, after0_0]
      rw [show (dats m hO 0 c).leavesExact 1 t = owns (c : Thread nD τ) (ms0_1 m hO t) fullShare ((dats m hO 0 c).after 1 t) from by
        unfold Dat.leavesExact; rw [liveAt0_1 m hO t]; try rfl, after0_1]
      rw [show (dats m hO 0 c).leavesExact 2 t = owns (c : Thread nD τ) (ms0_2 m hO t) fullShare ((dats m hO 0 c).after 2 t) from by
        unfold Dat.leavesExact; rw [liveAt0_2 m hO t]; try rfl, after0_2]
      rw [show (dats m hO 0 c).leavesExact 3 t = owns (c : Thread nD τ) (ms0_3 m hO t) fullShare ((dats m hO 0 c).after 3 t) from by
        unfold Dat.leavesExact; rw [liveAt0_3 m hO t]; try rfl, after0_3]
      unfold scr
      iintro ⟨⟨⟨⟨%a, -, HS0⟩, Hg⟩, HT0⟩, Ho, ⟨%d0, H0⟩, ⟨%d1, H1⟩, ⟨%d2, H2⟩, ⟨%d3, H3⟩, ⟨%d4, H4⟩⟩
      iapply ((run_zero c (grid0.coords t) _ _ _ _ _ _ _ _ _ _ _ _ (iblk m hO c 0 t) (iblk m hO c 1 t) (iblk m hO c 2 t) (iblk m hO c 3 t) (tbl m) a (fun h => hv ((hcond0 _ t).mp h).1) ((hcond2 _ t).mpr ⟨hv, h0⟩) (fun h => hv ((hcond3 _ t).mp h))) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      iintro ⟨H0, H1, H2, H3, H4, HS0, HT0⟩
      isplitl [HS0 Hg HT0]
      · isplitl [HS0 Hg]
        · isplitl [HS0]
          · iexists _; isplitr; swap; · iexact HS0
            ipureintro
            intro hh'
            exact absurd (show Valid (lastW (tbl m)) (t.val / 4) by rw [← show (t.val + 1) / 4 = t.val / 4 by have := hh'.1; omega]; exact hh'.2) hv
          iexact Hg
        iexact HT0
      isplitl [Ho]; · iexact Ho
      isplitl [H0]; · iexact H0
      isplitl [H1]; · iexact H1
      isplitl [H2]; · iexact H2
      isplitl [H3]; · iexact H3
      iexact H4
    · simp only [fun d => hb d h0]
      rw [show (dats m hO 0 c).owesAt () t.succ = (dats m hO 0 c).owesAt () t.castSucc from rfl]
      rw [show (dats m hO 0 c).Φ t.castSucc = iprop((scr m hO c t.val ∗ (∃ r, prngReg c r)) ∗ Pipeline.ΦT pre0 (tbl m) c) from rfl,
        show (dats m hO 0 c).Φ t.succ = iprop((scr m hO c (t.val + 1) ∗ (∃ r, prngReg c r)) ∗ Pipeline.ΦT pre0 (tbl m) c) from rfl, PhiT0_eq]
      rw [show (dats m hO 0 c).leavesExact 0 t = owns (c : Thread nD τ) (ms0_0 m hO t) fullShare ((dats m hO 0 c).after 0 t) from by
        unfold Dat.leavesExact; rw [liveAt0_0 m hO t]; try rfl, after0_0]
      rw [show (dats m hO 0 c).leavesExact 1 t = owns (c : Thread nD τ) (ms0_1 m hO t) fullShare ((dats m hO 0 c).after 1 t) from by
        unfold Dat.leavesExact; rw [liveAt0_1 m hO t]; try rfl, after0_1]
      rw [show (dats m hO 0 c).leavesExact 2 t = owns (c : Thread nD τ) (ms0_2 m hO t) fullShare ((dats m hO 0 c).after 2 t) from by
        unfold Dat.leavesExact; rw [liveAt0_2 m hO t]; try rfl, after0_2]
      rw [show (dats m hO 0 c).leavesExact 3 t = owns (c : Thread nD τ) (ms0_3 m hO t) fullShare ((dats m hO 0 c).after 3 t) from by
        unfold Dat.leavesExact; rw [liveAt0_3 m hO t]; try rfl, after0_3]
      unfold scr
      iintro ⟨⟨⟨⟨%a, -, HS0⟩, Hg⟩, HT0⟩, Ho, ⟨%d0, H0⟩, ⟨%d1, H1⟩, ⟨%d2, H2⟩, ⟨%d3, H3⟩, ⟨%d4, H4⟩⟩
      iapply ((run_idle c (grid0.coords t) _ _ _ _ _ _ _ _ _ _ _ _ (iblk m hO c 0 t) (iblk m hO c 1 t) (iblk m hO c 2 t) (iblk m hO c 3 t) (tbl m) a (outs m hO c (t.val - 1) (Nat.lt_of_le_of_lt (Nat.sub_le _ _) t.isLt)) (fun h => hv ((hcond0 _ t).mp h).1) (fun h => h0 ((hcond2 _ t).mp h).2) (fun h => hv ((hcond3 _ t).mp h))) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      iintro ⟨H0, H1, H2, H3, H4, HS0, HT0⟩
      isplitl [HS0 Hg HT0]
      · isplitl [HS0 Hg]
        · isplitl [HS0]
          · iexists _; isplitr; swap; · iexact HS0
            ipureintro
            intro hh'
            exact absurd (show Valid (lastW (tbl m)) (t.val / 4) by rw [← show (t.val + 1) / 4 = t.val / 4 by have := hh'.1; omega]; exact hh'.2) hv
          iexact Hg
        iexact HT0
      isplitl [Ho]; · iexact Ho
      isplitl [H0]; · iexact H0
      isplitl [H1]; · iexact H1
      isplitl [H2]; · iexact H2
      isplitl [H3]; · iexact H3
      ihave H4 := (leaves4_idle m hO c t hv h0) $$ H4
      iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

set_option backward.isDefEq.respectTransparency.types false in
/-- The whole program runs to the end, each array as the proof data say, every semaphore back at zero. -/
theorem run_main (hO : Ok m) : θ_run defs (onTc (τ := τ) (main (F := F))) (s₀ m ρ) (fun r =>
    Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => by
      rw [show (dats m hO 0 c).Φ 0 = iprop((scr m hO c 0 ∗ (∃ r, prngReg c r)) ∗ Pipeline.ΦT pre0 (tbl m) c) from rfl]
      show iprop(Pipeline.ΦA spec0 c ∗ Pipeline.ΦT pre0 (tbl m) c) ⊢ _
      rw [PhiA0_eq]
      unfold scr
      iintro ⟨⟨⟨%a, HS0⟩, Hg⟩, HT⟩
      isplitl [HS0 Hg]
      · isplitl [HS0]
        · iexists _; isplitr; swap; · iexact HS0
          ipureintro
          intro hh
          exact absurd rfl hh.1
        iexact Hg
      iexact HT)
    (hout := fun c => by
      rw [show (dats m hO 0 c).Φ (Fin.last _) = iprop((scr m hO c (cfgM m hO).N ∗ (∃ r, prngReg c r)) ∗ Pipeline.ΦT pre0 (tbl m) c) from rfl]
      show _ ⊢ Pipeline.ΦA spec0 c
      rw [PhiA0_eq]
      unfold scr
      iintro ⟨⟨⟨%a, -, HS0⟩, Hg⟩, -⟩
      isplitl [HS0]
      · iexists _; iexact HS0
      iexact Hg)

/-- The run with the result array named, the arguments unchanged and the semaphores at zero. -/
theorem run_blocks (hO : Ok m) : θ_run defs (onTc (τ := τ) (main (F := F))) ⟨m, fun _ => 0, ρ⟩ (fun r => (∀ c : Dev nD,
      r.2.mem ((c.tc : Thread nD τ).loc main_v3) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => ⟨(hh.1 c).1 4,
      ((hh.1 c).2 main_arg0 (by decide : main_arg0 ∈ Pipeline.restRefs sig spec0)).trans (V_main_arg0 m c),
      ((hh.1 c).1 0).trans (((dats m hO 0 c).arrAt_in 0 rfl _).trans ((A_eq m hO c 0).trans (V_main_arg1 m c))),
      ((hh.1 c).2 main_arg2 (by decide : main_arg2 ∈ Pipeline.restRefs sig spec0)).trans (V_main_arg2 m c),
      ((hh.1 c).2 main_arg3 (by decide : main_arg3 ∈ Pipeline.restRefs sig spec0)).trans (V_main_arg3 m c),
      ((hh.1 c).2 main_arg4 (by decide : main_arg4 ∈ Pipeline.restRefs sig spec0)).trans (V_main_arg4 m c)⟩, hh.2⟩) (run_main m ρ hO)

/-- The frame: the arguments end unchanged, every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => (hh.1 c).2, hh.2⟩) (run_blocks m ρ hO)

end Cert.MoeIdeal.Routed

end
-- ==== Proof.MoeIdeal.Maps.lean ====
/- The index maps of the routed experts' kernel as arithmetic: which row tile and which expert a grid point reads, and that
   the blocks they name lie inside the arrays whatever the table holds. -/
module

public import proofs.«01_k».proof.Proof.MoeIdeal.Kit
public import Idealize.ShloMosaic.Lib.Routing.Words

@[expose] public section

set_option maxRecDepth 16384

noncomputable section

namespace Cert.MoeIdeal.Routed

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words the maps compute -/

/-- The last row tile in use, from the number of rows in use: its floor quotient by 512, less one. -/
def lastTile (v0 : BitVec 32) : BitVec 32 :=
  Scalar.subi (Scalar.select
    (Scalar.andi
      (Scalar.cmpi .ne (Scalar.subi (Scalar.extui (Scalar.cmpi .sgt v0 0#32)) (Scalar.extui (Scalar.cmpi .slt v0 0#32)))
        (Scalar.subi (Scalar.extui (Scalar.cmpi .sgt 512#32 0#32)) (Scalar.extui (Scalar.cmpi .slt 512#32 0#32))))
      (Scalar.cmpi .ne (Scalar.remsi v0 512#32) 0#32))
    (Scalar.subi (Scalar.divsi v0 512#32) 1#32) (Scalar.divsi v0 512#32)) 1#32

/-- The row tile a point of tile `n` reads: `n`, or the last in use. -/
def tileW (v0 n : BitVec 32) : BitVec 32 := Scalar.minsi n (Scalar.maxsi (lastTile v0) 0#32)

/-- The group of a row: how many of the three first rows are at most it. -/
def groupW (a b c x : BitVec 32) : BitVec 32 :=
  Scalar.addi (Scalar.addi (Scalar.addi 0#32 (Scalar.extui (Scalar.cmpi .sge x a))) (Scalar.extui (Scalar.cmpi .sge x b))) (Scalar.extui (Scalar.cmpi .sge x c))

/-- The group of row `x`, as a number. -/
def groupN (a b c : BitVec 32) (x : ℤ) : ℕ :=
  (if a.toInt ≤ x then 1 else 0) + (if b.toInt ≤ x then 1 else 0) + (if c.toInt ≤ x then 1 else 0)

theorem groupN_le (a b c : BitVec 32) (x : ℤ) : groupN a b c x ≤ 3 := by
  unfold groupN; split <;> split <;> split <;> omega

theorem groupW_eq (a b c x : BitVec 32) : groupW a b c x = BitVec.ofNat 32 (groupN a b c x.toInt) := by
  unfold groupW groupN
  simp only [WordCmp.scalar_cmpi_eq, WordCmp.cmpi_sge_eq, WordCmp.scalar_extui_ofBool, decide_eq_true_eq]
  split <;> split <;> split <;> rfl

theorem blockW_toNat (a b c x : BitVec 32) (e : ℕ) (he : e < 4) :
    (Scalar.addi (Scalar.muli (groupW a b c x) 4#32) (BitVec.ofNat 32 e)).toNat = groupN a b c x.toInt * 4 + e := by
  have h := groupN_le a b c x.toInt
  rw [groupW_eq]
  show ((BitVec.ofNat 32 (groupN a b c x.toInt) * BitVec.ofNat 32 4) + BitVec.ofNat 32 e).toNat = _
  rw [← BitVec.ofNat_mul, ← BitVec.ofNat_add, BitVec.toNat_ofNat]
  omega

theorem tileW_eq (v0 : BitVec 32) (n : ℕ) (hn : n < 2 ^ 31) : tileW v0 (BitVec.ofNat 32 n) = BitVec.ofNat 32 (min n (lastTile v0).toInt.toNat) := by
  have hnI : (BitVec.ofNat 32 n).toInt = n := WordCmp.toInt_ofNat_of_lt (by show n < 2147483648; omega)
  have key : ∀ x : BitVec 32, 0 ≤ x.toInt → x = BitVec.ofNat 32 x.toInt.toNat := fun x hx => by
    apply BitVec.eq_of_toNat_eq
    have := BitVec.toInt_eq_toNat_cond x
    have hl := x.isLt
    rw [BitVec.toNat_ofNat]
    split at this <;> omega
  have h0 : ((0#32 : BitVec 32)).toInt = 0 := by decide
  unfold tileW Scalar.minsi Scalar.maxsi IntOp.minsi IntOp.maxsi
  simp only [BitVec.slt_iff_toInt_lt, h0]
  by_cases ht : 0 < (lastTile v0).toInt
  · rw [if_pos ht, hnI]
    by_cases hm : (n : ℤ) < (lastTile v0).toInt
    · rw [if_pos hm, Nat.min_eq_left (by omega)]
    · rw [if_neg hm, Nat.min_eq_right (by omega)]
      exact key _ (by omega)
  · rw [if_neg ht, hnI, h0, if_neg (by omega), Nat.min_eq_right (by omega), show (lastTile v0).toInt.toNat = 0 by omega]

/-- With the rows in use whole tiles, the last tile is the one below the quotient. -/
theorem lastTile_mul (q : ℕ) (hq : 512 * q < 2 ^ 31) : (lastTile (BitVec.ofNat 32 (512 * q))).toInt = (q : ℤ) - 1 := by
  have hr : Scalar.remsi (BitVec.ofNat 32 (512 * q)) 512#32 = 0#32 := by
    refine (Routing.remsi_word _ hq (by omega) (by omega : 512 < 2 ^ 31)).trans ?_
    rw [Nat.mul_mod_right]
  have hd : Scalar.divsi (BitVec.ofNat 32 (512 * q)) 512#32 = BitVec.ofNat 32 q := by
    refine (Routing.divsi_word _ hq (by omega) (by omega : 512 < 2 ^ 31)).trans ?_
    rw [Nat.mul_div_cancel_left q (by omega)]
  unfold lastTile
  rw [hr, hd]
  have e : ∀ x : BitVec 1, Scalar.andi x (Scalar.cmpi .ne (0#32 : BitVec 32) 0#32) = 0#1 := by decide
  rw [e, WordCmp.select_zero]
  show (BitVec.ofNat 32 q - 1#32).toInt = _
  rw [BitVec.toInt_sub, WordCmp.toInt_ofNat_of_lt (by show q < 2147483648; omega)]
  show ((q : ℤ) - 1).bmod (2 ^ 32) = _
  exact Int.bmod_eq_of_le (by omega) (by omega)

/-! ## The maps -/

/-- Word `k` of the table. -/
def wordAt (pf : pre0.Contents (Elt F)) (k : Fin 128) : BitVec 32 :=
  pf 0 (fun a => ⟨k.val, by have h := k.isLt; revert h; rcases a with ⟨_ | n, ha⟩; exacts [id, absurd ha (Nat.not_lt.2 (Nat.le_add_left _ _))]⟩)

/-- The row tile point `n` of the grid's first axis reads. -/
def rowTile (pf : pre0.Contents (Elt F)) (n : ℕ) : ℕ := min n (lastTile (wordAt pf 8)).toInt.toNat

/-- Its group. -/
def groupOf (pf : pre0.Contents (Elt F)) (n : ℕ) : ℕ := groupN (wordAt pf 1) (wordAt pf 2) (wordAt pf 3) ((rowTile pf n * 512 : ℕ) : ℤ)

theorem at_word (pf : pre0.Contents (Elt F)) (k : ℕ) (hk : k < 128) (h : ∀ a, (![k] : Fin 1 → Nat) a + S1.size a ≤ S128.size a) (h1 : S1.numel = 1) :
    pf.at 0 (Rect.unit (s := S128) ![k] S1.size h) h1 = wordAt pf ⟨k, hk⟩ := by
  unfold wordAt
  refine congrArg (pf 0) (funext fun a => ?_)
  apply Fin.ext
  fin_cases a
  rfl

theorem lastW_eq (pf : pre0.Contents (Elt F)) : lastW pf = wordAt pf 8 := by
  unfold lastW Pipeline.Prefetch.Contents.atD
  rw [dif_pos (by decide)]
  refine congrArg (pf 0) (funext fun a => ?_)
  fin_cases a
  rfl

theorem rowTile_le (pf : pre0.Contents (Elt F)) (n : ℕ) : rowTile pf n ≤ n := Nat.min_le_left _ _

theorem rowTile_word (pf : pre0.Contents (Elt F)) (i : grid0.Coords) :
    tileW (wordAt pf 8) (BitVec.ofNat 32 (i 0).val) = BitVec.ofNat 32 (rowTile pf (i 0).val) :=
  tileW_eq _ _ (by have : (i 0).val < 36 := (i 0).isLt; omega)

theorem rowTile_lt (pf : pre0.Contents (Elt F)) (i : grid0.Coords) : rowTile pf (i 0).val < 36 :=
  lt_of_le_of_lt (rowTile_le pf _) (i 0).isLt

theorem map0 (pf : pre0.Contents (Elt F)) (i : grid0.Coords) :
    cc0_transform_0 inb_S128_S1_8 numel1_S1 pf i = ![rowTile pf (i 0).val, 0] := by
  have e : cc0_transform_0 inb_S128_S1_8 numel1_S1 pf i = ![(tileW (pf.at 0 (Rect.unit (s := S128) ![8] S1.size inb_S128_S1_8) numel1_S1) (BitVec.ofNat 32 (i 0).val)).toNat, 0] := rfl
  rw [e, at_word pf 8 (by omega) inb_S128_S1_8 numel1_S1, show (⟨8, by omega⟩ : Fin 128) = 8 from rfl, rowTile_word, BitVec.toNat_ofNat,
    Nat.mod_eq_of_lt (by have := rowTile_lt pf i; omega)]

/-- The expert's block of point `i`. -/
def blockOf (pf : pre0.Contents (Elt F)) (i : grid0.Coords) : ℕ := groupOf pf (i 0).val * 4 + (i 1).val

theorem blockOf_lt (pf : pre0.Contents (Elt F)) (i : grid0.Coords) : blockOf pf i < 16 := by
  have h1 : (i 1).val < 4 := (i 1).isLt
  have h2 := groupN_le (wordAt pf 1) (wordAt pf 2) (wordAt pf 3) ((rowTile pf (i 0).val * 512 : ℕ) : ℤ)
  unfold blockOf groupOf
  omega

theorem block_word (pf : pre0.Contents (Elt F)) (i : grid0.Coords) (w1 w2 w3 w8 : BitVec 32) (e1 : w1 = wordAt pf 1) (e2 : w2 = wordAt pf 2)
    (e3 : w3 = wordAt pf 3) (e8 : w8 = wordAt pf 8) :
    (Scalar.addi (Scalar.muli (groupW w1 w2 w3 (Scalar.muli (tileW w8 (BitVec.ofNat 32 (i 0).val)) 512#32)) 4#32) (BitVec.ofNat 32 (i 1).val)).toNat = blockOf pf i := by
  have h1 : (i 1).val < 4 := (i 1).isLt
  have h := rowTile_lt pf i
  subst e1 e2 e3 e8
  rw [blockW_toNat _ _ _ _ _ h1, rowTile_word]
  have e : Scalar.muli (BitVec.ofNat 32 (rowTile pf (i 0).val)) 512#32 = BitVec.ofNat 32 (rowTile pf (i 0).val * 512) :=
    (BitVec.ofNat_mul _ _).symm
  rw [e, WordCmp.toInt_ofNat_of_lt (by show rowTile pf (i 0).val * 512 < 2147483648; omega)]
  rfl

theorem map1 (pf : pre0.Contents (Elt F)) (i : grid0.Coords) :
    cc0_transform_1 inb_S128_S1_8 numel1_S1 inb_S128_S1_1 inb_S128_S1_2 inb_S128_S1_3 pf i = ![blockOf pf i, 0, 0] := by
  have e : cc0_transform_1 inb_S128_S1_8 numel1_S1 inb_S128_S1_1 inb_S128_S1_2 inb_S128_S1_3 pf i
    = ![(Scalar.addi (Scalar.muli (groupW (pf.at 0 (Rect.unit (s := S128) ![1] S1.size inb_S128_S1_1) numel1_S1) (pf.at 0 (Rect.unit (s := S128) ![2] S1.size inb_S128_S1_2) numel1_S1) (pf.at 0 (Rect.unit (s := S128) ![3] S1.size inb_S128_S1_3) numel1_S1) (Scalar.muli (tileW (pf.at 0 (Rect.unit (s := S128) ![8] S1.size inb_S128_S1_8) numel1_S1) (BitVec.ofNat 32 (i 0).val)) 512#32)) 4#32) (BitVec.ofNat 32 (i 1).val)).toNat, 0, 0] := rfl
  rw [e, block_word pf i _ _ _ _ (at_word pf 1 (by omega) inb_S128_S1_1 numel1_S1) (at_word pf 2 (by omega) inb_S128_S1_2 numel1_S1) (at_word pf 3 (by omega) inb_S128_S1_3 numel1_S1) (at_word pf 8 (by omega) inb_S128_S1_8 numel1_S1)]

theorem map2 (pf : pre0.Contents (Elt F)) (i : grid0.Coords) :
    cc0_transform_2 inb_S128_S1_8 numel1_S1 inb_S128_S1_1 inb_S128_S1_2 inb_S128_S1_3 pf i = ![blockOf pf i, 0, 0] := by
  have e : cc0_transform_2 inb_S128_S1_8 numel1_S1 inb_S128_S1_1 inb_S128_S1_2 inb_S128_S1_3 pf i
    = ![(Scalar.addi (Scalar.muli (groupW (pf.at 0 (Rect.unit (s := S128) ![1] S1.size inb_S128_S1_1) numel1_S1) (pf.at 0 (Rect.unit (s := S128) ![2] S1.size inb_S128_S1_2) numel1_S1) (pf.at 0 (Rect.unit (s := S128) ![3] S1.size inb_S128_S1_3) numel1_S1) (Scalar.muli (tileW (pf.at 0 (Rect.unit (s := S128) ![8] S1.size inb_S128_S1_8) numel1_S1) (BitVec.ofNat 32 (i 0).val)) 512#32)) 4#32) (BitVec.ofNat 32 (i 1).val)).toNat, 0, 0] := rfl
  rw [e, block_word pf i _ _ _ _ (at_word pf 1 (by omega) inb_S128_S1_1 numel1_S1) (at_word pf 2 (by omega) inb_S128_S1_2 numel1_S1) (at_word pf 3 (by omega) inb_S128_S1_3 numel1_S1) (at_word pf 8 (by omega) inb_S128_S1_8 numel1_S1)]

theorem map3 (pf : pre0.Contents (Elt F)) (i : grid0.Coords) :
    cc0_transform_3 inb_S128_S1_8 numel1_S1 inb_S128_S1_1 inb_S128_S1_2 inb_S128_S1_3 pf i = ![blockOf pf i, 0, 0] := by
  have e : cc0_transform_3 inb_S128_S1_8 numel1_S1 inb_S128_S1_1 inb_S128_S1_2 inb_S128_S1_3 pf i
    = ![(Scalar.addi (Scalar.muli (groupW (pf.at 0 (Rect.unit (s := S128) ![1] S1.size inb_S128_S1_1) numel1_S1) (pf.at 0 (Rect.unit (s := S128) ![2] S1.size inb_S128_S1_2) numel1_S1) (pf.at 0 (Rect.unit (s := S128) ![3] S1.size inb_S128_S1_3) numel1_S1) (Scalar.muli (tileW (pf.at 0 (Rect.unit (s := S128) ![8] S1.size inb_S128_S1_8) numel1_S1) (BitVec.ofNat 32 (i 0).val)) 512#32)) 4#32) (BitVec.ofNat 32 (i 1).val)).toNat, 0, 0] := rfl
  rw [e, block_word pf i _ _ _ _ (at_word pf 1 (by omega) inb_S128_S1_1 numel1_S1) (at_word pf 2 (by omega) inb_S128_S1_2 numel1_S1) (at_word pf 3 (by omega) inb_S128_S1_3 numel1_S1) (at_word pf 8 (by omega) inb_S128_S1_8 numel1_S1)]

/-- Every block the maps name is inside its array, whatever the table. -/
theorem ok0_all (pf : pre0.Contents (Elt F)) : ok0 pf :=
  ⟨fun i => ⟨fun a => by
    rw [map0]
    have h := rowTile_lt pf i
    fin_cases a
    · show (rowTile pf (i 0).val + 1) * 512 ≤ 18432; omega
    · show (0 + 1) * 2176 ≤ 2176; omega, .inl rfl⟩, fun i => ⟨fun a => by
    rw [map1]
    have h := blockOf_lt pf i
    fin_cases a
    · show (blockOf pf i + 1) * 1 ≤ 16; omega
    · show (0 + 1) * 2048 ≤ 2048; omega
    · show (0 + 1) * 512 ≤ 512; omega, .inr (Affine.block_words_dvd (of_decide_eq_true rfl) (by decide))⟩, fun i => ⟨fun a => by
    rw [map2]
    have h := blockOf_lt pf i
    fin_cases a
    · show (blockOf pf i + 1) * 1 ≤ 16; omega
    · show (0 + 1) * 2048 ≤ 2048; omega
    · show (0 + 1) * 512 ≤ 512; omega, .inr (Affine.block_words_dvd (of_decide_eq_true rfl) (by decide))⟩, fun i => ⟨fun a => by
    rw [map3]
    have h := blockOf_lt pf i
    fin_cases a
    · show (blockOf pf i + 1) * 1 ≤ 16; omega
    · show (0 + 1) * 512 ≤ 512; omega
    · show (0 + 1) * 2048 ≤ 2048; omega, .inr (Affine.block_words_dvd (of_decide_eq_true rfl) (by decide))⟩⟩

theorem ok : Ok m := ok0_all (tbl m)

end Cert.MoeIdeal.Routed

end
-- ==== Proof.Moe.Pay.lean ====
/- The routed experts' kernel at `Ideal`: what one point computes, index by index. -/
module

public import proofs.«01_k».proof.Proof.MoeIdeal.Run
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Proof.Moe

open Cert.MoeIdeal Cert.MoeIdeal.Gen Cert.MoeIdeal.Routed

/-- Of the lanes only the expert's own is kept. -/
theorem pick_lane (w : Fin 128 → EReal) (e : ℕ) (he : e < 4) :
    ∑ x : Fin 128, Scalar.select (IntOp.cmpi .eq (BitVec.ofNat 32 x.val) (BitVec.ofNat 32 e)) (w x) 0 = w ⟨e, by omega⟩ := by
  rw [Finset.sum_eq_single (⟨e, by omega⟩ : Fin 128)]
  · rw [WordCmp.cmpi_eq_ofNat (by omega) (by omega), WordCmp.select_ofBool, if_pos (by simp)]
  · intro x _ hx
    have hx' : x.val ≠ e := fun h => hx (Fin.ext h)
    rw [WordCmp.cmpi_eq_ofNat (by omega) (by omega), WordCmp.select_ofBool, if_neg (by simpa using hx')]
  · intro h; exact absurd (Finset.mem_univ _) h

theorem pay3_apply (i : grid0.Coords) (a : Vec Ideal S512x2048 .bf16) (g u : Vec Ideal S1x2048x512 .bf16) (w : Vec Ideal S512x128 .f32)
    (d : Vec Ideal S1x512x2048 .bf16) (j : S512x2048.Idx) :
    k0_pay3 (F := Ideal) i a g u w d j
      = ∑ f : Fin 512, (((∑ k : Fin 2048, a (ix2 (j 0) k) * g (ix3 0 k f)) * Ideal.logistic (∑ k : Fin 2048, a (ix2 (j 0) k) * g (ix3 0 k f)))
          * (∑ k : Fin 2048, a (ix2 (j 0) k) * u (ix3 0 k f)) * w (ix2 (j 0) ⟨(i 1).val, by have h : (i 1).val < 4 := (i 1).isLt; omega⟩)) * d (ix3 0 f (j 1)) := by
  pointwise [k0_pay3]
  have h : (i 1).val < 4 := (i 1).isLt
  simp only [pick_lane (fun x => w (ix2 (j 0) x)) (i 1).val h]

theorem pay4_apply (i : grid0.Coords) (a : Vec Ideal S512x2048 .bf16) (g u : Vec Ideal S1x2048x512 .bf16) (w : Vec Ideal S512x128 .f32)
    (d : Vec Ideal S1x512x2048 .bf16) (o : Vec Ideal S512x2048 .f32) (j : S512x2048.Idx) :
    k0_pay4 (F := Ideal) i a g u w d o j = o j + k0_pay3 (F := Ideal) i a g u w d j := by
  pointwise [k0_pay4]

end Cert.Proof.Moe

end
-- ==== Proof.Moe.Ref.lean ====
/- The routed experts' reference at `Ideal`, index by index. -/
module

public import proofs.«01_k».proof.Proof.MoeIdeal.Maps
public import proofs.«01_k».proof.Proof.Gen.MoeRefIdeal.Run
public import proofs.«01_k».proof.Proof.Gen.MoeRefIdeal.Read
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)

namespace Cert.Proof.MoeRef

open Cert.MoeRefIdeal Cert.MoeRefIdeal.Read

theorem ref_apply (x0 : IVec S128 32) (x1 : Vec Ideal S18432x2176 .f32) (x2 x3 : Vec Ideal S16x2048x512 .f32) (x4 : Vec Ideal S16x512x2048 .f32) (i : S18432x2048.Idx) :
    val_main_v42 (F := Ideal) x0 x1 x2 x3 x4 i = ∑ b : Fin 16, ∑ f : Fin 512, val_main_v41 (F := Ideal) x0 x1 x2 x3 (ix3 (i 0) b f) * x4 (ix3 b f (i 1)) := by
  pointwise [val_main_v42]

theorem v41_apply (x0 : IVec S128 32) (x1 : Vec Ideal S18432x2176 .f32) (x2 x3 : Vec Ideal S16x2048x512 .f32) (r : Fin 18432) (b : Fin 16) (f : Fin 512) :
    val_main_v41 (F := Ideal) x0 x1 x2 x3 (ix3 r b f) = (((∑ k : Fin 2048, x1 (ix2 r ⟨k.val, by omega⟩) * x2 (ix3 b k f)) * Ideal.logistic (∑ k : Fin 2048, x1 (ix2 r ⟨k.val, by omega⟩) * x2 (ix3 b k f)))
          * (∑ k : Fin 2048, x1 (ix2 r ⟨k.val, by omega⟩) * x3 (ix3 b k f))) * val_main_v34 (F := Ideal) x0 x1 (ix2 r b) := by
  rw [val_main_v41_apply, val_main_v38_apply, val_main_v37_apply]
  pointwise [val_main_v35, val_main_v36, val_main_v40, val_main_v39, Ideal.logistic, val_main_v0, val_main_call1_v5, val_main_call1_v4, val_main_call1_v3, val_main_call1_v2, val_main_call1_v1, val_main_call1_v0, val_main_call1_cst, val_main_call1_cst_0]

open Cert.MoeIdeal.Routed (groupN groupN_le)

/-- A row's weight for expert `e` of group `g`: zero outside its own group and past the rows in use. -/
theorem v33_apply (x0 : IVec S128 32) (x1 : Vec Ideal S18432x2176 .f32) (r : Fin 18432) (g e : Fin 4) :
    val_main_v33 (F := Ideal) x0 x1 (ix3 r g e)
      = if groupN (x0 (ix1 1)) (x0 (ix1 2)) (x0 (ix1 3)) (r.val : ℤ) = g.val ∧ (r.val : ℤ) < (x0 (ix1 8)).toInt then x1 (ix2 r ⟨2048 + e.val, by omega⟩) else 0 := by
  rw [val_main_v33_apply]
  pointwise [val_main_call0_v1, val_main_call0_v2, val_main_call0_v3, val_main_call0_v0, val_main_v31, val_main_v32, val_main_v30, val_main_v29, val_main_v28,
    val_main_v27, val_main_v26, val_main_v25, val_main_v24, val_main_v23, val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2, val_main_v1, val_main_cst]
  have hr : (BitVec.ofNat 32 r.val).toInt = (r.val : ℤ) := WordCmp.toInt_ofNat_of_lt (by show r.val < 2147483648; omega)
  have hz : (id (constant (F := Ideal) S_ FTy.f32 0#32) ix0) = (0 : EReal) := by
    show constant (F := Ideal) S_ FTy.f32 0#32 ix0 = (0 : EReal)
    pointwise
  have hg := groupN_le (x0 (ix1 1)) (x0 (ix1 2)) (x0 (ix1 3)) (r.val : ℤ)
  have hsum : IntOp.addi (IntOp.addi (BitVec.setWidth 32 (IntOp.cmpi .sge (BitVec.ofNat 32 r.val) (x0 (ix1 1))))
      (BitVec.setWidth 32 (IntOp.cmpi .sge (BitVec.ofNat 32 r.val) (x0 (ix1 2))))) (BitVec.setWidth 32 (IntOp.cmpi .sge (BitVec.ofNat 32 r.val) (x0 (ix1 3))))
      = BitVec.ofNat 32 (groupN (x0 (ix1 1)) (x0 (ix1 2)) (x0 (ix1 3)) (r.val : ℤ)) := by
    unfold groupN
    simp only [WordCmp.cmpi_sge_eq, Routing.setWidth_ofBool, hr]
    split <;> split <;> split <;> rfl
  rw [hz, hsum, WordCmp.cmpi_eq_ofNat (by omega) (by omega), WordCmp.cmpi_slt_eq, hr, WordCmp.andi_ofBool, WordCmp.select_ofBool]
  simp only [Bool.and_eq_true, decide_eq_true_eq]

/-- The hidden unit `f` of expert `b` for row `r`, before its weight. -/
def hid (x1 : Vec Ideal S18432x2176 .f32) (x2 x3 : Vec Ideal S16x2048x512 .f32) (r : Fin 18432) (b : Fin 16) (f : Fin 512) : EReal :=
  ((∑ k : Fin 2048, x1 (ix2 r ⟨k.val, by omega⟩) * x2 (ix3 b k f)) * Ideal.logistic (∑ k : Fin 2048, x1 (ix2 r ⟨k.val, by omega⟩) * x2 (ix3 b k f)))
    * (∑ k : Fin 2048, x1 (ix2 r ⟨k.val, by omega⟩) * x3 (ix3 b k f))

/-- Expert `e` of group `g`, weighted, for row `r`. -/
def expert (x1 : Vec Ideal S18432x2176 .f32) (x2 x3 : Vec Ideal S16x2048x512 .f32) (x4 : Vec Ideal S16x512x2048 .f32) (r : Fin 18432) (g : ℕ) (hg : g ≤ 3) (e : Fin 4) (h : Fin 2048) : EReal :=
  ∑ f : Fin 512, hid x1 x2 x3 r ⟨g * 4 + e.val, by omega⟩ f * x1 (ix2 r ⟨2048 + e.val, by omega⟩) * x4 (ix3 ⟨g * 4 + e.val, by omega⟩ f h)

/-- The reference: a row in use gets its group's four experts, every other row zero. -/
theorem ref_eq (x0 : IVec S128 32) (x1 : Vec Ideal S18432x2176 .f32) (x2 x3 : Vec Ideal S16x2048x512 .f32) (x4 : Vec Ideal S16x512x2048 .f32) (r : Fin 18432) (h : Fin 2048) :
    val_main_v42 (F := Ideal) x0 x1 x2 x3 x4 (ix2 r h) = if (r.val : ℤ) < (x0 (ix1 8)).toInt then
      ∑ e : Fin 4, expert x1 x2 x3 x4 r (groupN (x0 (ix1 1)) (x0 (ix1 2)) (x0 (ix1 3)) (r.val : ℤ)) (groupN_le _ _ _ _) e h else 0 := by
  rw [ref_apply]
  have hw : ∀ g e : Fin 4, val_main_v34 (F := Ideal) x0 x1 (ix2 r ⟨g.val * 4 + e.val, by omega⟩)
      = if groupN (x0 (ix1 1)) (x0 (ix1 2)) (x0 (ix1 3)) (r.val : ℤ) = g.val ∧ (r.val : ℤ) < (x0 (ix1 8)).toInt then x1 (ix2 r ⟨2048 + e.val, by omega⟩) else 0 := fun g e => by
    rw [← v33_apply, val_main_v34_apply]
    congr 1
    funext a
    apply Fin.ext
    fin_cases a
    · show (r.val * 16 + (g.val * 4 + e.val)) / 16 = r.val; omega
    · show (r.val * 16 + (g.val * 4 + e.val)) / 4 % 4 = g.val; omega
    · show (r.val * 16 + (g.val * 4 + e.val)) % 4 = e.val; omega
  have key : (∑ b : Fin 16, ∑ f : Fin 512, val_main_v41 (F := Ideal) x0 x1 x2 x3 (ix3 r b f) * x4 (ix3 b f h))
      = ∑ g : Fin 4, ∑ e : Fin 4, ∑ f : Fin 512, val_main_v41 (F := Ideal) x0 x1 x2 x3 (ix3 r ⟨g.val * 4 + e.val, by omega⟩ f) * x4 (ix3 ⟨g.val * 4 + e.val, by omega⟩ f h) := by
    rw [← Fintype.sum_prod_type' (f := fun g e : Fin 4 => ∑ f : Fin 512, val_main_v41 (F := Ideal) x0 x1 x2 x3 (ix3 r ⟨g.val * 4 + e.val, by omega⟩ f) * x4 (ix3 ⟨g.val * 4 + e.val, by omega⟩ f h))]
    refine (Fintype.sum_equiv (finProdFinEquiv (m := 4) (n := 4)) _ _ fun p => ?_).symm
    have e : (finProdFinEquiv (m := 4) (n := 4) p : Fin (4 * 4)) = (⟨p.1.val * 4 + p.2.val, by omega⟩ : Fin 16) := by
      apply Fin.ext
      show p.2.val + 4 * p.1.val = p.1.val * 4 + p.2.val
      omega
    rw [e]
  refine key.trans ?_
  by_cases hu : (r.val : ℤ) < (x0 (ix1 8)).toInt
  · rw [if_pos hu]
    have hg := groupN_le (x0 (ix1 1)) (x0 (ix1 2)) (x0 (ix1 3)) (r.val : ℤ)
    rw [Finset.sum_eq_single (⟨groupN (x0 (ix1 1)) (x0 (ix1 2)) (x0 (ix1 3)) (r.val : ℤ), by omega⟩ : Fin 4)]
    · refine Finset.sum_congr rfl fun e _ => Finset.sum_congr rfl fun f _ => ?_
      rw [v41_apply, hw ⟨groupN (x0 (ix1 1)) (x0 (ix1 2)) (x0 (ix1 3)) (r.val : ℤ), by omega⟩ e, if_pos ⟨rfl, hu⟩]
      rfl
    · intro g _ hne
      refine Finset.sum_eq_zero fun e _ => Finset.sum_eq_zero fun f _ => ?_
      rw [v41_apply, hw, if_neg (fun hc => hne (Fin.ext hc.1.symm)), mul_zero, zero_mul]
    · intro hc; exact absurd (Finset.mem_univ _) hc
  · rw [if_neg hu]
    refine Finset.sum_eq_zero fun g _ => Finset.sum_eq_zero fun e _ => Finset.sum_eq_zero fun f _ => ?_
    rw [v41_apply, hw, if_neg (fun hc => hu hc.2), mul_zero, zero_mul]

end Cert.Proof.MoeRef

end
-- ==== Proof.Moe.Blocks.lean ====
/- The routed experts' kernel at `Ideal`: the blocks its points read, as parts of the argument arrays. -/
module

public import proofs.«01_k».proof.Proof.Moe.Pay
public import proofs.«01_k».proof.Proof.Moe.Ref

@[expose] public section

noncomputable section

open Idealize.ShloMosaic Idealize.ShloMosaic.TcCoe Idealize.SL.Sem
open Idealize.ShloMosaic.Pipeline (Dat)

namespace Cert.Proof.Moe

open Cert.MoeIdeal Cert.MoeIdeal.Gen Cert.MoeIdeal.Routed
open Cert.Proof.MoeRef (hid expert)

variable (m : (ℓ : Loc nD τ sig) → Buf (Elt Ideal) ℓ) (ρ : Dev nD → PrngReg)

/-- The host's rounded copies of the weights are, at `Ideal`, the weights. -/
theorem V_main_v0 (c : Dev nD) : V m c main_v0 = m ((c : Thread nD τ).loc main_arg2) := by
  unfold V
  after_results
  rfl
theorem V_main_v1 (c : Dev nD) : V m c main_v1 = m ((c : Thread nD τ).loc main_arg3) := by
  unfold V
  after_results
  rfl
theorem V_main_v2 (c : Dev nD) : V m c main_v2 = m ((c : Thread nD τ).loc main_arg4) := by
  unfold V
  after_results
  rfl

theorem pt_lt (hO : Ok m) (t : Fin (cfgM m hO).N) : t.val < 144 := lt_of_lt_of_eq t.isLt (show (cfgM m hO).N = 144 from N_0)

/-- The table's words are the first argument's. -/
theorem word_arg (c : Dev nD) (k : Fin 128) : wordAt (tbl m) k = (m ((c : Thread nD τ).loc main_arg0) : IVec S128 32) (ix1 k) := by
  obtain rfl : c = 0 := Subsingleton.elim _ _
  unfold wordAt tbl
  rw [show V m (0 : Dev nD) (pre0.ref 0) = m (((0 : Dev nD) : Thread nD τ).loc main_arg0) from V_main_arg0 m 0]
  congr 1
  funext a
  fin_cases a
  rfl

theorem row_lt (hO : Ok m) (t : Fin (cfgM m hO).N) (y : Fin 512) : rowTile (tbl m) (t.val / 4) * 512 + y.val < 18432 := by
  have h := rowTile_le (tbl m) (t.val / 4)
  have h' := pt_lt m hO t
  omega

/-- The block of expert weights of point `t`. -/
def blkAt (t : ℕ) : ℕ := groupOf (tbl m) (t / 4) * 4 + t % 4

theorem blk_lt (t : ℕ) : blkAt m t < 16 := by
  have h2 := groupN_le (wordAt (tbl m) 1) (wordAt (tbl m) 2) (wordAt (tbl m) 3) ((rowTile (tbl m) (t / 4) * 512 : ℕ) : ℤ)
  unfold blkAt groupOf
  omega

theorem idx0 (hO : Ok m) (t : Fin (cfgM m hO).N) : ((cfgM m hO).win 0).index t = ![rowTile (tbl m) (t.val / 4), 0] := by
  have e := map0 (tbl m) (grid0.coords t)
  rw [coord0] at e
  exact e
theorem blockOf_eq (t : Fin grid0.N) : blockOf (tbl m) (grid0.coords t) = blkAt m t.val := by
  unfold blockOf blkAt
  rw [coord0, coord1]
theorem idx1 (hO : Ok m) (t : Fin (cfgM m hO).N) : ((cfgM m hO).win 1).index t = ![blkAt m t.val, 0, 0] := by
  have e := map1 (tbl m) (grid0.coords t)
  rw [blockOf_eq] at e
  exact e
theorem idx2 (hO : Ok m) (t : Fin (cfgM m hO).N) : ((cfgM m hO).win 2).index t = ![blkAt m t.val, 0, 0] := by
  have e := map2 (tbl m) (grid0.coords t)
  rw [blockOf_eq] at e
  exact e
theorem idx3 (hO : Ok m) (t : Fin (cfgM m hO).N) : ((cfgM m hO).win 3).index t = ![blkAt m t.val, 0, 0] := by
  have e := map3 (tbl m) (grid0.coords t)
  rw [blockOf_eq] at e
  exact e

theorem read0 (hO : Ok m) (c : Dev nD) (t : Fin (cfgM m hO).N) (y : Fin 512) (k : Fin 2176) :
    (iblk m hO c 0 t : Vec Ideal S512x2176 .f32) (ix2 y k) = (m ((c : Thread nD τ).loc main_arg1) : Vec Ideal S18432x2176 .f32) (ix2 ⟨rowTile (tbl m) (t.val / 4) * 512 + y.val, row_lt m hO t y⟩ k) := by
  have e := idx0 m hO t
  unfold iblk
  show V m c main_arg1 ((((cfgM m hO).win 0).blk t).view.emb _) = _
  rw [V_main_arg1]
  congr 1
  blk_ext [e]

theorem read1 (hO : Ok m) (c : Dev nD) (t : Fin (cfgM m hO).N) (k : Fin 2048) (f : Fin 512) :
    (iblk m hO c 1 t : Vec Ideal S1x2048x512 .bf16) (ix3 0 k f) = (m ((c : Thread nD τ).loc main_arg2) : Vec Ideal S16x2048x512 .f32) (ix3 ⟨blkAt m t.val, blk_lt m t.val⟩ k f) := by
  have e := idx1 m hO t
  unfold iblk
  show V m c main_v0 ((((cfgM m hO).win 1).blk t).view.emb _) = _
  rw [V_main_v0]
  congr 1
  blk_ext [e]

theorem read2 (hO : Ok m) (c : Dev nD) (t : Fin (cfgM m hO).N) (k : Fin 2048) (f : Fin 512) :
    (iblk m hO c 2 t : Vec Ideal S1x2048x512 .bf16) (ix3 0 k f) = (m ((c : Thread nD τ).loc main_arg3) : Vec Ideal S16x2048x512 .f32) (ix3 ⟨blkAt m t.val, blk_lt m t.val⟩ k f) := by
  have e := idx2 m hO t
  unfold iblk
  show V m c main_v1 ((((cfgM m hO).win 2).blk t).view.emb _) = _
  rw [V_main_v1]
  congr 1
  blk_ext [e]

theorem read3 (hO : Ok m) (c : Dev nD) (t : Fin (cfgM m hO).N) (f : Fin 512) (h : Fin 2048) :
    (iblk m hO c 3 t : Vec Ideal S1x512x2048 .bf16) (ix3 0 f h) = (m ((c : Thread nD τ).loc main_arg4) : Vec Ideal S16x512x2048 .f32) (ix3 ⟨blkAt m t.val, blk_lt m t.val⟩ f h) := by
  have e := idx3 m hO t
  unfold iblk
  show V m c main_v2 ((((cfgM m hO).win 3).blk t).view.emb _) = _
  rw [V_main_v2]
  congr 1
  blk_ext [e]

theorem acts_apply (x0 : Vec Ideal S512x2176 .f32) (y : Fin 512) (k : Fin 2048) : actsOf x0 (ix2 y k) = x0 (ix2 y ⟨k.val, by omega⟩) := by
  unfold actsOf
  pointwise [k0_pay1]

theorem route_apply (x0 : Vec Ideal S512x2176 .f32) (y : Fin 512) (k : Fin 128) : routeOf x0 (ix2 y k) = x0 (ix2 y ⟨2048 + k.val, by omega⟩) := by
  unfold routeOf View.ld
  congr 1
  funext a
  fin_cases a
  · apply Fin.ext; show 0 + 1 * y.val = y.val; omega
  · apply Fin.ext; show 2048 + 1 * k.val = 2048 + k.val; omega

theorem kept_apply (hO : Ok m) (c : Dev nD) (t : Fin (cfgM m hO).N) (y : Fin 512) (k : Fin 2048) :
    kept m hO c (t.val / 4) (ix2 y k) = (m ((c : Thread nD τ).loc main_arg1) : Vec Ideal S18432x2176 .f32) (ix2 ⟨rowTile (tbl m) (t.val / 4) * 512 + y.val, row_lt m hO t y⟩ ⟨k.val, by omega⟩) := by
  have h : 4 * (t.val / 4) < (cfgM m hO).N := lt_of_le_of_lt (by omega) t.isLt
  unfold kept
  rw [dif_pos h]
  refine (acts_apply _ y k).trans ((read0 m hO c _ y _).trans ?_)
  congr 2
  apply Fin.ext
  show rowTile (tbl m) (4 * (t.val / 4) / 4) * 512 + y.val = _
  rw [show 4 * (t.val / 4) / 4 = t.val / 4 by omega]

end Cert.Proof.Moe

end
-- ==== Proof.Moe.Value.lean ====
/- The routed experts' kernel at `Ideal`: the result array, and its agreement with the reference's. -/
module

public import proofs.«01_k».proof.Defs
public import proofs.«01_k».proof.Proof.MoeIdeal.Run
public import proofs.«01_k».proof.Proof.MoeIdeal.Maps
public import proofs.«01_k».proof.Proof.Moe.Run
public import proofs.«01_k».proof.Proof.Moe.Maps
public import proofs.«01_k».proof.Proof.Moe.Blocks
public import proofs.«01_k».proof.Proof.Gen.MoeRefIdeal.Run
public import proofs.«01_k».proof.Proof.Gen.MoeRefIdeal.Read
public import Idealize.ShloMosaic.Lib.Pipeline.ValueKit
public import Idealize.ShloMosaic.Lib.Claim
public import Idealize.ShloMosaic.Lib.Pipeline.Covers
public import Idealize.ShloMosaic.Lib.Pointwise
public import Idealize.ShloMosaic.Lib.StableHlo.Predicate

@[expose] public section

noncomputable section

open Idealize.ShloMosaic Idealize.ShloMosaic.TcCoe Idealize.SL.Sem
open Idealize.ShloMosaic.Pipeline (Dat)

namespace Cert.Proof.Moe

open Cert.MoeIdeal Cert.MoeIdeal.Gen Cert.MoeIdeal.Routed
open Cert.Proof.MoeRef (hid expert)

/-- The groups' first rows and the number of rows in use are multiples of the row tile. -/
def Tiled (x0 : IVec S128 32) : Prop :=
  (x0 (ix1 1)).toInt % 512 = 0 ∧ (x0 (ix1 2)).toInt % 512 = 0 ∧ (x0 (ix1 3)).toInt % 512 = 0 ∧ (x0 (ix1 8)).toInt % 512 = 0

/-- A word whose nine low bits are clear is a multiple of 512. -/
theorem mod_of_and (x : BitVec 32) (h : x &&& 511#32 = 0#32) : x.toInt % 512 = 0 := by
  have e : x.toNat % 512 = 0 := by
    have h' := congrArg BitVec.toNat h
    rw [BitVec.toNat_and] at h'
    have e' := Nat.and_two_pow_sub_one_eq_mod x.toNat 9
    exact e'.symm.trans h'
  have := BitVec.toInt_eq_toNat_cond x
  split at this <;> omega

/-- A row tile in use is the one its point reads. -/
theorem tile_in_use (w : BitVec 32) (n : ℕ) (h8 : w.toInt % 512 = 0) (hv : ((n * 512 : ℕ) : ℤ) < w.toInt) : min n (lastTile w).toInt.toNat = n := by
  obtain ⟨q, hq⟩ : ∃ q : ℕ, w.toInt = 512 * q := ⟨(w.toInt / 512).toNat, by omega⟩
  have hlt := BitVec.toInt_lt (x := w)
  have hw : w = BitVec.ofNat 32 (512 * q) := by
    apply BitVec.eq_of_toNat_eq
    have := BitVec.toInt_eq_toNat_cond w
    rw [BitVec.toNat_ofNat, Nat.mod_eq_of_lt (by omega)]
    split at this <;> omega
  have e := lastTile_mul q (by omega)
  rw [← hw] at e
  omega

/-- All rows of a tile are in one group. -/
theorem group_of_tile (a b c : BitVec 32) (n y : ℕ) (hy : y < 512) (ha : a.toInt % 512 = 0) (hb : b.toInt % 512 = 0) (hc : c.toInt % 512 = 0) :
    groupN a b c ((n * 512 : ℕ) : ℤ) = groupN a b c ((n * 512 + y : ℕ) : ℤ) := by
  have key : ∀ x : BitVec 32, x.toInt % 512 = 0 → (x.toInt ≤ ((n * 512 : ℕ) : ℤ) ↔ x.toInt ≤ ((n * 512 + y : ℕ) : ℤ)) := fun x hx => by omega
  unfold groupN
  simp only [key a ha, key b hb, key c hc]

/-- The result: for every row in use the sum over its group's four experts, zero for the others. -/
def routed (x0 : IVec S128 32) (x1 : Vec Ideal S18432x2176 .f32) (x2 x3 : Vec Ideal S16x2048x512 .f32) (x4 : Vec Ideal S16x512x2048 .f32)
    (r : Fin 18432) (h : Fin 2048) : EReal :=
  if (r.val : ℤ) < (x0 (ix1 8)).toInt then
    ∑ e : Fin 4, expert x1 x2 x3 x4 r (groupN (x0 (ix1 1)) (x0 (ix1 2)) (x0 (ix1 3)) (r.val : ℤ)) (groupN_le ..) e h
  else 0

variable (m : (ℓ : Loc nD τ sig) → Buf (Elt Ideal) ℓ) (ρ : Dev nD → PrngReg)

/-- A row times a column. -/
abbrev dot (a b : Fin 2048 → EReal) : EReal := ∑ k : Fin 2048, a k * b k

/-- The part point `t` adds is its expert's, for the rows of its tile. -/
theorem part_apply (hO : Ok m) (c : Dev nD) (t : Fin (cfgM m hO).N) (y : Fin 512) (h : Fin 2048) (r : Fin 18432) (g : ℕ) (hg : g ≤ 3) (e : Fin 4)
    (hr : rowTile (tbl m) (t.val / 4) * 512 + y.val = r.val) (hgr : groupOf (tbl m) (t.val / 4) = g) (he : t.val % 4 = e.val) :
    part m hO c t (ix2 y h) = expert (m ((c : Thread nD τ).loc main_arg1)) (m ((c : Thread nD τ).loc main_arg2)) (m ((c : Thread nD τ).loc main_arg3))
      (m ((c : Thread nD τ).loc main_arg4)) r g hg e h := by
  have er : (⟨rowTile (tbl m) (t.val / 4) * 512 + y.val, row_lt m hO t y⟩ : Fin 18432) = r := Fin.ext hr
  have eb : (⟨blkAt m t.val, blk_lt m t.val⟩ : Fin 16) = ⟨g * 4 + e.val, by omega⟩ := Fin.ext (by show blkAt m t.val = _; unfold blkAt; rw [hgr, he])
  have hA : ∀ k : Fin 2048, kept m hO c (t.val / 4) (ix2 y k) = (m ((c : Thread nD τ).loc main_arg1) : Vec Ideal S18432x2176 .f32) (ix2 r ⟨k.val, by omega⟩) :=
    fun k => (kept_apply m hO c t y k).trans (by rw [er])
  have hG : ∀ f : Fin 512, dot (fun k => kept m hO c (t.val / 4) (ix2 y k)) (fun k => (iblk m hO c 1 t : Vec Ideal S1x2048x512 .bf16) (ix3 0 k f))
      = dot (fun k => (m ((c : Thread nD τ).loc main_arg1) : Vec Ideal S18432x2176 .f32) (ix2 r ⟨k.val, by omega⟩))
          (fun k => (m ((c : Thread nD τ).loc main_arg2) : Vec Ideal S16x2048x512 .f32) (ix3 ⟨g * 4 + e.val, by omega⟩ k f)) :=
    fun f => congrArg₂ dot (funext hA) (funext fun k => (read1 m hO c t k f).trans (by rw [eb]))
  have hU : ∀ f : Fin 512, dot (fun k => kept m hO c (t.val / 4) (ix2 y k)) (fun k => (iblk m hO c 2 t : Vec Ideal S1x2048x512 .bf16) (ix3 0 k f))
      = dot (fun k => (m ((c : Thread nD τ).loc main_arg1) : Vec Ideal S18432x2176 .f32) (ix2 r ⟨k.val, by omega⟩))
          (fun k => (m ((c : Thread nD τ).loc main_arg3) : Vec Ideal S16x2048x512 .f32) (ix3 ⟨g * 4 + e.val, by omega⟩ k f)) :=
    fun f => congrArg₂ dot (funext hA) (funext fun k => (read2 m hO c t k f).trans (by rw [eb]))
  have hD : ∀ f : Fin 512, (iblk m hO c 3 t : Vec Ideal S1x512x2048 .bf16) (ix3 0 f h)
      = (m ((c : Thread nD τ).loc main_arg4) : Vec Ideal S16x512x2048 .f32) (ix3 ⟨g * 4 + e.val, by omega⟩ f h) :=
    fun f => (read3 m hO c t f h).trans (by rw [eb])
  have hW : ∀ hl : (grid0.coords t 1).val < 128, routeOf (iblk m hO c 0 t) (ix2 y ⟨(grid0.coords t 1).val, hl⟩)
      = (m ((c : Thread nD τ).loc main_arg1) : Vec Ideal S18432x2176 .f32) (ix2 r ⟨2048 + e.val, by omega⟩) := fun hl => by
    refine (route_apply _ y _).trans ((read0 m hO c t y _).trans ?_)
    rw [er]
    congr 2
    apply Fin.ext
    show 2048 + (grid0.coords t 1).val = _
    rw [coord1, he]
  unfold part
  refine (pay3_apply _ _ _ _ _ _ _).trans ?_
  unfold expert hid
  exact Finset.sum_congr rfl fun f _ => congrArg₂ (fun a b : EReal => a * b)
    (congrArg₂ (fun a b : EReal => a * b) (congrArg₂ (fun a b : EReal => a * Ideal.logistic a * b) (hG f) (hU f)) (hW _)) (hD f)

/-- The output block of a tile in use, after its last point: the sum of its four parts. -/
theorem outs_sum (hO : Ok m) (c : Dev nD) (n : ℕ) (h : 4 * n + 3 < (cfgM m hO).N) (hv : Valid (lastW (tbl m)) n) (j : S512x2048.Idx) :
    outs m hO c (4 * n + 3) h j = ∑ e : Fin 4, part m hO c ⟨4 * n + e.val, by omega⟩ j := by
  have e0 := outs_first m hO c ⟨4 * n, by omega⟩ (by show 4 * n % 4 = 0; omega)
  have e1 := outs_next m hO c ⟨4 * n + 1, by omega⟩ (by show ¬ (4 * n + 1) % 4 = 0; omega)
  have e2 := outs_next m hO c ⟨4 * n + 2, by omega⟩ (by show ¬ (4 * n + 2) % 4 = 0; omega)
  have e3 := outs_next m hO c ⟨4 * n + 3, by omega⟩ (by show ¬ (4 * n + 3) % 4 = 0; omega)
  have hv' : ∀ k : ℕ, k < 4 → Valid (lastW (tbl m)) ((4 * n + k) / 4) := fun k hk => by rw [show (4 * n + k) / 4 = n by omega]; exact hv
  have hs : ∀ (k : ℕ) (hk : k < 4) (hk0 : ¬ k = 0) (hl : 4 * n + k < (cfgM m hO).N) (o : Vec Ideal S512x2048 .f32),
      step m hO c ⟨4 * n + k, hl⟩ o j = o j + part m hO c ⟨4 * n + k, hl⟩ j := fun k hk hk0 hl o => by
    unfold step
    rw [if_pos (hv' k hk), if_neg (by show ¬ (4 * n + k) % 4 = 0; omega)]
    exact pay4_apply _ _ _ _ _ _ _ _
  have f0 : outs m hO c (4 * n) (by omega) j = part m hO c ⟨4 * n, by omega⟩ j := congrFun (e0.trans (if_pos (hv' 0 (by omega)))) j
  have f1 : outs m hO c (4 * n + 1) (by omega) j = outs m hO c (4 * n) (by omega) j + part m hO c ⟨4 * n + 1, by omega⟩ j :=
    (congrFun e1 j).trans (hs 1 (by omega) (by omega) _ _)
  have f2 : outs m hO c (4 * n + 2) (by omega) j = outs m hO c (4 * n + 1) (by omega) j + part m hO c ⟨4 * n + 2, by omega⟩ j :=
    (congrFun e2 j).trans (hs 2 (by omega) (by omega) _ _)
  have f3 : outs m hO c (4 * n + 3) (by omega) j = outs m hO c (4 * n + 2) (by omega) j + part m hO c ⟨4 * n + 3, by omega⟩ j :=
    (congrFun e3 j).trans (hs 3 (by omega) (by omega) _ _)
  rw [f3, f2, f1, f0, Fin.sum_univ_four]
  rfl

/-- The output block of a tile past the rows in use is zero. -/
theorem outs_zero (hO : Ok m) (c : Dev nD) (n : ℕ) (h : 4 * n + 3 < (cfgM m hO).N) (hv : ¬ Valid (lastW (tbl m)) n) (j : S512x2048.Idx) :
    outs m hO c (4 * n + 3) h j = (0 : EReal) := by
  have e0 := outs_first m hO c ⟨4 * n, by omega⟩ (by show 4 * n % 4 = 0; omega)
  have e1 := outs_next m hO c ⟨4 * n + 1, by omega⟩ (by show ¬ (4 * n + 1) % 4 = 0; omega)
  have e2 := outs_next m hO c ⟨4 * n + 2, by omega⟩ (by show ¬ (4 * n + 2) % 4 = 0; omega)
  have e3 := outs_next m hO c ⟨4 * n + 3, by omega⟩ (by show ¬ (4 * n + 3) % 4 = 0; omega)
  have hv' : ∀ k : ℕ, k < 4 → ¬ Valid (lastW (tbl m)) ((4 * n + k) / 4) := fun k hk => by rw [show (4 * n + k) / 4 = n by omega]; exact hv
  have hs : ∀ (k : ℕ) (hk : k < 4) (hk0 : ¬ k = 0) (hl : 4 * n + k < (cfgM m hO).N) (o : Vec Ideal S512x2048 .f32),
      step m hO c ⟨4 * n + k, hl⟩ o = o := fun k hk hk0 hl o => by
    unfold step
    rw [if_neg (hv' k hk), if_neg (by show ¬ (4 * n + k) % 4 = 0; omega)]
  have f0 : outs m hO c (4 * n) (by omega) = k0_pay2 (F := Ideal) := e0.trans (if_neg (hv' 0 (by omega)))
  have f1 : outs m hO c (4 * n + 1) (by omega) = outs m hO c (4 * n) (by omega) := e1.trans (hs 1 (by omega) (by omega) _ _)
  have f2 : outs m hO c (4 * n + 2) (by omega) = outs m hO c (4 * n + 1) (by omega) := e2.trans (hs 2 (by omega) (by omega) _ _)
  have f3 : outs m hO c (4 * n + 3) (by omega) = outs m hO c (4 * n + 2) (by omega) := e3.trans (hs 3 (by omega) (by omega) _ _)
  rw [f3, f2, f1, f0]
  pointwise [k0_pay2]

/-- The output block at its last point, row by row. -/
theorem outs_apply (hO : Ok m) (c : Dev nD) (hT : Tiled (m ((c : Thread nD τ).loc main_arg0))) (n : ℕ) (h : 4 * n + 3 < (cfgM m hO).N) (y : Fin 512) (k : Fin 2048)
    (r : Fin 18432) (hr : n * 512 + y.val = r.val) :
    outs m hO c (4 * n + 3) h (ix2 y k) = routed (m ((c : Thread nD τ).loc main_arg0)) (m ((c : Thread nD τ).loc main_arg1)) (m ((c : Thread nD τ).loc main_arg2))
      (m ((c : Thread nD τ).loc main_arg3)) (m ((c : Thread nD τ).loc main_arg4)) r k := by
  obtain ⟨h1, h2, h3, h8⟩ := hT
  have w1 := word_arg m c 1
  have w2 := word_arg m c 2
  have w3 := word_arg m c 3
  have w8 := word_arg m c 8
  have hval : Valid (lastW (tbl m)) n ↔ (r.val : ℤ) < ((m ((c : Thread nD τ).loc main_arg0) : IVec S128 32) (ix1 8)).toInt := by
    unfold Valid
    rw [lastW_eq, w8]
    have hy := y.isLt
    omega
  unfold routed
  by_cases hv : Valid (lastW (tbl m)) n
  · have ht : rowTile (tbl m) n = n := by
      unfold rowTile
      rw [w8]
      refine tile_in_use _ n h8 ?_
      have hv' := hv
      unfold Valid at hv'
      rwa [lastW_eq, w8] at hv'
    refine (outs_sum m hO c n h hv _).trans (Eq.trans ?_ (if_pos (hval.mp hv)).symm)
    refine Finset.sum_congr rfl fun e _ => part_apply m hO c _ y k r _ _ e ?_ ?_ ?_
    · show rowTile (tbl m) ((4 * n + e.val) / 4) * 512 + y.val = r.val
      rw [show (4 * n + e.val) / 4 = n by omega, ht, hr]
    · show groupOf (tbl m) ((4 * n + e.val) / 4) = _
      rw [show (4 * n + e.val) / 4 = n by omega]
      unfold groupOf
      rw [ht, w1, w2, w3, group_of_tile _ _ _ n y.val y.isLt h1 h2 h3, hr]
    · show (4 * n + e.val) % 4 = e.val
      omega
  · exact (outs_zero m hO c n h hv _).trans (if_neg fun hh => hv (hval.mpr hh)).symm

theorem idx4 (hO : Ok m) (t : Fin (cfgM m hO).N) : ((cfgM m hO).win 4).index t = ![t.val / 4, 0] := by
  have e : ((cfgM m hO).win 4).index t = ![(BitVec.ofNat 32 (grid0.coords t 0).val).toNat, 0] := rfl
  have h := pt_lt m hO t
  rw [e, coord0, BitVec.toNat_ofNat, Nat.mod_eq_of_lt (by omega)]

/-- Every block of the result is written back, after the last point of its row tile. -/
theorem covers4 (hO : Ok m) : ((cfgM m hO).win 4).Covers := by
  have hN : (cfgM m hO).N = 144 := N_0
  have hs : ∀ a : Fin 2, 0 < S512x2048.size a := by decide
  refine Pipeline.Window.covers_of_index_surj _ rfl hs fun β => ?_
  have n0 : ((cfgM m hO).win 4).nblk (0 : Fin 2) = (S18432x2048.size 0 + S512x2048.size 0 - 1) / S512x2048.size 0 := rfl
  have n1 : ((cfgM m hO).win 4).nblk (1 : Fin 2) = (S18432x2048.size 1 + S512x2048.size 1 - 1) / S512x2048.size 1 := rfl
  have h0 : (β (0 : Fin 2)).val < 36 := lt_of_lt_of_eq (β (0 : Fin 2)).isLt (n0.trans (by decide))
  have h1 : (β (1 : Fin 2)).val < 1 := lt_of_lt_of_eq (β (1 : Fin 2)).isLt (n1.trans (by decide))
  have hl : 4 * (β (0 : Fin 2)).val < (cfgM m hO).N := by omega
  have e := idx4 m hO ⟨4 * (β (0 : Fin 2)).val, hl⟩
  have e0 : 4 * (β (0 : Fin 2)).val / 4 = (β (0 : Fin 2)).val := by omega
  have key : ∀ a : Fin 2, (![4 * (β (0 : Fin 2)).val / 4, 0] : Fin 2 → ℕ) a = (β a).val := by
    intro a
    fin_cases a
    · exact e0
    · show 0 = (β (1 : Fin 2)).val
      omega
  exact ⟨⟨4 * (β (0 : Fin 2)).val, hl⟩, fun a => (congrFun e a).trans (key a)⟩

/-- The result array is the routed experts' sum of the argument arrays. -/
theorem final (hO : Ok m) (c : Dev nD) (hT : Tiled (m ((c : Thread nD τ).loc main_arg0))) : (dats m hO 0 c).arrAt 4 (cfgM m hO).N
    = fun i : S18432x2048.Idx => routed (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m hO 0 c).arrAt_eq_of_covers 4 _ (covers4 m hO) fun t hf y => ?_
  have ht : t.val % 4 = 3 := (flush0_4 (adm m hO) t).mp hf
  have e4 := idx4 m hO t
  have hp := pt_lt m hO t
  blk_simp
  rw [after0_4]
  obtain ⟨n, hn⟩ : ∃ n : ℕ, t.val = 4 * n + 3 := ⟨t.val / 4, by omega⟩
  obtain ⟨t, htl⟩ := t
  obtain rfl : t = 4 * n + 3 := hn
  have ey : y = (ix2 (n0 := 512) (n1 := 2048) (y (0 : Fin 2)) (y (1 : Fin 2)) : S512x2048.Idx) := by funext a; revert a; show ∀ a : Fin 2, _; intro a; fin_cases a <;> rfl
  have ek : (((cfgM m hO).win 4).blk ⟨4 * n + 3, htl⟩).view.emb y (1 : Fin 2) = (y (1 : Fin 2) : Fin 2048) := by
    apply Fin.ext
    blk_simp [e4]
  have er : n * 512 + (y (0 : Fin 2)).val = ((((cfgM m hO).win 4).blk ⟨4 * n + 3, htl⟩).view.emb y (0 : Fin 2)).val := by
    blk_simp [e4]
    show n * 512 + _ = (4 * n + 3) / 4 * 512 + _
    rw [show (4 * n + 3) / 4 = n by omega]
  refine (congrArg (outs m hO c (4 * n + 3) htl) ey).trans ((outs_apply m hO c hT n htl (y (0 : Fin 2)) (y (1 : Fin 2)) _ er).trans ?_)
  exact congrArg (routed _ _ _ _ _ _) ek.symm

/-- The reference's result is the same function of its arguments. -/
theorem reference_eq (x0 : IVec S128 32) (x1 : Vec Ideal S18432x2176 .f32) (x2 x3 : Vec Ideal S16x2048x512 .f32) (x4 : Vec Ideal S16x512x2048 .f32) :
    Cert.MoeRefIdeal.Read.val_main_v42 (F := Ideal) x0 x1 x2 x3 x4 = fun i => routed x0 x1 x2 x3 x4 (i 0) (i 1) := by
  funext i
  have e : i = ix2 (i 0) (i 1) := by funext a; fin_cases a <;> rfl
  exact (congrArg _ e).trans (Cert.Proof.MoeRef.ref_eq x0 x1 x2 x3 x4 (i 0) (i 1))

/-- The claim's precondition, read off the table. -/
theorem tiled_of [Cert.Pre_tiled.Facts] (x0 : IVec S128 32) (x1 : Vec Ideal S18432x2176 .f32) (x2 x3 : Vec Ideal S16x2048x512 .f32) (x4 : Vec Ideal S16x512x2048 .f32)
    (h : Cert.Pre_tiled.fn (F := Ideal) x0 x1 x2 x3 x4 = fun _ => 1#1) : Tiled x0 := by
  have h' := congrFun h ix0
  simp only [Cert.Pre_tiled.fn, Cert.Pre_tiled.fn_part1] at h'
  have split : ∀ a b : BitVec 1, IntOp.andi a b = 1#1 → a = 1#1 ∧ b = 1#1 := by decide
  have word : ∀ (k : Fin 128) (hs : Cert.Pre_tiled.S128.Slices ![k.val] Cert.Pre_tiled.S1) (hc : Cert.Pre_tiled.S1.ShapeCasts Cert.Pre_tiled.S_),
      IntOp.cmpi .eq (IntOp.andi (shapeCast Cert.Pre_tiled.S_ (extractStridedSlice Cert.Pre_tiled.S1 ![k.val] x0 hs) hc ix0) 511#32) 0#32 = 1#1 → (x0 (ix1 k)).toInt % 512 = 0 := by
    intro k hs hc hk
    have e := mod_of_and _ (StableHlo.Predicate.cmpi_eq_iff.mp hk)
    have e' : shapeCast Cert.Pre_tiled.S_ (extractStridedSlice Cert.Pre_tiled.S1 ![k.val] x0 hs) hc ix0 = x0 (ix1 k) := by
      pointwise
    rwa [e'] at e
  obtain ⟨ha, h8⟩ := split _ _ h'
  obtain ⟨ha, h3⟩ := split _ _ ha
  obtain ⟨h1, h2⟩ := split _ _ ha
  exact ⟨word 1 _ _ h1, word 2 _ _ h2, word 3 _ _ h3, word 8 _ _ h8⟩

/-- What the run leaves, without the semaphores. -/
theorem run_arrays (g : Dev nD → PrngReg) : θ_run defs (onTc (τ := τ) (main (F := Ideal))) ⟨m, fun _ => 0, g⟩ (fun r => ∀ c : Dev nD,
      r.2.mem ((c.tc : Thread nD τ).loc main_v3) = (dats m (ok m) 0 c).arrAt 4 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h => h.1) (run_blocks m g (ok m))

theorem routed_congr {x0 y0 : IVec S128 32} {x1 y1 : Vec Ideal S18432x2176 .f32} {x2 y2 x3 y3 : Vec Ideal S16x2048x512 .f32} {x4 y4 : Vec Ideal S16x512x2048 .f32}
    (h0 : x0 = y0) (h1 : x1 = y1) (h2 : x2 = y2) (h3 : x3 = y3) (h4 : x4 = y4) :
    (fun i : S18432x2048.Idx => routed x0 x1 x2 x3 x4 (i 0) (i 1)) = fun i => routed y0 y1 y2 y3 y4 (i 0) (i 1) := by
  rw [h0, h1, h2, h3, h4]

/-- At `Ideal` the kernel's result array and the reference's agree. -/
theorem algebraic [Cert.Pre_tiled.Facts] : Cert.algebraic_MoeIdeal_MoeRefIdeal_pre_tiled := by
  pair_intro
  · run_from run_arrays m g
  · have hT : ∀ c : Dev nD, Tiled (m ((c : Thread nD τ).loc main_arg0)) := fun c =>
      tiled_of (m ((c : Thread nD τ).loc main_arg0)) (m ((c : Thread nD τ).loc main_arg1)) (m ((c : Thread nD τ).loc main_arg2))
        (m ((c : Thread nD τ).loc main_arg3)) (m ((c : Thread nD τ).loc main_arg4)) (hpre c)
    refine (θ_run _ _ _).mono (fun r h c => ⟨?_, (h c).2⟩) (Cert.MoeRefIdeal.Value.run m' g')
    obtain ⟨a0, a1, a2, a3, a4⟩ := hagree c
    exact (h c).1.trans ((Cert.MoeRefIdeal.Read.val_main_v42_eq _ _ _ _ _).trans ((reference_eq _ _ _ _ _).trans
      ((routed_congr a0 a1 a2 a3 a4).trans (final m (ok m) c (hT c)).symm)))

end Cert.Proof.Moe

end
-- ==== Proof.InIdeal.Body.lean ====
/- The input projection's kernel: its branch condition, its staging memrefs, and what its body leaves at a row tile's first
   column tile and at a later one. -/
module

public import proofs.«01_k».proof.Proof.Gen.InIdeal.Skeleton
public import proofs.«01_k».proof.Proof.Gen.InIdeal.Frame
public import Idealize.ShloMosaic.Lib.Pipeline.FrameBody
public import Idealize.ShloMosaic.Lib.Pipeline.ValueKit
public import Idealize.ShloMosaic.Lib.Pipeline.TableIdle
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.InIdeal.Proj

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: it is taken at the first column tile of a row tile. -/
abbrev First (i : grid0.Coords) : Prop := k0_cond1 i = 1#1

theorem first_iff : ∀ t : Fin cfg0.N, First (grid0.coords t) ↔ t.val % 9 = 0 :=
  (fun t => by
    have ht : t.val < 144 := Nat.lt_of_lt_of_eq t.isLt N_0
    have e1 : (grid0.coords t 1).val = t.val / 1 % 9 := Pipeline.Grid.coords_val t 1 (by decide) rfl
    simp only [First, k0_cond1, e1]
    word_cmp
   : ∀ t : Fin grid0.N, First (grid0.coords t) ↔ t.val % 9 = 0)

abbrev ms0_0 (t : Fin cfg0.N) : Memref sig .tc .vmem S1024x2048 .f32 := win0_0.stage (cfg0.slots t 0)
abbrev ms0_1 (t : Fin cfg0.N) : Memref sig .tc .vmem S2048x1536 .bf16 := win0_1.stage (cfg0.slots t 1)
abbrev ms0_2 (t : Fin cfg0.N) : Memref sig .tc .vmem S2048x128 .bf16 := win0_2.stage (cfg0.slots t 2)
abbrev ms0_3 (t : Fin cfg0.N) : Memref sig .tc .vmem S128x2048 .bf16 := win0_3.stage (cfg0.slots t 3)
abbrev ms0_4 (t : Fin cfg0.N) : Memref sig .tc .vmem S1x128 .f32 := win0_4.stage (cfg0.slots t 4)
abbrev ms0_5 (t : Fin cfg0.N) : Memref sig .tc .vmem S128x1 .f32 := win0_5.stage (cfg0.slots t 5)
abbrev ms0_6 (t : Fin cfg0.N) : Memref sig .tc .vmem S1024x1536 .bf16 := win0_6.stage (cfg0.slots t 6)
abbrev ms0_7 (t : Fin cfg0.N) : Memref sig .tc .vmem S1024x128 .f32 := win0_7.stage (cfg0.slots t 7)
abbrev ms0_8 (t : Fin cfg0.N) : Memref sig .tc .vmem S128x1024 .f32 := win0_8.stage (cfg0.slots t 8)

/-- The scratch. -/
abbrev scM : Memref sig .tc .vmem S1024x2048 .bf16 := Memref.whole cc0_scratch0

/-- What the region lends the body: the scratch at anything and the generator's register. -/
theorem lent_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- A load of a whole buffer reads its contents. -/
theorem readAt_whole {s : Shape} {e : EltTy} (mr : Memref sig .tc .vmem s e) (h : mr.IsWhole) (X : s.Idx → Elt F e) (off : Fin s.rank → ℕ)
    (h0 : ∀ a, off a = 0) (inb : ∀ a, off a + s.size a ≤ s.size a) :
    mr.view.readAt (Elt F) (Rect.unit (s := s) off s.size inb).toLoadRect (h.unread X) = X := by
  funext x
  rw [Memref.IsWhole.readAt_unread]
  congr 1
  funext a
  apply Fin.ext
  show off a + 1 * (x a).val = (x a).val
  rw [h0]; omega

/-- A store over a whole buffer leaves its payload. -/
theorem read_store_whole {s : Shape} {e : EltTy} (v : View sig .tc .vmem s e) (f : v.ty.Contents (Elt F)) (off : Fin s.rank → ℕ)
    (h0 : ∀ a, off a = 0) (inb : ∀ a, off a + s.size a ≤ s.size a) (X : s.Idx → Elt F e) (L : List (View.Piece (Elt F) s e)) :
    v.read (Elt F) (v.writes (Elt F) f (⟨Rect.unit (s := s) off s.size inb, X⟩ :: L)) = X := by
  have e0 : off = fun _ => 0 := funext h0
  funext y
  rw [View.read_writes_apply_eq_canon v f y _ ⟨_, List.mem_cons_self .., View.mem_set_unit_zero e0 inb y⟩, View.canon_cons_unit_zero e0]

set_option maxHeartbeats 1000000 in
/-- At a row tile's first column tile the rows are rounded and kept, both gate outputs are computed, and the output is the kept
    rows times the column tile. -/
theorem run_first (c : Dev nD) (i : grid0.Coords) (arg2 : Memref sig .tc .vmem S1024x2048 .f32) (harg2 : arg2.IsWhole) (arg3 : Memref sig .tc .vmem S2048x1536 .bf16) (harg3 : arg3.IsWhole) (arg4 : Memref sig .tc .vmem S2048x128 .bf16) (harg4 : arg4.IsWhole) (arg5 : Memref sig .tc .vmem S128x2048 .bf16) (harg5 : arg5.IsWhole) (arg6 : Memref sig .tc .vmem S1x128 .f32) (harg6 : arg6.IsWhole) (arg7 : Memref sig .tc .vmem S128x1 .f32) (harg7 : arg7.IsWhole) (arg8 : Memref sig .tc .vmem S1024x1536 .bf16) (harg8 : arg8.IsWhole) (arg9 : Memref sig .tc .vmem S1024x128 .f32) (harg9 : arg9.IsWhole) (arg10 : Memref sig .tc .vmem S128x1024 .f32) (harg10 : arg10.IsWhole) (arg11 : Memref sig .tc .vmem S1024x2048 .bf16) (harg11 : arg11.IsWhole)
    (x0 : Vec F S1024x2048 .f32) (x1 : Vec F S2048x1536 .bf16) (x2 : Vec F S2048x128 .bf16) (x3 : Vec F S128x2048 .bf16) (x4 : Vec F S1x128 .f32) (x5 : Vec F S128x1 .f32) (hc : First i) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay5 (k0_pay2 x0) x1) ∗ owns (c : Thread nD τ) arg9 fullShare (k0_pay3 x0 x2 x4) ∗ owns (c : Thread nD τ) arg10 fullShare (k0_pay4 x0 x3 x5) ∗ owns (c : Thread nD τ) arg11 fullShare (k0_pay2 x0)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
    intro E K
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [read_store_whole _ _ _ (by decide), readAt_whole _ _ _ _ (by decide)]
      unfold run_first.sl.v3 run_first.sl.HS0_1
      rw [View.readCov_cons_toLoadRect, readAt_whole _ _ _ _ (by decide)]
    isplitl [H7]
    · iexists _; isplitr; swap; · iexact H7
      ipureintro
      rw [read_store_whole _ _ _ (by decide), readAt_whole _ _ _ _ (by decide), readAt_whole _ _ _ _ (by decide), readAt_whole _ _ _ _ (by decide)]
    isplitl [H8]
    · iexists _; isplitr; swap; · iexact H8
      ipureintro
      rw [read_store_whole _ _ _ (by decide), readAt_whole _ _ _ _ (by decide), readAt_whole _ _ _ _ (by decide), readAt_whole _ _ _ _ (by decide)]
    iexists _; isplitr; swap; · iexact HS0
    ipureintro
    unfold run_first.sl.HS0_1
    rw [read_store_whole _ _ _ (by decide), readAt_whole _ _ _ _ (by decide)]

set_option maxHeartbeats 1000000 in
/-- At a later column tile only the output is written: the kept rows times the column tile. -/
theorem run_next (c : Dev nD) (i : grid0.Coords) (arg2 : Memref sig .tc .vmem S1024x2048 .f32) (harg2 : arg2.IsWhole) (arg3 : Memref sig .tc .vmem S2048x1536 .bf16) (harg3 : arg3.IsWhole) (arg4 : Memref sig .tc .vmem S2048x128 .bf16) (harg4 : arg4.IsWhole) (arg5 : Memref sig .tc .vmem S128x2048 .bf16) (harg5 : arg5.IsWhole) (arg6 : Memref sig .tc .vmem S1x128 .f32) (harg6 : arg6.IsWhole) (arg7 : Memref sig .tc .vmem S128x1 .f32) (harg7 : arg7.IsWhole) (arg8 : Memref sig .tc .vmem S1024x1536 .bf16) (harg8 : arg8.IsWhole) (arg9 : Memref sig .tc .vmem S1024x128 .f32) (harg9 : arg9.IsWhole) (arg10 : Memref sig .tc .vmem S128x1024 .f32) (harg10 : arg10.IsWhole) (arg11 : Memref sig .tc .vmem S1024x2048 .bf16) (harg11 : arg11.IsWhole)
    (x0 : Vec F S1024x2048 .f32) (x1 : Vec F S2048x1536 .bf16) (x2 : Vec F S2048x128 .bf16) (x3 : Vec F S128x2048 .bf16) (x4 : Vec F S1x128 .f32) (x5 : Vec F S128x1 .f32) (y7 : Vec F S1024x128 .f32) (y8 : Vec F S128x1024 .f32) (a : Vec F S1024x2048 .bf16) (hc : ¬ First i) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8 ∗ owns (c : Thread nD τ) arg11 fullShare a
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay5 a x1) ∗ owns (c : Thread nD τ) arg9 fullShare y7 ∗ owns (c : Thread nD τ) arg10 fullShare y8 ∗ owns (c : Thread nD τ) arg11 fullShare a) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
    intro E K
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hf7; obtain rfl := harg10.eq_unread hf8; obtain rfl := harg11.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [read_store_whole _ _ _ (by decide), readAt_whole _ _ _ _ (by decide), readAt_whole _ _ _ _ (by decide)]
    isplitl [H7]
    · iexists _; isplitr; · ipureintro; exact harg9.read_unread _
      iexact H7
    isplitl [H8]
    · iexists _; isplitr; · ipureintro; exact harg10.read_unread _
      iexact H8
    iexists _; isplitr; swap; · iexact HS0
    ipureintro
    exact harg11.read_unread _

end Cert.InIdeal.Proj

end
-- ==== Proof.InIdeal.Run.lean ====
/- The input projection's kernel: what its outputs and its scratch hold point by point, the obligation of its body, and its
   run, which names the result arrays and leaves the arguments as they were. -/
module

public import proofs.«01_k».proof.Proof.InIdeal.Body
public import Idealize.ShloMosaic.Lib.Claim

@[expose] public section

set_option maxRecDepth 16384

noncomputable section

namespace Cert.InIdeal.Proj

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, point by point -/

/-- The first point of the row tile of point `t`. -/
def base (t : Fin cfg0.N) : Fin cfg0.N := ⟨9 * (t.val / 9), by have := t.isLt; omega⟩

theorem base_first (t : Fin cfg0.N) (h : t.val % 9 = 0) : base t = t := Fin.ext (by show 9 * (t.val / 9) = t.val; omega)

/-- The rows of the row tile of point `t`, rounded: what its first point keeps in the scratch. -/
def kept (c : Dev nD) (t : Fin cfg0.N) : Vec F S1024x2048 .bf16 := k0_pay2 (iblk m c 0 (base t))

/-- The row tile's gates, and the same transposed. -/
def gates (c : Dev nD) (t : Fin cfg0.N) : Vec F S1024x128 .f32 := k0_pay3 (iblk m c 0 (base t)) (iblk m c 2 (base t)) (iblk m c 4 (base t))
def gatesT (c : Dev nD) (t : Fin cfg0.N) : Vec F S128x1024 .f32 := k0_pay4 (iblk m c 0 (base t)) (iblk m c 3 (base t)) (iblk m c 5 (base t))

/-- The scratch before point `n`: the kept rows, past the row tile's first point. -/
def scr (c : Dev nD) (n : ℕ) : sProp 𝕄 :=
  iprop(∃ a, ⌜∀ h : n < cfg0.N, ¬ n % 9 = 0 → a = kept m c ⟨n, h⟩⌝ ∗ owns (c : Thread nD τ) scM fullShare a)

/-! ## The pipeline's proof data -/

/-- The arrays as the region finds them; after the body at point `t` each input's buffer at its block, the output's at the kept
    rows times the column tile, the gates' at the row tile's gates; the scratch as `scr` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay5 (kept m c t) (iblk m c 1 t)
    | ⟨7, _⟩ => gates m c t
    | ⟨8, _⟩ => gatesT m c t
  Φ n := iprop(scr m c n.val ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay5 (kept m c t) (iblk m c 1 t) := by dsimp only [dats]
theorem after0_7 (c : Dev nD) (t : Fin cfg0.N) : (dats m 0 c).after 7 t = gates m c t := by dsimp only [dats]
theorem after0_8 (c : Dev nD) (t : Fin cfg0.N) : (dats m 0 c).after 8 t = gatesT m c t := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
theorem live0_6 : ∀ t : Fin cfg0.N, cfg0.idle 6 (grid0.coords t) = false := fun _ => rfl

/-- The point before `t`. -/
def prev (t : Fin cfg0.N) : Fin cfg0.N := ⟨t.val - 1, Nat.lt_of_le_of_lt (Nat.sub_le _ _) t.isLt⟩

theorem base_prev (t : Fin cfg0.N) (h : ¬ t.val % 9 = 0) : base (prev t) = base t :=
  Fin.ext (by show 9 * ((t.val - 1) / 9) = 9 * (t.val / 9); omega)

theorem gates_prev (c : Dev nD) (t : Fin cfg0.N) (h : ¬ t.val % 9 = 0) : gates m c (prev t) = gates m c t := by
  unfold gates; rw [base_prev t h]

theorem idle0_7 (t : Fin cfg0.N) : cfg0.idle 7 (cfg0.grid.coords t) = decide (¬ t.val % 9 = 0) := by
  show (!(k0_cond1 (grid0.coords t) == 1#1)) = _
  by_cases h : t.val % 9 = 0
  · rw [(first_iff t).mpr h, decide_eq_false (not_not.mpr h)]; rfl
  · rw [beq_eq_false_iff_ne.mpr fun e => h ((first_iff t).mp e), decide_eq_true h]; rfl

theorem fresh7 : ∀ n, n ≤ cfg0.N → cfg0.fresh 7 n = decide (n % 9 = 0) :=
  cfg0.fresh_tab 7 (fun n => decide (n % 9 = 0)) rfl fun t => by
    rw [idle0_7]
    by_cases hf : t.val % 9 = 8
    · rw [(flush0_7 t).mpr hf, Bool.true_or, decide_eq_true_iff]; omega
    · rw [Bool.eq_false_iff.mpr fun e => hf ((flush0_7 t).mp e), Bool.false_or]
      have e1 : decide ((t.val + 1) % 9 = 0) = false := decide_eq_false (by omega)
      rw [e1]
      by_cases h0 : t.val % 9 = 0 <;> simp [h0]

/-- The buffer before a point: anything at a row tile's first, else what the point before left. -/
theorem before0_7 (c : Dev nD) (t : Fin cfg0.N) (h0 : ¬ t.val % 9 = 0) (d) : (dats m 0 c).before 7 t d = gates m c t := by
  rw [(dats m 0 c).before_out_traj 7 rfl (fun _ _ => rfl) (fun t ht hi _ => by
    rw [idle0_7, decide_eq_true_iff] at hi
    rw [after0_7, after0_7]
    exact (gates_prev m c t hi).symm) t.val t rfl d, fresh7 t.val (le_of_lt t.isLt), decide_eq_false h0, after0_7]
  exact gates_prev m c t h0

theorem leaves7_live (c : Dev nD) (t : Fin cfg0.N) (h : t.val % 9 = 0) :
    (dats m 0 c).leavesExact 7 t = owns (c : Thread nD τ) (ms0_7 t) fullShare (gates m c t) := by
  unfold Dat.leavesExact
  rw [idle0_7, decide_eq_false (not_not.mpr h)]
  rfl

/-- At a later point the buffer goes back as it was found. -/
theorem leaves7_idle (c : Dev nD) (t : Fin cfg0.N) (h0 : ¬ t.val % 9 = 0) :
    owns (c : Thread nD τ) (ms0_7 t) fullShare (gates m c t) ⊢ (dats m 0 c).leavesExact 7 t := by
  unfold Dat.leavesExact
  rw [idle0_7, decide_eq_true h0]
  by_cases hf : (cfg0.win 7).flush t = true
  · rw [hf, after0_7]
  · rw [Bool.eq_false_iff.mpr hf]
    simp only [fun d => before0_7 m c t h0 d]
    iintro H
    iexists (gates m c t)
    iexact H

theorem gatesT_prev (c : Dev nD) (t : Fin cfg0.N) (h : ¬ t.val % 9 = 0) : gatesT m c (prev t) = gatesT m c t := by
  unfold gatesT; rw [base_prev t h]

theorem idle0_8 (t : Fin cfg0.N) : cfg0.idle 8 (cfg0.grid.coords t) = decide (¬ t.val % 9 = 0) := by
  show (!(k0_cond1 (grid0.coords t) == 1#1)) = _
  by_cases h : t.val % 9 = 0
  · rw [(first_iff t).mpr h, decide_eq_false (not_not.mpr h)]; rfl
  · rw [beq_eq_false_iff_ne.mpr fun e => h ((first_iff t).mp e), decide_eq_true h]; rfl

theorem fresh8 : ∀ n, n ≤ cfg0.N → cfg0.fresh 8 n = decide (n % 9 = 0) :=
  cfg0.fresh_tab 8 (fun n => decide (n % 9 = 0)) rfl fun t => by
    rw [idle0_8]
    by_cases hf : t.val % 9 = 8
    · rw [(flush0_8 t).mpr hf, Bool.true_or, decide_eq_true_iff]; omega
    · rw [Bool.eq_false_iff.mpr fun e => hf ((flush0_8 t).mp e), Bool.false_or]
      have e1 : decide ((t.val + 1) % 9 = 0) = false := decide_eq_false (by omega)
      rw [e1]
      by_cases h0 : t.val % 9 = 0 <;> simp [h0]

/-- The buffer before a point: anything at a row tile's first, else what the point before left. -/
theorem before0_8 (c : Dev nD) (t : Fin cfg0.N) (h0 : ¬ t.val % 9 = 0) (d) : (dats m 0 c).before 8 t d = gatesT m c t := by
  rw [(dats m 0 c).before_out_traj 8 rfl (fun _ _ => rfl) (fun t ht hi _ => by
    rw [idle0_8, decide_eq_true_iff] at hi
    rw [after0_8, after0_8]
    exact (gatesT_prev m c t hi).symm) t.val t rfl d, fresh8 t.val (le_of_lt t.isLt), decide_eq_false h0, after0_8]
  exact gatesT_prev m c t h0

theorem leaves8_live (c : Dev nD) (t : Fin cfg0.N) (h : t.val % 9 = 0) :
    (dats m 0 c).leavesExact 8 t = owns (c : Thread nD τ) (ms0_8 t) fullShare (gatesT m c t) := by
  unfold Dat.leavesExact
  rw [idle0_8, decide_eq_false (not_not.mpr h)]
  rfl

/-- At a later point the buffer goes back as it was found. -/
theorem leaves8_idle (c : Dev nD) (t : Fin cfg0.N) (h0 : ¬ t.val % 9 = 0) :
    owns (c : Thread nD τ) (ms0_8 t) fullShare (gatesT m c t) ⊢ (dats m 0 c).leavesExact 8 t := by
  unfold Dat.leavesExact
  rw [idle0_8, decide_eq_true h0]
  by_cases hf : (cfg0.win 8).flush t = true
  · rw [hf, after0_8]
  · rw [Bool.eq_false_iff.mpr hf]
    simp only [fun d => before0_8 m c t h0 d]
    iintro H
    iexists (gatesT m c t)
    iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem kept_next (c : Dev nD) (t : Fin cfg0.N) (h : t.val + 1 < cfg0.N) (hh : ¬ (t.val + 1) % 9 = 0) : kept m c t = kept m c ⟨t.val + 1, h⟩ := by
  unfold kept
  rw [show base ⟨t.val + 1, h⟩ = base t from Fin.ext (by show 9 * ((t.val + 1) / 9) = 9 * (t.val / 9); omega)]

set_option maxHeartbeats 1600000 in
/-- The body at any point, by the two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = iprop(scr m c t.val ∗ (∃ r, prngReg c r)) from rfl,
    show (dats m 0 c).Φ t.succ = iprop(scr m c (t.val + 1) ∗ (∃ r, prngReg c r)) from rfl]
  rw [show (dats m 0 c).leavesExact 0 t = owns (c : Thread nD τ) (ms0_0 t) fullShare ((dats m 0 c).after 0 t) from by
    unfold Dat.leavesExact; rw [live0_0 t]; try rfl, after0_0]
  rw [show (dats m 0 c).leavesExact 1 t = owns (c : Thread nD τ) (ms0_1 t) fullShare ((dats m 0 c).after 1 t) from by
    unfold Dat.leavesExact; rw [live0_1 t]; try rfl, after0_1]
  rw [show (dats m 0 c).leavesExact 2 t = owns (c : Thread nD τ) (ms0_2 t) fullShare ((dats m 0 c).after 2 t) from by
    unfold Dat.leavesExact; rw [live0_2 t]; try rfl, after0_2]
  rw [show (dats m 0 c).leavesExact 3 t = owns (c : Thread nD τ) (ms0_3 t) fullShare ((dats m 0 c).after 3 t) from by
    unfold Dat.leavesExact; rw [live0_3 t]; try rfl, after0_3]
  rw [show (dats m 0 c).leavesExact 4 t = owns (c : Thread nD τ) (ms0_4 t) fullShare ((dats m 0 c).after 4 t) from by
    unfold Dat.leavesExact; rw [live0_4 t]; try rfl, after0_4]
  rw [show (dats m 0 c).leavesExact 5 t = owns (c : Thread nD τ) (ms0_5 t) fullShare ((dats m 0 c).after 5 t) from by
    unfold Dat.leavesExact; rw [live0_5 t]; try rfl, after0_5]
  rw [show (dats m 0 c).leavesExact 6 t = owns (c : Thread nD τ) (ms0_6 t) fullShare ((dats m 0 c).after 6 t) from by
    unfold Dat.leavesExact; rw [live0_6 t]; try rfl, after0_6]
  by_cases h0 : t.val % 9 = 0
  · have ek : kept m c t = k0_pay2 (iblk m c 0 t) := by unfold kept; rw [base_first t h0]
    have eg : gates m c t = k0_pay3 (iblk m c 0 t) (iblk m c 2 t) (iblk m c 4 t) := by unfold gates; rw [base_first t h0]
    have eT : gatesT m c t = k0_pay4 (iblk m c 0 t) (iblk m c 3 t) (iblk m c 5 t) := by unfold gatesT; rw [base_first t h0]
    rw [leaves7_live m c t h0, leaves8_live m c t h0, ek, eg, eT]
    unfold scr
    iintro ⟨⟨⟨%a, -, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_first c (grid0.coords t) _ _ _ _ _ _ _ _ _ _ _ _ _ _ _ _ _ _ _ _ (iblk m c 0 t) (iblk m c 1 t) (iblk m c 2 t) (iblk m c 3 t) (iblk m c 4 t) (iblk m c 5 t) ((first_iff t).mpr h0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexists _; iexact HS0
    iintro ⟨H0, H1, H2, H3, H4, H5, H6, H7, H8, HS0⟩
    isplitl [HS0 Hg]
    · isplitl [HS0]
      · iexists _; isplitr; swap; · iexact HS0
        ipureintro
        intro hh
        intro hn
        exact ek.symm.trans (kept_next m c t hh hn)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexact H7
    iexact H8
  · simp only [fun d => before0_7 m c t h0 d, fun d => before0_8 m c t h0 d]
    unfold scr
    iintro ⟨⟨⟨%a, %ha, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := ha t.isLt h0
    iapply ((run_next c (grid0.coords t) _ _ _ _ _ _ _ _ _ _ _ _ _ _ _ _ _ _ _ _ (iblk m c 0 t) (iblk m c 1 t) (iblk m c 2 t) (iblk m c 3 t) (iblk m c 4 t) (iblk m c 5 t) (gates m c t) (gatesT m c t) (kept m c t) (fun h => h0 ((first_iff t).mp h))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, H6, H7, H8, HS0⟩
    isplitl [HS0 Hg]
    · isplitl [HS0]
      · iexists _; isplitr; swap; · iexact HS0
        ipureintro
        intro hh
        intro hn
        exact kept_next m c t hh hn
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · ihave H7 := (leaves7_idle m c t h0) $$ H7
      iexact H7
    ihave H8 := (leaves8_idle m c t h0) $$ H8
    iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole program runs to the end, each array as the proof data say, every semaphore back at zero. -/
theorem run_main : θ_run defs (onTc (τ := τ) (main (F := F))) (s₀ m ρ) (fun r =>
    Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = iprop(scr m c 0 ∗ (∃ r, prngReg c r)) from rfl]
      show Pipeline.ΦA spec0 c ⊢ _
      rw [lent_eq]
      unfold scr
      iintro ⟨⟨%a, HS0⟩, Hg⟩
      isplitl [HS0]
      · iexists _; isplitr; swap; · iexact HS0
        ipureintro
        intro _ hh
        exact absurd rfl hh
      iexact Hg)
    (hout := fun c => by
      rw [show (dats m 0 c).Φ (Fin.last _) = iprop(scr m c cfg0.N ∗ (∃ r, prngReg c r)) from rfl]
      show _ ⊢ Pipeline.ΦA spec0 c
      rw [lent_eq]
      unfold scr
      iintro ⟨⟨%a, -, HS0⟩, Hg⟩
      isplitl [HS0]
      · iexists _; iexact HS0
      iexact Hg)

/-- The run with the result arrays named, the arguments unchanged and the semaphores at zero. -/
theorem run_blocks : θ_run defs (onTc (τ := τ) (main (F := F))) ⟨m, fun _ => 0, ρ⟩ (fun r => (∀ c : Dev nD,
      (r.2.mem ((c.tc : Thread nD τ).loc main_v25_0) = (dats m 0 c).arrAt 6 cfg0.N
      ∧ r.2.mem ((c.tc : Thread nD τ).loc main_v25_1) = (dats m 0 c).arrAt 7 cfg0.N
      ∧ r.2.mem ((c.tc : Thread nD τ).loc main_v25_2) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hh => ⟨fun c => ⟨⟨(hh.1 c).1 6, (hh.1 c).1 7, (hh.1 c).1 8⟩,
      ((hh.1 c).1 0).trans (((dats m 0 c).arrAt_in 0 rfl _).trans ((A_eq m c 0).trans (V_main_arg0 m c))),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c)⟩, hh.2⟩) (run_main m ρ)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hh => ⟨fun c => (hh.1 c).2, hh.2⟩) (run_blocks m ρ)

end Cert.InIdeal.Proj

end
-- ==== Proof.In.Cols.lean ====
/- Where the input projection's packed columns come from. -/
module

public import proofs.«01_k».proof.Defs
public import Idealize.ShloMosaic.Lib.Pipeline.ValueKit
public import Idealize.ShloMosaic.Lib.Pointwise

@[expose] public section

noncomputable section

open Idealize.ShloMosaic Idealize.ShloMosaic.TcCoe Idealize.SL.Sem

namespace Cert.Proof.In

/-- A matrix of `r` rows and `n` columns. -/
abbrev Mat (r n : ℕ) : Shape := ⟨2, ![r, n]⟩

/-- Column `j` of the main output: the column of the products it is, or zero between the two copies of the indexer's key. -/
def pick (y : Fin 13664 → EReal) (j : Fin 13824) : EReal :=
  if h : j.val < 2048 then y ⟨j.val, by omega⟩
  else if h : j.val < 8192 then y ⟨j.val + 1360, by omega⟩
  else if h : j.val < 12288 then y ⟨j.val + 1376, by omega⟩
  else if h : j.val < 13312 then y ⟨j.val - 9984, by omega⟩
  else if h : j.val < 13568 then y ⟨j.val - 11264, by omega⟩
  else if h : j.val < 13632 then y ⟨j.val - 10240, by omega⟩
  else if h : j.val < 13760 then 0
  else y ⟨j.val - 10432, by omega⟩

/-- Picking columns commutes with multiplying from the left. -/
theorem pick_dot {n : ℕ} (a : Fin n → EReal) (w : Fin n → Fin 13664 → EReal) (j : Fin 13824) :
    (∑ k, a k * pick (w k) j) = pick (fun c => ∑ k, a k * w k c) j := by
  unfold pick
  split_ifs <;> first | rfl | simp only [mul_zero, Finset.sum_const_zero]

/-- The slice of `n` columns from column `o` on. -/
theorem slice_apply {r n : ℕ} (o : ℕ) (y : (Mat r 13664).Idx → EReal) (h : (Mat r 13664).Slices ![0, o] (Mat r n)) (i : (Mat r n).Idx)
    (q : Fin 13664) (hq : q.val = o + (i 1).val) :
    extractStridedSlice (Mat r n) ![0, o] y h i = y (ix2 (i 0) q) :=
  extractStridedSlice_apply ![0, o] y h i (ix2 (i 0) q) (fun a => match a with
    | ⟨0, _⟩ => by show (i 0).val = 0 + (i 0).val; omega
    | ⟨1, _⟩ => by show q.val = o + (i 1).val; exact hq)

set_option maxHeartbeats 4000000 in
/-- The thirteen pieces side by side are the picked columns. -/
theorem cat_main {r : ℕ} (y : (Mat r 13664).Idx → EReal) (z : (Mat r 64).Idx → EReal) (hz : ∀ q, z q = 0)
    (h0 : (Mat r 13664).Slices ![0, 0] (Mat r 2048))
    (h1 : (Mat r 13664).Slices ![0, 3408] (Mat r 1024))
    (h2 : (Mat r 13664).Slices ![0, 4432] (Mat r 1024))
    (h3 : (Mat r 13664).Slices ![0, 5456] (Mat r 2048))
    (h4 : (Mat r 13664).Slices ![0, 7504] (Mat r 2048))
    (h5 : (Mat r 13664).Slices ![0, 9568] (Mat r 2048))
    (h6 : (Mat r 13664).Slices ![0, 11616] (Mat r 2048))
    (h7 : (Mat r 13664).Slices ![0, 2304] (Mat r 1024))
    (h8 : (Mat r 13664).Slices ![0, 2048] (Mat r 256))
    (h9 : (Mat r 13664).Slices ![0, 3328] (Mat r 64))
    (h12 : (Mat r 13664).Slices ![0, 3328] (Mat r 64))
    (hc : Shape.Concatenates [Mat r 2048, Mat r 1024, Mat r 1024, Mat r 2048, Mat r 2048, Mat r 2048, Mat r 2048, Mat r 1024, Mat r 256, Mat r 64, Mat r 64, Mat r 64, Mat r 64] (Mat r 13824) 1) (i : (Mat r 13824).Idx) :
    concatenate (Mat r 13824) 1 [⟨Mat r 2048, extractStridedSlice (Mat r 2048) ![0, 0] y h0⟩, ⟨Mat r 1024, extractStridedSlice (Mat r 1024) ![0, 3408] y h1⟩, ⟨Mat r 1024, extractStridedSlice (Mat r 1024) ![0, 4432] y h2⟩, ⟨Mat r 2048, extractStridedSlice (Mat r 2048) ![0, 5456] y h3⟩, ⟨Mat r 2048, extractStridedSlice (Mat r 2048) ![0, 7504] y h4⟩, ⟨Mat r 2048, extractStridedSlice (Mat r 2048) ![0, 9568] y h5⟩, ⟨Mat r 2048, extractStridedSlice (Mat r 2048) ![0, 11616] y h6⟩, ⟨Mat r 1024, extractStridedSlice (Mat r 1024) ![0, 2304] y h7⟩, ⟨Mat r 256, extractStridedSlice (Mat r 256) ![0, 2048] y h8⟩, ⟨Mat r 64, extractStridedSlice (Mat r 64) ![0, 3328] y h9⟩, ⟨Mat r 64, z⟩, ⟨Mat r 64, z⟩, ⟨Mat r 64, extractStridedSlice (Mat r 64) ![0, 3328] y h12⟩] hc i = pick (fun k => y (ix2 (i 0) k)) (i 1) := by
  have hi : (i 1).val < 13824 := (i 1).isLt
  have key := concatenate_apply_piece (t := Mat r 13824) 1 [⟨Mat r 2048, extractStridedSlice (Mat r 2048) ![0, 0] y h0⟩, ⟨Mat r 1024, extractStridedSlice (Mat r 1024) ![0, 3408] y h1⟩, ⟨Mat r 1024, extractStridedSlice (Mat r 1024) ![0, 4432] y h2⟩, ⟨Mat r 2048, extractStridedSlice (Mat r 2048) ![0, 5456] y h3⟩, ⟨Mat r 2048, extractStridedSlice (Mat r 2048) ![0, 7504] y h4⟩, ⟨Mat r 2048, extractStridedSlice (Mat r 2048) ![0, 9568] y h5⟩, ⟨Mat r 2048, extractStridedSlice (Mat r 2048) ![0, 11616] y h6⟩, ⟨Mat r 1024, extractStridedSlice (Mat r 1024) ![0, 2304] y h7⟩, ⟨Mat r 256, extractStridedSlice (Mat r 256) ![0, 2048] y h8⟩, ⟨Mat r 64, extractStridedSlice (Mat r 64) ![0, 3328] y h9⟩, ⟨Mat r 64, z⟩, ⟨Mat r 64, z⟩, ⟨Mat r 64, extractStridedSlice (Mat r 64) ![0, 3328] y h12⟩] hc i
  by_cases c0 : (i 1).val < 2048
  · refine (key 0 (by show 0 < 13; decide) (Mat r 2048) _ rfl rfl 0 (by simp) (ix2 (i 0) (⟨(i 1).val - 0, by omega⟩ : Fin 2048))
      (fun b hb => match b with | ⟨0, _⟩ => rfl | ⟨1, _⟩ => absurd rfl hb) (by show 0 + ((i 1).val - 0) = (i 1).val; omega)).trans ?_
    unfold pick; rw [dif_pos (show (i 1).val < 2048 by omega)]
    exact slice_apply 0 y h0 _ _ (by show _ = 0 + ((i 1).val - 0); simp only []; omega)
  by_cases c1 : (i 1).val < 3072
  · refine (key 1 (by show 1 < 13; decide) (Mat r 1024) _ rfl rfl 2048 (by simp) (ix2 (i 0) (⟨(i 1).val - 2048, by omega⟩ : Fin 1024))
      (fun b hb => match b with | ⟨0, _⟩ => rfl | ⟨1, _⟩ => absurd rfl hb) (by show 2048 + ((i 1).val - 2048) = (i 1).val; omega)).trans ?_
    unfold pick; rw [dif_neg (show ¬ (i 1).val < 2048 by omega), dif_pos (show (i 1).val < 8192 by omega)]
    exact slice_apply 3408 y h1 _ _ (by show _ = 3408 + ((i 1).val - 2048); simp only []; omega)
  by_cases c2 : (i 1).val < 4096
  · refine (key 2 (by show 2 < 13; decide) (Mat r 1024) _ rfl rfl 3072 (by simp) (ix2 (i 0) (⟨(i 1).val - 3072, by omega⟩ : Fin 1024))
      (fun b hb => match b with | ⟨0, _⟩ => rfl | ⟨1, _⟩ => absurd rfl hb) (by show 3072 + ((i 1).val - 3072) = (i 1).val; omega)).trans ?_
    unfold pick; rw [dif_neg (show ¬ (i 1).val < 2048 by omega), dif_pos (show (i 1).val < 8192 by omega)]
    exact slice_apply 4432 y h2 _ _ (by show _ = 4432 + ((i 1).val - 3072); simp only []; omega)
  by_cases c3 : (i 1).val < 6144
  · refine (key 3 (by show 3 < 13; decide) (Mat r 2048) _ rfl rfl 4096 (by simp) (ix2 (i 0) (⟨(i 1).val - 4096, by omega⟩ : Fin 2048))
      (fun b hb => match b with | ⟨0, _⟩ => rfl | ⟨1, _⟩ => absurd rfl hb) (by show 4096 + ((i 1).val - 4096) = (i 1).val; omega)).trans ?_
    unfold pick; rw [dif_neg (show ¬ (i 1).val < 2048 by omega), dif_pos (show (i 1).val < 8192 by omega)]
    exact slice_apply 5456 y h3 _ _ (by show _ = 5456 + ((i 1).val - 4096); simp only []; omega)
  by_cases c4 : (i 1).val < 8192
  · refine (key 4 (by show 4 < 13; decide) (Mat r 2048) _ rfl rfl 6144 (by simp) (ix2 (i 0) (⟨(i 1).val - 6144, by omega⟩ : Fin 2048))
      (fun b hb => match b with | ⟨0, _⟩ => rfl | ⟨1, _⟩ => absurd rfl hb) (by show 6144 + ((i 1).val - 6144) = (i 1).val; omega)).trans ?_
    unfold pick; rw [dif_neg (show ¬ (i 1).val < 2048 by omega), dif_pos (show (i 1).val < 8192 by omega)]
    exact slice_apply 7504 y h4 _ _ (by show _ = 7504 + ((i 1).val - 6144); simp only []; omega)
  by_cases c5 : (i 1).val < 10240
  · refine (key 5 (by show 5 < 13; decide) (Mat r 2048) _ rfl rfl 8192 (by simp) (ix2 (i 0) (⟨(i 1).val - 8192, by omega⟩ : Fin 2048))
      (fun b hb => match b with | ⟨0, _⟩ => rfl | ⟨1, _⟩ => absurd rfl hb) (by show 8192 + ((i 1).val - 8192) = (i 1).val; omega)).trans ?_
    unfold pick; rw [dif_neg (show ¬ (i 1).val < 2048 by omega), dif_neg (show ¬ (i 1).val < 8192 by omega), dif_pos (show (i 1).val < 12288 by omega)]
    exact slice_apply 9568 y h5 _ _ (by show _ = 9568 + ((i 1).val - 8192); simp only []; omega)
  by_cases c6 : (i 1).val < 12288
  · refine (key 6 (by show 6 < 13; decide) (Mat r 2048) _ rfl rfl 10240 (by simp) (ix2 (i 0) (⟨(i 1).val - 10240, by omega⟩ : Fin 2048))
      (fun b hb => match b with | ⟨0, _⟩ => rfl | ⟨1, _⟩ => absurd rfl hb) (by show 10240 + ((i 1).val - 10240) = (i 1).val; omega)).trans ?_
    unfold pick; rw [dif_neg (show ¬ (i 1).val < 2048 by omega), dif_neg (show ¬ (i 1).val < 8192 by omega), dif_pos (show (i 1).val < 12288 by omega)]
    exact slice_apply 11616 y h6 _ _ (by show _ = 11616 + ((i 1).val - 10240); simp only []; omega)
  by_cases c7 : (i 1).val < 13312
  · refine (key 7 (by show 7 < 13; decide) (Mat r 1024) _ rfl rfl 12288 (by simp) (ix2 (i 0) (⟨(i 1).val - 12288, by omega⟩ : Fin 1024))
      (fun b hb => match b with | ⟨0, _⟩ => rfl | ⟨1, _⟩ => absurd rfl hb) (by show 12288 + ((i 1).val - 12288) = (i 1).val; omega)).trans ?_
    unfold pick; rw [dif_neg (show ¬ (i 1).val < 2048 by omega), dif_neg (show ¬ (i 1).val < 8192 by omega), dif_neg (show ¬ (i 1).val < 12288 by omega), dif_pos (show (i 1).val < 13312 by omega)]
    exact slice_apply 2304 y h7 _ _ (by show _ = 2304 + ((i 1).val - 12288); simp only []; omega)
  by_cases c8 : (i 1).val < 13568
  · refine (key 8 (by show 8 < 13; decide) (Mat r 256) _ rfl rfl 13312 (by simp) (ix2 (i 0) (⟨(i 1).val - 13312, by omega⟩ : Fin 256))
      (fun b hb => match b with | ⟨0, _⟩ => rfl | ⟨1, _⟩ => absurd rfl hb) (by show 13312 + ((i 1).val - 13312) = (i 1).val; omega)).trans ?_
    unfold pick; rw [dif_neg (show ¬ (i 1).val < 2048 by omega), dif_neg (show ¬ (i 1).val < 8192 by omega), dif_neg (show ¬ (i 1).val < 12288 by omega), dif_neg (show ¬ (i 1).val < 13312 by omega), dif_pos (show (i 1).val < 13568 by omega)]
    exact slice_apply 2048 y h8 _ _ (by show _ = 2048 + ((i 1).val - 13312); simp only []; omega)
  by_cases c9 : (i 1).val < 13632
  · refine (key 9 (by show 9 < 13; decide) (Mat r 64) _ rfl rfl 13568 (by simp) (ix2 (i 0) (⟨(i 1).val - 13568, by omega⟩ : Fin 64))
      (fun b hb => match b with | ⟨0, _⟩ => rfl | ⟨1, _⟩ => absurd rfl hb) (by show 13568 + ((i 1).val - 13568) = (i 1).val; omega)).trans ?_
    unfold pick; rw [dif_neg (show ¬ (i 1).val < 2048 by omega), dif_neg (show ¬ (i 1).val < 8192 by omega), dif_neg (show ¬ (i 1).val < 12288 by omega), dif_neg (show ¬ (i 1).val < 13312 by omega), dif_neg (show ¬ (i 1).val < 13568 by omega), dif_pos (show (i 1).val < 13632 by omega)]
    exact slice_apply 3328 y h9 _ _ (by show _ = 3328 + ((i 1).val - 13568); simp only []; omega)
  by_cases c10 : (i 1).val < 13696
  · refine (key 10 (by show 10 < 13; decide) (Mat r 64) _ rfl rfl 13632 (by simp) (ix2 (i 0) (⟨(i 1).val - 13632, by omega⟩ : Fin 64))
      (fun b hb => match b with | ⟨0, _⟩ => rfl | ⟨1, _⟩ => absurd rfl hb) (by show 13632 + ((i 1).val - 13632) = (i 1).val; omega)).trans ?_
    unfold pick; rw [dif_neg (show ¬ (i 1).val < 2048 by omega), dif_neg (show ¬ (i 1).val < 8192 by omega), dif_neg (show ¬ (i 1).val < 12288 by omega), dif_neg (show ¬ (i 1).val < 13312 by omega), dif_neg (show ¬ (i 1).val < 13568 by omega), dif_neg (show ¬ (i 1).val < 13632 by omega), dif_pos (show (i 1).val < 13760 by omega)]; exact hz _
  by_cases c11 : (i 1).val < 13760
  · refine (key 11 (by show 11 < 13; decide) (Mat r 64) _ rfl rfl 13696 (by simp) (ix2 (i 0) (⟨(i 1).val - 13696, by omega⟩ : Fin 64))
      (fun b hb => match b with | ⟨0, _⟩ => rfl | ⟨1, _⟩ => absurd rfl hb) (by show 13696 + ((i 1).val - 13696) = (i 1).val; omega)).trans ?_
    unfold pick; rw [dif_neg (show ¬ (i 1).val < 2048 by omega), dif_neg (show ¬ (i 1).val < 8192 by omega), dif_neg (show ¬ (i 1).val < 12288 by omega), dif_neg (show ¬ (i 1).val < 13312 by omega), dif_neg (show ¬ (i 1).val < 13568 by omega), dif_neg (show ¬ (i 1).val < 13632 by omega), dif_pos (show (i 1).val < 13760 by omega)]; exact hz _
  refine (key 12 (by show 12 < 13; decide) (Mat r 64) _ rfl rfl 13760 (by simp) (ix2 (i 0) (⟨(i 1).val - 13760, by omega⟩ : Fin 64))
    (fun b hb => match b with | ⟨0, _⟩ => rfl | ⟨1, _⟩ => absurd rfl hb) (by show 13760 + ((i 1).val - 13760) = (i 1).val; omega)).trans ?_
  unfold pick; rw [dif_neg (show ¬ (i 1).val < 2048 by omega), dif_neg (show ¬ (i 1).val < 8192 by omega), dif_neg (show ¬ (i 1).val < 12288 by omega), dif_neg (show ¬ (i 1).val < 13312 by omega), dif_neg (show ¬ (i 1).val < 13568 by omega), dif_neg (show ¬ (i 1).val < 13632 by omega), dif_neg (show ¬ (i 1).val < 13760 by omega)]
  exact slice_apply 3328 y h12 _ _ (by show _ = 3328 + ((i 1).val - 13760); simp only []; omega)

/-- Four pieces of 16, 8, 8 and 96 entries side by side, the last of zeros. -/
def four (a : Fin 16 → EReal) (b c : Fin 8 → EReal) (j : Fin 128) : EReal :=
  if h : j.val < 16 then a ⟨j.val, h⟩
  else if h : j.val < 24 then b ⟨j.val - 16, by omega⟩
  else if h : j.val < 32 then c ⟨j.val - 24, by omega⟩
  else 0

theorem cat_gate {r : ℕ} (a : (Mat r 16).Idx → EReal) (b c : (Mat r 8).Idx → EReal) (z : (Mat r 96).Idx → EReal) (hz : ∀ q, z q = 0)
    (hc : Shape.Concatenates [Mat r 16, Mat r 8, Mat r 8, Mat r 96] (Mat r 128) 1) (i : (Mat r 128).Idx) :
    concatenate (Mat r 128) 1 [⟨Mat r 16, a⟩, ⟨Mat r 8, b⟩, ⟨Mat r 8, c⟩, ⟨Mat r 96, z⟩] hc i
      = four (fun k => a (ix2 (i 0) k)) (fun k => b (ix2 (i 0) k)) (fun k => c (ix2 (i 0) k)) (i 1) := by
  have hi : (i 1).val < 128 := (i 1).isLt
  have key := concatenate_apply_piece (t := (Mat r 128)) 1 [⟨Mat r 16, a⟩, ⟨Mat r 8, b⟩, ⟨Mat r 8, c⟩, ⟨Mat r 96, z⟩] hc i
  by_cases c0 : (i 1).val < 16
  · refine (key 0 (by show 0 < 4; decide) (Mat r 16) _ rfl rfl 0 (by simp) (ix2 (i 0) (⟨(i 1).val - 0, by omega⟩ : Fin 16))
      (fun b hb => match b with | ⟨0, _⟩ => rfl | ⟨1, _⟩ => absurd rfl hb) (by show 0 + ((i 1).val - 0) = (i 1).val; omega)).trans ?_
    unfold four; rw [dif_pos (show (i 1).val < 16 by omega)]
    try rfl
  by_cases c1 : (i 1).val < 24
  · refine (key 1 (by show 1 < 4; decide) (Mat r 8) _ rfl rfl 16 (by simp) (ix2 (i 0) (⟨(i 1).val - 16, by omega⟩ : Fin 8))
      (fun b hb => match b with | ⟨0, _⟩ => rfl | ⟨1, _⟩ => absurd rfl hb) (by show 16 + ((i 1).val - 16) = (i 1).val; omega)).trans ?_
    unfold four; rw [dif_neg (show ¬ (i 1).val < 16 by omega), dif_pos (show (i 1).val < 24 by omega)]
    try rfl
  by_cases c2 : (i 1).val < 32
  · refine (key 2 (by show 2 < 4; decide) (Mat r 8) _ rfl rfl 24 (by simp) (ix2 (i 0) (⟨(i 1).val - 24, by omega⟩ : Fin 8))
      (fun b hb => match b with | ⟨0, _⟩ => rfl | ⟨1, _⟩ => absurd rfl hb) (by show 24 + ((i 1).val - 24) = (i 1).val; omega)).trans ?_
    unfold four; rw [dif_neg (show ¬ (i 1).val < 16 by omega), dif_neg (show ¬ (i 1).val < 24 by omega), dif_pos (show (i 1).val < 32 by omega)]
    try rfl
  refine (key 3 (by show 3 < 4; decide) (Mat r 96) _ rfl rfl 32 (by simp) (ix2 (i 0) (⟨(i 1).val - 32, by omega⟩ : Fin 96))
    (fun b hb => match b with | ⟨0, _⟩ => rfl | ⟨1, _⟩ => absurd rfl hb) (by show 32 + ((i 1).val - 32) = (i 1).val; omega)).trans ?_
  unfold four; rw [dif_neg (show ¬ (i 1).val < 16 by omega), dif_neg (show ¬ (i 1).val < 24 by omega), dif_neg (show ¬ (i 1).val < 32 by omega)]
  exact hz _

theorem cat_bias (a : (⟨1, ![16]⟩ : Shape).Idx → EReal) (b c : (⟨1, ![8]⟩ : Shape).Idx → EReal) (z : (⟨1, ![96]⟩ : Shape).Idx → EReal) (hz : ∀ q, z q = 0)
    (hc : Shape.Concatenates [⟨1, ![16]⟩, ⟨1, ![8]⟩, ⟨1, ![8]⟩, ⟨1, ![96]⟩] (⟨1, ![128]⟩ : Shape) 0) (i : (⟨1, ![128]⟩ : Shape).Idx) :
    concatenate (⟨1, ![128]⟩ : Shape) 0 [⟨⟨1, ![16]⟩, a⟩, ⟨⟨1, ![8]⟩, b⟩, ⟨⟨1, ![8]⟩, c⟩, ⟨⟨1, ![96]⟩, z⟩] hc i
      = four (fun k => a (ix1 k)) (fun k => b (ix1 k)) (fun k => c (ix1 k)) (i 0) := by
  have hi : (i 0).val < 128 := (i 0).isLt
  have key := concatenate_apply_piece (t := (⟨1, ![128]⟩ : Shape)) 0 [⟨⟨1, ![16]⟩, a⟩, ⟨⟨1, ![8]⟩, b⟩, ⟨⟨1, ![8]⟩, c⟩, ⟨⟨1, ![96]⟩, z⟩] hc i
  by_cases c0 : (i 0).val < 16
  · refine (key 0 (by show 0 < 4; decide) (⟨1, ![16]⟩ : Shape) _ rfl rfl 0 (by simp) (ix1 (⟨(i 0).val - 0, by omega⟩ : Fin 16))
      (fun b hb => match b with | ⟨0, _⟩ => absurd rfl hb) (by show 0 + ((i 0).val - 0) = (i 0).val; omega)).trans ?_
    unfold four; rw [dif_pos (show (i 0).val < 16 by omega)]
    try rfl
  by_cases c1 : (i 0).val < 24
  · refine (key 1 (by show 1 < 4; decide) (⟨1, ![8]⟩ : Shape) _ rfl rfl 16 (by simp) (ix1 (⟨(i 0).val - 16, by omega⟩ : Fin 8))
      (fun b hb => match b with | ⟨0, _⟩ => absurd rfl hb) (by show 16 + ((i 0).val - 16) = (i 0).val; omega)).trans ?_
    unfold four; rw [dif_neg (show ¬ (i 0).val < 16 by omega), dif_pos (show (i 0).val < 24 by omega)]
    try rfl
  by_cases c2 : (i 0).val < 32
  · refine (key 2 (by show 2 < 4; decide) (⟨1, ![8]⟩ : Shape) _ rfl rfl 24 (by simp) (ix1 (⟨(i 0).val - 24, by omega⟩ : Fin 8))
      (fun b hb => match b with | ⟨0, _⟩ => absurd rfl hb) (by show 24 + ((i 0).val - 24) = (i 0).val; omega)).trans ?_
    unfold four; rw [dif_neg (show ¬ (i 0).val < 16 by omega), dif_neg (show ¬ (i 0).val < 24 by omega), dif_pos (show (i 0).val < 32 by omega)]
    try rfl
  refine (key 3 (by show 3 < 4; decide) (⟨1, ![96]⟩ : Shape) _ rfl rfl 32 (by simp) (ix1 (⟨(i 0).val - 32, by omega⟩ : Fin 96))
    (fun b hb => match b with | ⟨0, _⟩ => absurd rfl hb) (by show 32 + ((i 0).val - 32) = (i 0).val; omega)).trans ?_
  unfold four; rw [dif_neg (show ¬ (i 0).val < 16 by omega), dif_neg (show ¬ (i 0).val < 24 by omega), dif_neg (show ¬ (i 0).val < 32 by omega)]
  exact hz _

end Cert.Proof.In

end
-- ==== Proof.In.Value.lean ====
/- The input projection at `Ideal`: every block of its three results that the kernel writes back is the block of the packed
   products, of the gates, and of the gates transposed, over the argument arrays. -/
module

public import proofs.«01_k».proof.Defs
public import proofs.«01_k».proof.Proof.Gen.InIdeal
public import proofs.«01_k».proof.Proof.Gen.InIdeal.Launch
public import proofs.«01_k».proof.Proof.Gen.InIdeal.Points
public import proofs.«01_k».proof.Proof.Gen.InRefIdeal.Run
public import proofs.«01_k».proof.Proof.Gen.InRefIdeal.Read
public import proofs.«01_k».proof.Proof.InIdeal.Run
public import proofs.«01_k».proof.Proof.In.Run
public import proofs.«01_k».proof.Proof.In.Cols
public import Idealize.ShloMosaic.Lib.Pipeline.ValueKit
public import Idealize.ShloMosaic.Lib.Pipeline.Covers
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.In

open Cert.InIdeal Cert.InIdeal.Gen Cert.InIdeal.Proj

variable (m : (ℓ : Loc nD τ sig) → Buf (Elt Ideal) ℓ) (ρ : Dev nD → PrngReg)

/-! ## The functions -/

/-- A sum of products, as a function of the two factors. -/
abbrev dot {n : ℕ} (a b : Fin n → EReal) : EReal := ∑ k, a k * b k

/-- The packed projection: the picked columns of the products. -/
def packed (x : Vec Ideal S16384x2048 .f32) (w : Vec Ideal S2048x13664 .f32) : Vec Ideal S16384x13824 .bf16 := fun i =>
  pick (fun c => ∑ k : Fin 2048, x (ix2 (i 0) k) * w (ix2 k c)) (i 1)

/-- The same, the picked weights inside the sum. -/
theorem packed_eq (x : Vec Ideal S16384x2048 .f32) (w : Vec Ideal S2048x13664 .f32) (i : S16384x13824.Idx) :
    packed x w i = dot (fun k : Fin 2048 => (x (ix2 (i 0) k) : EReal)) (fun k => pick (fun q => w (ix2 k q)) (i 1)) :=
  (pick_dot (fun k : Fin 2048 => (x (ix2 (i 0) k) : EReal)) (fun k q => w (ix2 k q)) (i 1)).symm

/-- Gate `j` of row `r`: the head weights, then the two biased gates, then zeros. -/
def gate (x : Vec Ideal S16384x2048 .f32) (w : Vec Ideal S2048x13664 .f32) (bi bf : Vec Ideal S8 .f32) (r : Fin 16384) (j : Fin 128) : EReal :=
  four (fun q => ∑ k : Fin 2048, x (ix2 r k) * w (ix2 k (⟨3392 + q.val, by omega⟩ : Fin 13664)))
    (fun q => (∑ k : Fin 2048, x (ix2 r k) * w (ix2 k (⟨9552 + q.val, by omega⟩ : Fin 13664))) + bi (ix1 q))
    (fun q => (∑ k : Fin 2048, x (ix2 r k) * w (ix2 k (⟨9560 + q.val, by omega⟩ : Fin 13664))) + bf (ix1 q)) j

def gateRows (x : Vec Ideal S16384x2048 .f32) (w : Vec Ideal S2048x13664 .f32) (bi bf : Vec Ideal S8 .f32) : Vec Ideal S16384x128 .f32 :=
  fun i => gate x w bi bf (i 0) (i 1)

def gateCols (x : Vec Ideal S16384x2048 .f32) (w : Vec Ideal S2048x13664 .f32) (bi bf : Vec Ideal S8 .f32) : Vec Ideal S128x16384 .f32 :=
  fun i => gate x w bi bf (i 1) (i 0)

/-- The columns the gates' weights are taken from. -/
def gateW (w : Vec Ideal S2048x13664 .f32) (k : Fin 2048) (j : Fin 128) : EReal :=
  four (fun q => w (ix2 k (⟨3392 + q.val, by omega⟩ : Fin 13664))) (fun q => w (ix2 k (⟨9552 + q.val, by omega⟩ : Fin 13664)))
    (fun q => w (ix2 k (⟨9560 + q.val, by omega⟩ : Fin 13664))) j

def gateB (bi bf : Vec Ideal S8 .f32) (j : Fin 128) : EReal := four (fun _ => 0) (fun q => bi (ix1 q)) (fun q => bf (ix1 q)) j

theorem gate_eq (x : Vec Ideal S16384x2048 .f32) (w : Vec Ideal S2048x13664 .f32) (bi bf : Vec Ideal S8 .f32) (r : Fin 16384) (j : Fin 128) :
    (dot (fun k : Fin 2048 => (x (ix2 r k) : EReal)) (fun k => gateW w k j)) + gateB bi bf j = gate x w bi bf r j := by
  unfold dot gateW gateB gate four
  split_ifs
  · exact add_zero _
  · rfl
  · rfl
  · simp only [mul_zero, Finset.sum_const_zero, add_zero]

/-! ## What the body stores -/

theorem pay2_apply (x : Vec Ideal S1024x2048 .f32) (j : S1024x2048.Idx) : k0_pay2 (F := Ideal) x j = x j := by
  pointwise [k0_pay2, k0_pay1]

theorem pay3_apply (x : Vec Ideal S1024x2048 .f32) (w : Vec Ideal S2048x128 .bf16) (b : Vec Ideal S1x128 .f32) (j : S1024x128.Idx) :
    k0_pay3 (F := Ideal) x w b j = (∑ k : Fin 2048, x (ix2 (j 0) k) * w (ix2 k (j 1))) + b (ix2 (0 : Fin 1) (j 1)) := by
  pointwise [k0_pay3, k0_pay1]

theorem pay4_apply (x : Vec Ideal S1024x2048 .f32) (w : Vec Ideal S128x2048 .bf16) (b : Vec Ideal S128x1 .f32) (j : S128x1024.Idx) :
    k0_pay4 (F := Ideal) x w b j = (∑ k : Fin 2048, w (ix2 (j 0) k) * x (ix2 (j 1) k)) + b (ix2 (j 0) (0 : Fin 1)) := by
  pointwise [k0_pay4, k0_pay1]

theorem pay5_apply (a : Vec Ideal S1024x2048 .bf16) (w : Vec Ideal S2048x1536 .bf16) (j : S1024x1536.Idx) :
    k0_pay5 (F := Ideal) a w j = ∑ k : Fin 2048, a (ix2 (j 0) k) * w (ix2 k (j 1)) := by
  pointwise [k0_pay5]

/-! ## What the host packed -/

/-- A slice of `n` columns from column `o` on, at its row and column. -/
theorem slice_at {r n : ℕ} (o : ℕ) (y : (Mat r 13664).Idx → EReal) (h : (Mat r 13664).Slices ![0, o] (Mat r n)) (i : (Mat r n).Idx)
    (hq : o + (i 1).val < 13664) : extractStridedSlice (Mat r n) ![0, o] y h i = y (ix2 (i 0) (⟨o + (i 1).val, hq⟩ : Fin 13664)) :=
  slice_apply o y h i ⟨o + (i 1).val, hq⟩ rfl

/-- The packed weights, as the host's operations make them. -/
theorem V_v15_eq (c : Dev nD) : V m c main_v15 = truncf (F := Ideal) .bf16 (concatenate S2048x13824 1 [⟨S2048x2048, extractStridedSlice S2048x2048 ![0, 0] (m ((c : Thread nD τ).loc main_arg1)) slices_S2048x13664_S2048x2048_0_0⟩, ⟨S2048x1024, extractStridedSlice S2048x1024 ![0, 3408] (m ((c : Thread nD τ).loc main_arg1)) slices_S2048x13664_S2048x1024_0_3408⟩, ⟨S2048x1024, extractStridedSlice S2048x1024 ![0, 4432] (m ((c : Thread nD τ).loc main_arg1)) slices_S2048x13664_S2048x1024_0_4432⟩, ⟨S2048x2048, extractStridedSlice S2048x2048 ![0, 5456] (m ((c : Thread nD τ).loc main_arg1)) slices_S2048x13664_S2048x2048_0_5456⟩, ⟨S2048x2048, extractStridedSlice S2048x2048 ![0, 7504] (m ((c : Thread nD τ).loc main_arg1)) slices_S2048x13664_S2048x2048_0_7504⟩, ⟨S2048x2048, extractStridedSlice S2048x2048 ![0, 9568] (m ((c : Thread nD τ).loc main_arg1)) slices_S2048x13664_S2048x2048_0_9568⟩, ⟨S2048x2048, extractStridedSlice S2048x2048 ![0, 11616] (m ((c : Thread nD τ).loc main_arg1)) slices_S2048x13664_S2048x2048_0_11616⟩, ⟨S2048x1024, extractStridedSlice S2048x1024 ![0, 2304] (m ((c : Thread nD τ).loc main_arg1)) slices_S2048x13664_S2048x1024_0_2304⟩, ⟨S2048x256, extractStridedSlice S2048x256 ![0, 2048] (m ((c : Thread nD τ).loc main_arg1)) slices_S2048x13664_S2048x256_0_2048⟩, ⟨S2048x64, extractStridedSlice S2048x64 ![0, 3328] (m ((c : Thread nD τ).loc main_arg1)) slices_S2048x13664_S2048x64_0_3328⟩, ⟨S2048x64, (broadcastInDim S2048x64 ![] bcast_S_S2048x64 (constant (F := Ideal) S_ .f32 0x00000000#32) : Vec Ideal S2048x64 .f32)⟩, ⟨S2048x64, (broadcastInDim S2048x64 ![] bcast_S_S2048x64 (constant (F := Ideal) S_ .f32 0x00000000#32) : Vec Ideal S2048x64 .f32)⟩, ⟨S2048x64, extractStridedSlice S2048x64 ![0, 3328] (m ((c : Thread nD τ).loc main_arg1)) slices_S2048x13664_S2048x64_0_3328⟩]
    concatenates_S2048x2048_S2048x1024_S2048x1024_S2048x2048_S2048x2048_S2048x2048_S2048x2048_S2048x1024_S2048x256_S2048x64_S2048x64_S2048x64_S2048x64_S2048x13824_d1 : Vec Ideal S2048x13824 .f32) bitsLt_bf16_f32 := by
  unfold V
  after_results <;> rfl

theorem V_v15 (c : Dev nD) (i : S2048x13824.Idx) :
    V m c main_v15 i = pick (fun q => (m ((c : Thread nD τ).loc main_arg1)) (ix2 (i 0) q)) (i 1) := by
  rw [V_v15_eq]
  exact cat_main (r := 2048) (m ((c : Thread nD τ).loc main_arg1)) _ (fun q => by pointwise []) _ _ _ _ _ _ _ _ _ _ _
    concatenates_S2048x2048_S2048x1024_S2048x1024_S2048x2048_S2048x2048_S2048x2048_S2048x2048_S2048x1024_S2048x256_S2048x64_S2048x64_S2048x64_S2048x64_S2048x13824_d1 i

/-- The gates' weights, as the host's operations make them. -/
theorem V_v18_eq (c : Dev nD) : V m c main_v18 = truncf (F := Ideal) .bf16 (concatenate S2048x128 1 [⟨S2048x16, extractStridedSlice S2048x16 ![0, 3392] (m ((c : Thread nD τ).loc main_arg1)) slices_S2048x13664_S2048x16_0_3392⟩, ⟨S2048x8, extractStridedSlice S2048x8 ![0, 9552] (m ((c : Thread nD τ).loc main_arg1)) slices_S2048x13664_S2048x8_0_9552⟩, ⟨S2048x8, extractStridedSlice S2048x8 ![0, 9560] (m ((c : Thread nD τ).loc main_arg1)) slices_S2048x13664_S2048x8_0_9560⟩, ⟨S2048x96, (broadcastInDim S2048x96 ![] bcast_S_S2048x96 (constant (F := Ideal) S_ .f32 0x00000000#32) : Vec Ideal S2048x96 .f32)⟩]
    concatenates_S2048x16_S2048x8_S2048x8_S2048x96_S2048x128_d1 : Vec Ideal S2048x128 .f32) bitsLt_bf16_f32 := by
  unfold V
  after_results <;> rfl

theorem weights (w : Vec Ideal S2048x13664 .f32) (z : Vec Ideal S2048x96 .f32) (hz : ∀ q, z q = (0 : EReal)) (i : S2048x128.Idx) :
    concatenate S2048x128 1 [⟨S2048x16, extractStridedSlice S2048x16 ![0, 3392] w slices_S2048x13664_S2048x16_0_3392⟩, ⟨S2048x8, extractStridedSlice S2048x8 ![0, 9552] w slices_S2048x13664_S2048x8_0_9552⟩, ⟨S2048x8, extractStridedSlice S2048x8 ![0, 9560] w slices_S2048x13664_S2048x8_0_9560⟩, ⟨S2048x96, z⟩]
      concatenates_S2048x16_S2048x8_S2048x8_S2048x96_S2048x128_d1 i = gateW w (i 0) (i 1) := by
  refine (cat_gate (r := 2048) _ _ _ _ hz _ i).trans ?_
  unfold gateW
  refine congrFun (congr (congr (congrArg four ?_) ?_) ?_) (i 1)
  · funext q; exact slice_at 3392 _ _ _ _
  · funext q; exact slice_at 9552 _ _ _ _
  · funext q; exact slice_at 9560 _ _ _ _

theorem V_v18 (c : Dev nD) (i : S2048x128.Idx) : V m c main_v18 i = gateW (m ((c : Thread nD τ).loc main_arg1)) (i 0) (i 1) := by
  rw [V_v18_eq]
  exact weights (m ((c : Thread nD τ).loc main_arg1)) _ (fun q => by pointwise []) i

theorem V_v22 (c : Dev nD) (i : S128x2048.Idx) : V m c main_v22 i = gateW (m ((c : Thread nD τ).loc main_arg1)) (i 1) (i 0) := by
  have e : V m c main_v22 = transpose S128x2048 [1, 0] (V m c main_v18) transposes_S2048x128_S128x2048_1_0 := by
    rw [V_v18_eq]
    unfold V
    after_results <;> rfl
  rw [e]
  refine (transpose_apply [1, 0] (V m c main_v18) transposes_S2048x128_S128x2048_1_0 i (ix2 (i 1) (i 0)) (fun b => match b with
    | ⟨0, _⟩ => rfl
    | ⟨1, _⟩ => rfl)).trans ?_
  exact V_v18 m c _

/-- The gates' biases, as the host's operations make them. -/
theorem V_v21_eq (c : Dev nD) : V m c main_v21 = (concatenate S128 0 [⟨S16, (broadcastInDim S16 ![] bcast_S_S16 (constant (F := Ideal) S_ .f32 0x00000000#32) : Vec Ideal S16 .f32)⟩, ⟨S8, m ((c : Thread nD τ).loc main_arg2)⟩, ⟨S8, m ((c : Thread nD τ).loc main_arg3)⟩, ⟨S96, (broadcastInDim S96 ![] bcast_S_S96 (constant (F := Ideal) S_ .f32 0x00000000#32) : Vec Ideal S96 .f32)⟩]
    concatenates_S16_S8_S8_S96_S128_d0 : Vec Ideal S128 .f32) := by
  unfold V
  after_results <;> rfl

theorem V_v21 (c : Dev nD) (i : S128.Idx) :
    V m c main_v21 i = gateB (m ((c : Thread nD τ).loc main_arg2)) (m ((c : Thread nD τ).loc main_arg3)) (i 0) := by
  rw [V_v21_eq]
  refine (cat_bias _ _ _ _ (fun q => by pointwise []) _ i).trans ?_
  unfold gateB
  refine congrFun (congr (congr (congrArg four ?_) ?_) ?_) (i 0)
  · funext q; pointwise []
  · rfl
  · rfl

theorem V_v23 (c : Dev nD) (i : S1x128.Idx) :
    V m c main_v23 i = gateB (m ((c : Thread nD τ).loc main_arg2)) (m ((c : Thread nD τ).loc main_arg3)) (i 1) := by
  have e : V m c main_v23 = shapeCast S1x128 (V m c main_v21) shapeCasts_S128_S1x128 := by
    rw [V_v21_eq]
    unfold V
    after_results <;> rfl
  rw [e]
  have h := V_v21 m c
  generalize V m c main_v21 = y at h
  have e2 : shapeCast S1x128 y shapeCasts_S128_S1x128 i = y (ix1 (i 1)) := by pointwise []
  exact e2.trans (h _)

theorem V_v24 (c : Dev nD) (i : S128x1.Idx) :
    V m c main_v24 i = gateB (m ((c : Thread nD τ).loc main_arg2)) (m ((c : Thread nD τ).loc main_arg3)) (i 0) := by
  have e : V m c main_v24 = shapeCast S128x1 (V m c main_v21) shapeCasts_S128_S128x1 := by
    rw [V_v21_eq]
    unfold V
    after_results <;> rfl
  rw [e]
  have h := V_v21 m c
  generalize V m c main_v21 = y at h
  have e2 : shapeCast S128x1 y shapeCasts_S128_S128x1 i = y (ix1 (i 0)) := by pointwise []
  exact e2.trans (h _)

/-! ## The blocks -/

/-- The blocks' indices at a grid point, the row tile's own at its first point. -/
theorem idx : ∀ t : Fin cfg0.N,
    win0_0.index (base t) = ![(grid0.coords t 0).val, 0] ∧ win0_1.index t = ![0, (grid0.coords t 1).val]
    ∧ win0_2.index (base t) = ![0, 0] ∧ win0_3.index (base t) = ![0, 0] ∧ win0_4.index (base t) = ![0, 0] ∧ win0_5.index (base t) = ![0, 0]
    ∧ win0_6.index t = ![(grid0.coords t 0).val, (grid0.coords t 1).val] ∧ win0_7.index t = ![(grid0.coords t 0).val, 0]
    ∧ win0_8.index t = ![0, (grid0.coords t 0).val] :=
  (by decide +kernel : ∀ t : Fin grid0.N, _)

/-- The first result is the packed projection of the argument arrays. -/
theorem final6 (c : Dev nD) : (dats m 0 c).arrAt 6 cfg0.N
    = packed (m ((c : Thread nD τ).loc main_arg0)) (m ((c : Thread nD τ).loc main_arg1)) := by
  refine (dats m 0 c).arrAt_eq_of_covers 6 _ (by decide +kernel) fun t hf y => ?_
  obtain ⟨e0, e1, e2, e3, e4, e5, e6, e7, e8⟩ := idx t
  blk_simp
  rw [after0_6, pay5_apply]
  refine Eq.trans ?_ (packed_eq _ _ _).symm
  refine Finset.sum_congr (M := EReal) rfl fun k _ => congrArg₂ (fun a b : EReal => a * b) ?_ ?_
  · unfold kept
    rw [pay2_apply]
    blk_simp [iblk, e0, e6]
    rw [V_main_arg0]
    congr 1
    blk_ext [e0, e6]
  · blk_simp [iblk, e1, e6]
    refine (V_v15 m c _).trans ?_
    refine congrArg₂ pick (funext fun q => congrArg (m ((c : Thread nD τ).loc main_arg1)) ?_) ?_
    · blk_ext [e1, e6]
    · apply Fin.ext; blk_simp [e1, e6]

/-- A row tile is written back at its last column tile, so that every row is. -/
theorem coord_last (n : Fin 16) (t : Fin cfg0.N) (ht : t.val = 9 * n.val + 8) : (grid0.coords t 0).val = n.val := by
  have e : (grid0.coords t 0).val = t.val / 9 % 16 := Pipeline.Grid.coords_val t 0 (by decide) rfl
  rw [e]; omega

theorem covers7 : (cfg0.win 7).Covers := by
  have hs : ∀ a : Fin 2, 0 < S1024x128.size a := by decide
  refine Pipeline.Window.covers_of_index_surj _ rfl hs fun β => ?_
  have n0 : (cfg0.win 7).nblk (0 : Fin 2) = (S16384x128.size 0 + S1024x128.size 0 - 1) / S1024x128.size 0 := rfl
  have n1 : (cfg0.win 7).nblk (1 : Fin 2) = (S16384x128.size 1 + S1024x128.size 1 - 1) / S1024x128.size 1 := rfl
  have h0 : (β (0 : Fin 2)).val < 16 := lt_of_lt_of_eq (β (0 : Fin 2)).isLt (n0.trans (by decide))
  have h1 : (β (1 : Fin 2)).val < 1 := lt_of_lt_of_eq (β (1 : Fin 2)).isLt (n1.trans (by decide))
  have hl : 9 * (β (0 : Fin 2)).val + 8 < cfg0.N := by rw [show cfg0.N = 144 from N_0]; omega
  obtain ⟨e0, e1, e2, e3, e4, e5, e6, e7, e8⟩ := idx ⟨9 * (β (0 : Fin 2)).val + 8, hl⟩
  refine ⟨⟨9 * (β (0 : Fin 2)).val + 8, hl⟩, fun a => ?_⟩
  have ec := coord_last ⟨(β (0 : Fin 2)).val, h0⟩ ⟨9 * (β (0 : Fin 2)).val + 8, hl⟩ rfl
  match a with
  | ⟨0, _⟩ => exact (congrFun e7 0).trans ec
  | ⟨1, _⟩ => exact (congrFun e7 1).trans (by show 0 = (β (1 : Fin 2)).val; omega)

theorem covers8 : (cfg0.win 8).Covers := by
  have hs : ∀ a : Fin 2, 0 < S128x1024.size a := by decide
  refine Pipeline.Window.covers_of_index_surj _ rfl hs fun β => ?_
  have n0 : (cfg0.win 8).nblk (0 : Fin 2) = (S128x16384.size 0 + S128x1024.size 0 - 1) / S128x1024.size 0 := rfl
  have n1 : (cfg0.win 8).nblk (1 : Fin 2) = (S128x16384.size 1 + S128x1024.size 1 - 1) / S128x1024.size 1 := rfl
  have h0 : (β (0 : Fin 2)).val < 1 := lt_of_lt_of_eq (β (0 : Fin 2)).isLt (n0.trans (by decide))
  have h1 : (β (1 : Fin 2)).val < 16 := lt_of_lt_of_eq (β (1 : Fin 2)).isLt (n1.trans (by decide))
  have hl : 9 * (β (1 : Fin 2)).val + 8 < cfg0.N := by rw [show cfg0.N = 144 from N_0]; omega
  obtain ⟨e0, e1, e2, e3, e4, e5, e6, e7, e8⟩ := idx ⟨9 * (β (1 : Fin 2)).val + 8, hl⟩
  refine ⟨⟨9 * (β (1 : Fin 2)).val + 8, hl⟩, fun a => ?_⟩
  have ec := coord_last ⟨(β (1 : Fin 2)).val, h1⟩ ⟨9 * (β (1 : Fin 2)).val + 8, hl⟩ rfl
  match a with
  | ⟨0, _⟩ => exact (congrFun e8 0).trans (by show 0 = (β (0 : Fin 2)).val; omega)
  | ⟨1, _⟩ => exact (congrFun e8 1).trans ec

/-- The second result is the gates of the argument arrays, -/
theorem final7 (c : Dev nD) : (dats m 0 c).arrAt 7 cfg0.N
    = gateRows (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ covers7 fun t hf y => ?_
  obtain ⟨e0, e1, e2, e3, e4, e5, e6, e7, e8⟩ := idx t
  blk_simp
  rw [after0_7]
  unfold gates
  rw [pay3_apply]
  refine Eq.trans ?_ (gate_eq _ _ _ _ _ _)
  refine congrArg₂ (fun a b : EReal => a + b) (Finset.sum_congr rfl fun k _ => congrArg₂ (fun a b : EReal => a * b) ?_ ?_) ?_
  · blk_simp [iblk, e0, e7]
    rw [V_main_arg0]
    congr 1
    blk_ext [e0, e7]
  · blk_simp [iblk, e2, e7]
    refine (V_v18 m c _).trans ?_
    refine congrArg₂ (gateW (m ((c : Thread nD τ).loc main_arg1))) ?_ ?_
    · apply Fin.ext; blk_simp [e2, e7]
    · apply Fin.ext; blk_simp [e2, e7]
  · blk_simp [iblk, e4, e7]
    refine (V_v23 m c _).trans (congrArg (gateB _ _) ?_)
    apply Fin.ext; blk_simp [e4, e7]

/-- and the third the same transposed. -/
theorem final8 (c : Dev nD) : (dats m 0 c).arrAt 8 cfg0.N
    = gateCols (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ covers8 fun t hf y => ?_
  obtain ⟨e0, e1, e2, e3, e4, e5, e6, e7, e8⟩ := idx t
  blk_simp
  rw [after0_8]
  unfold gatesT
  rw [pay4_apply]
  refine Eq.trans ?_ (gate_eq _ _ _ _ _ _)
  refine congrArg₂ (fun a b : EReal => a + b) (Finset.sum_congr rfl fun k _ => (mul_comm (_ : EReal) _).trans (congrArg₂ (fun a b : EReal => a * b) ?_ ?_)) ?_
  · blk_simp [iblk, e0, e8]
    rw [V_main_arg0]
    congr 1
    blk_ext [e0, e8]
  · blk_simp [iblk, e3, e8]
    refine (V_v22 m c _).trans ?_
    refine congrArg₂ (gateW (m ((c : Thread nD τ).loc main_arg1))) ?_ ?_
    · apply Fin.ext; blk_simp [e3, e8]
    · apply Fin.ext; blk_simp [e3, e8]
  · blk_simp [iblk, e5, e8]
    refine (V_v24 m c _).trans (congrArg (gateB _ _) ?_)
    apply Fin.ext; blk_simp [e5, e8]

/-! ## The reference -/

section
open Cert.InRefIdeal.Read

/-- The products, at a row and a column. -/
theorem prod_apply (x0 : Vec Ideal S16384x2048 .f32) (x1 : Vec Ideal S2048x13664 .f32) (r : Fin 16384) (q : Fin 13664) :
    val_main_v0 (F := Ideal) x0 x1 (ix2 r q) = ∑ k : Fin 2048, x0 (ix2 r k) * x1 (ix2 k q) := by
  pointwise [val_main_v0]

theorem reference_main (x0 : Vec Ideal S16384x2048 .f32) (x1 : Vec Ideal S2048x13664 .f32) :
    val_main_v24 (F := Ideal) x0 x1 = packed x0 x1 := by
  funext i
  refine (cat_main (r := 16384) (val_main_v0 (F := Ideal) x0 x1) (val_main_v14 (F := Ideal)) (fun q => by pointwise [val_main_v14, val_main_cst]) _ _ _ _ _ _ _ _ _ _ _
    Cert.InRefIdeal.Gen.concatenates_S16384x2048_S16384x1024_S16384x1024_S16384x2048_S16384x2048_S16384x2048_S16384x2048_S16384x1024_S16384x256_S16384x64_S16384x64_S16384x64_S16384x64_S16384x13824_d1 i).trans ?_
  exact congrArg (fun f => pick f (i 1)) (funext fun q => prod_apply x0 x1 (i 0) q)

theorem reference_rows (x0 : Vec Ideal S16384x2048 .f32) (x1 : Vec Ideal S2048x13664 .f32) (x2 x3 : Vec Ideal S8 .f32) :
    val_main_v23 (F := Ideal) x0 x1 x2 x3 = gateRows x0 x1 x2 x3 := by
  funext i
  refine (cat_gate (r := 16384) (val_main_v5 (F := Ideal) x0 x1) (val_main_v18 (F := Ideal) x0 x1 x2) (val_main_v21 (F := Ideal) x0 x1 x3) (val_main_v22 (F := Ideal))
    (fun q => by pointwise [val_main_v22, val_main_cst_0]) Cert.InRefIdeal.Gen.concatenates_S16384x16_S16384x8_S16384x8_S16384x96_S16384x128_d1 i).trans ?_
  unfold gateRows gate
  refine congrFun (congr (congr (congrArg four ?_) ?_) ?_) (i 1)
  · funext q
    exact (slice_at 3392 (val_main_v0 (F := Ideal) x0 x1) _ _ (by show 3392 + q.val < 13664; omega)).trans (prod_apply x0 x1 (i 0) _)
  · funext q
    refine congrArg₂ (fun a b : EReal => a + b) ((slice_at 9552 (val_main_v0 (F := Ideal) x0 x1) _ _ (by show 9552 + q.val < 13664; omega)).trans (prod_apply x0 x1 (i 0) _)) ?_
    pointwise [val_main_v17, val_main_v16]
  · funext q
    refine congrArg₂ (fun a b : EReal => a + b) ((slice_at 9560 (val_main_v0 (F := Ideal) x0 x1) _ _ (by show 9560 + q.val < 13664; omega)).trans (prod_apply x0 x1 (i 0) _)) ?_
    pointwise [val_main_v20, val_main_v19]

theorem reference_cols (x0 : Vec Ideal S16384x2048 .f32) (x1 : Vec Ideal S2048x13664 .f32) (x2 x3 : Vec Ideal S8 .f32) :
    val_main_v25 (F := Ideal) x0 x1 x2 x3 = gateCols x0 x1 x2 x3 := by
  funext i
  exact (val_main_v25_apply x0 x1 x2 x3 i).trans (congrFun (reference_rows x0 x1 x2 x3) _)

end

theorem packed_congr {x0 y0 : Vec Ideal S16384x2048 .f32} {x1 y1 : Vec Ideal S2048x13664 .f32} (h0 : x0 = y0) (h1 : x1 = y1) :
    packed x0 x1 = packed y0 y1 := by rw [h0, h1]

theorem rows_congr {x0 y0 : Vec Ideal S16384x2048 .f32} {x1 y1 : Vec Ideal S2048x13664 .f32} {x2 y2 x3 y3 : Vec Ideal S8 .f32}
    (h0 : x0 = y0) (h1 : x1 = y1) (h2 : x2 = y2) (h3 : x3 = y3) : gateRows x0 x1 x2 x3 = gateRows y0 y1 y2 y3 := by rw [h0, h1, h2, h3]

theorem cols_congr {x0 y0 : Vec Ideal S16384x2048 .f32} {x1 y1 : Vec Ideal S2048x13664 .f32} {x2 y2 x3 y3 : Vec Ideal S8 .f32}
    (h0 : x0 = y0) (h1 : x1 = y1) (h2 : x2 = y2) (h3 : x3 = y3) : gateCols x0 x1 x2 x3 = gateCols y0 y1 y2 y3 := by rw [h0, h1, h2, h3]

/-- At `Ideal` the kernel's three result arrays and the reference's agree. -/
theorem algebraic : Cert.algebraic_InIdeal_InRefIdeal := by
  intro m g m' g' hpre hagree
  refine ⟨fun c => (dats m 0 c).arrAt 6 cfg0.N, fun c => (dats m 0 c).arrAt 7 cfg0.N, fun c => (dats m 0 c).arrAt 8 cfg0.N, ?_, ?_⟩
  · exact (θ_run _ _ _).mono (fun r h c => ⟨(h.1 c).1.1, (h.1 c).1.2.1, (h.1 c).1.2.2, (h.1 c).2⟩) (run_blocks m g)
  · refine (θ_run _ _ _).mono (fun r h c => ?_) (Cert.InRefIdeal.Value.run m' g')
    obtain ⟨a0, a1, a2, a3⟩ := hagree c
    refine ⟨?_, ?_, ?_, (h c).2.2.2⟩
    · exact (h c).1.trans ((Cert.InRefIdeal.Read.val_main_v24_eq _ _).trans ((reference_main _ _).trans
        ((packed_congr a0 a1).trans (final6 m c).symm)))
    · exact (h c).2.1.trans ((Cert.InRefIdeal.Read.val_main_v23_eq _ _ _ _).trans ((reference_rows _ _ _ _).trans
        ((rows_congr a0 a1 a2 a3).trans (final7 m c).symm)))
    · exact (h c).2.2.1.trans ((Cert.InRefIdeal.Read.val_main_v25_eq _ _ _ _).trans ((reference_cols _ _ _ _).trans
        ((cols_congr a0 a1 a2 a3).trans (final8 m c).symm)))

end Cert.Proof.In

end
-- ==== Proof.Kv.Value.lean ====
/- The latent of keys and values at `Ideal`: every row block that the kernel writes back is the block of the normed latent,
   taken from the projection's columns from 13312 on, times the weights. -/
module

public import proofs.«01_k».proof.Defs
public import proofs.«01_k».proof.Proof.Gen.KvIdeal.Value
public import proofs.«01_k».proof.Proof.Gen.KvRefIdeal.Run
public import proofs.«01_k».proof.Proof.Gen.KvRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Proof.Kv

open Cert.KvIdeal Cert.KvIdeal.Gen Cert.KvIdeal.Value

variable (m : (ℓ : Loc nD τ sig) → Buf (Elt Ideal) ℓ) (ρ : Dev nD → PrngReg)

/-- A row of 256 over the root of its mean square, with the gain. -/
def norm (f g : Fin 256 → EReal) (k : Fin 256) : EReal :=
  f k * Ideal.rsqrt (Ideal.div (∑ l : Fin 256, f l * f l) (Ideal.ofBits .f32 0x43800000#32) + Ideal.ofBits .f32 0x3727C5AC#32) * g k

/-- The normed row times a column of the weights. -/
def dot (f g w : Fin 256 → EReal) : EReal := ∑ k : Fin 256, norm f g k * w k

/-- What the body stores, at an index of the block. -/
theorem pay_apply (v0 : Vec Ideal S512x256 .bf16) (v12 : Vec Ideal S1x256 .f32) (v17 : Vec Ideal S256x256 .bf16)
    (p : Fin 512) (q : Fin 256) :
    k0_pay1 (F := Ideal) v0 v12 v17 (ix2 p q) = dot (fun k => v0 (ix2 p k)) (fun k => v12 (ix2 0 k)) (fun k => v17 (ix2 k q)) := by
  pointwise [k0_pay1, dot, norm]

/-- The blocks' indices at a grid point. -/
theorem idx : ∀ t : Fin cfg0.N,
    win0_0.index t = ![(grid0.coords t 0).val, 52] ∧ win0_1.index t = ![0, 0] ∧ win0_2.index t = ![0, 0]
    ∧ win0_3.index t = ![(grid0.coords t 0).val, 0] :=
  (by decide +kernel : ∀ t : Fin grid0.N, _)

/-- The result over the extended reals, index by index. -/
def out (x0 : Vec Ideal S16384x13824 .bf16) (x1 : Vec Ideal S256 .f32) (x2 : Vec Ideal S256x256 .f32) :
    Vec Ideal S16384x256 .bf16 := fun i =>
  dot (fun k => x0 (ix2 (i 0) ⟨13312 + k.val, by omega⟩)) (fun k => x1 (ix1 k)) (fun k => x2 (ix2 k (i 1)))

/-- The host reads the gain as one row; its rounded copy of the weights is, at `Ideal`, the weights. -/
theorem V_main_v0 (c : Dev nD) : V m c main_v0 = shapeCast S1x256 (m ((c : Thread nD τ).loc main_arg1)) shapeCasts_S256_S1x256 := by
  unfold V
  after_results
  rfl
theorem V_main_v1 (c : Dev nD) : V m c main_v1 = m ((c : Thread nD τ).loc main_arg2) := by
  unfold V
  after_results
  rfl

theorem row_lt (t : Fin cfg0.N) (p : Fin 512) : (grid0.coords t 0).val * 512 + p.val < 16384 := by
  have h : (grid0.coords t 0).val < 32 := (grid0.coords t 0).isLt
  omega

theorem part0 (c : Dev nD) (t : Fin cfg0.N) (p : Fin 512) (k : Fin 256) : iblk m c 0 t (ix2 p k)
    = m ((c : Thread nD τ).loc main_arg0) (ix2 ⟨(grid0.coords t 0).val * 512 + p.val, row_lt t p⟩ ⟨13312 + k.val, by omega⟩) := by
  obtain ⟨e0, e1, e2, e3⟩ := idx t
  show V m c main_arg0 (((cfg0.win 0).blk t).view.emb _) = _
  rw [V_main_arg0]
  congr 1
  blk_ext [e0]
theorem as_row (x : Vec Ideal S256 .f32) (q : Fin 256) : shapeCast S1x256 x shapeCasts_S256_S1x256 (ix2 0 q) = x (ix1 q) := by
  pointwise
theorem part1 (c : Dev nD) (t : Fin cfg0.N) (q : Fin 256) : iblk m c 1 t (ix2 0 q)
    = m ((c : Thread nD τ).loc main_arg1) (ix1 q) := by
  obtain ⟨e0, e1, e2, e3⟩ := idx t
  have h : ((cfg0.win 1).blk t).view.emb (ix2 0 q) = ix2 0 q := by blk_ext [e1]
  show V m c main_v0 (((cfg0.win 1).blk t).view.emb _) = _
  rw [V_main_v0, h]
  exact as_row _ q
theorem part2 (c : Dev nD) (t : Fin cfg0.N) (k l : Fin 256) : iblk m c 2 t (ix2 k l)
    = m ((c : Thread nD τ).loc main_arg2) (ix2 k l) := by
  obtain ⟨e0, e1, e2, e3⟩ := idx t
  show V m c main_v1 (((cfg0.win 2).blk t).view.emb _) = _
  rw [V_main_v1]
  congr 1
  blk_ext [e2]

theorem dot_congr {f f' g g' w w' : Fin 256 → EReal} (ef : ∀ k, f k = f' k) (eg : ∀ k, g k = g' k) (ew : ∀ k, w k = w' k) :
    dot f g w = dot f' g' w' := by
  rw [funext ef, funext eg, funext ew]

/-- The result array is that function of the argument arrays. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  blk_simp
  rw [after0_3]
  unfold out0_3
  frame_out
  obtain ⟨p, q, rfl⟩ : ∃ (p : Fin 512) (q : Fin 256), y = ix2 p q := ⟨y 0, y 1, eq_ix2 y⟩
  rw [pay_apply]
  have hy : (win0_3.blk t).view.emb (ix2 p q) = ix2 (⟨(grid0.coords t 0).val * 512 + p.val, row_lt t p⟩ : Fin 16384) q := by
    blk_ext [e3]
  rw [hy]
  exact dot_congr (fun k => part0 m c t p k) (fun k => part1 m c t k) (fun k => part2 m c t k q)

/-- The reference's result is the same function of its arguments. -/
theorem reference_eq (x0 : Vec Ideal S16384x13824 .bf16) (x1 : Vec Ideal S256 .f32) (x2 : Vec Ideal S256x256 .f32) :
    Cert.KvRefIdeal.Read.val_main_v16 (F := Ideal) x0 x1 x2 = out x0 x1 x2 := by
  funext i
  pointwise [Cert.KvRefIdeal.Read.val_main_v0, Cert.KvRefIdeal.Read.val_main_v1, Cert.KvRefIdeal.Read.val_main_v2, Cert.KvRefIdeal.Read.val_main_v3, Cert.KvRefIdeal.Read.val_main_v4, Cert.KvRefIdeal.Read.val_main_v5, Cert.KvRefIdeal.Read.val_main_v6, Cert.KvRefIdeal.Read.val_main_v7, Cert.KvRefIdeal.Read.val_main_v8, Cert.KvRefIdeal.Read.val_main_v9, Cert.KvRefIdeal.Read.val_main_v10, Cert.KvRefIdeal.Read.val_main_v11, Cert.KvRefIdeal.Read.val_main_v12, Cert.KvRefIdeal.Read.val_main_v13, Cert.KvRefIdeal.Read.val_main_v14, Cert.KvRefIdeal.Read.val_main_v15, Cert.KvRefIdeal.Read.val_main_v16, Cert.KvRefIdeal.Read.val_main_cst, Cert.KvRefIdeal.Read.val_main_cst_0, Cert.KvRefIdeal.Read.val_main_cst_1,
    out, dot, norm]

/-- At `Ideal` the kernel's result array and the reference's agree. -/
theorem algebraic : Cert.algebraic_KvIdeal_KvRefIdeal := by
  pair_intro
  · run_from Cert.KvIdeal.Value.run_blocks m g
  · run_from Cert.KvRefIdeal.Value.run m' g'
    rw [final m c]
    rw [Cert.KvRefIdeal.Read.val_main_v16_eq, reference_eq]

end Cert.Proof.Kv

end
-- ==== Proof.Mix.Value.lean ====
/- The gated mixing projection at `Ideal`: every block of the result that the kernel writes back is the block of
   `sigmoid(g_a) · (ya · wa) + sigmoid(g_m) · (ym · wm)` over the argument arrays. -/
module

public import proofs.«01_k».proof.Defs
public import proofs.«01_k».proof.Proof.Gen.MixIdeal.Value
public import proofs.«01_k».proof.Proof.Gen.MixRefIdeal.Run
public import proofs.«01_k».proof.Proof.Gen.MixRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Proof.Mix

open Cert.MixIdeal Cert.MixIdeal.Gen Cert.MixIdeal.Value

variable (m : (ℓ : Loc nD τ sig) → Buf (Elt Ideal) ℓ) (ρ : Dev nD → PrngReg)

/-- The mixing projection over the extended reals, index by index. -/
def mixed (ya ym : Vec Ideal S16384x2048 .bf16) (wa wm : Vec Ideal S2048x2048 .f32) (pr : Vec Ideal S16384x13824 .bf16) :
    Vec Ideal S16384x2048 .bf16 := fun i =>
  Ideal.logistic (pr (ix2 (i 0) ⟨8192 + (i 1).val, by have h : (i 1).val < 2048 := (i 1).isLt; omega⟩))
      * (∑ k : Fin 2048, ya (ix2 (i 0) k) * wa (ix2 k (i 1)))
    + Ideal.logistic (pr (ix2 (i 0) ⟨10240 + (i 1).val, by have h : (i 1).val < 2048 := (i 1).isLt; omega⟩))
      * (∑ k : Fin 2048, ym (ix2 (i 0) k) * wm (ix2 k (i 1)))

/-- What the body stores, at an index of the block. -/
theorem pay_apply (v0 v4 : Vec Ideal S512x2048 .bf16) (v1 v5 : Vec Ideal S2048x1024 .bf16)
    (v8 v12 : Vec Ideal S512x1024 .bf16) (j : S512x1024.Idx) :
    k0_pay1 (F := Ideal) v0 v1 v4 v5 v8 v12 j
      = Ideal.logistic (v8 j) * (∑ k : Fin 2048, v0 (ix2 (j 0) k) * v1 (ix2 k (j 1)))
        + Ideal.logistic (v12 j) * (∑ k : Fin 2048, v4 (ix2 (j 0) k) * v5 (ix2 k (j 1))) := by
  pointwise [k0_pay1]

/-- The blocks' indices at a grid point: column block first, row block second. -/
theorem idx : ∀ t : Fin cfg0.N,
    win0_0.index t = ![(grid0.coords t 1).val, 0] ∧ win0_1.index t = ![(grid0.coords t 1).val, 0]
    ∧ win0_2.index t = ![0, (grid0.coords t 0).val] ∧ win0_3.index t = ![0, (grid0.coords t 0).val]
    ∧ win0_4.index t = ![(grid0.coords t 1).val, 8 + (grid0.coords t 0).val]
    ∧ win0_5.index t = ![(grid0.coords t 1).val, 10 + (grid0.coords t 0).val]
    ∧ win0_6.index t = ![(grid0.coords t 1).val, (grid0.coords t 0).val] :=
  (by decide +kernel : ∀ t : Fin grid0.N, _)

/-- The host's rounded copies of the weights are, at `Ideal`, the weights. -/
theorem V_main_v0 (c : Dev nD) : V m c main_v0 = m ((c : Thread nD τ).loc main_arg2) := by
  unfold V
  after_results
  rfl
theorem V_main_v1 (c : Dev nD) : V m c main_v1 = m ((c : Thread nD τ).loc main_arg3) := by
  unfold V
  after_results
  rfl

theorem row_lt (t : Fin cfg0.N) (y : S512x1024.Idx) : (grid0.coords t 1).val * 512 + (y 0).val < 16384 := by
  have h : (grid0.coords t 1).val < 32 := (grid0.coords t 1).isLt
  have h' : (y 0).val < 512 := (y 0).isLt
  omega
theorem col_lt (t : Fin cfg0.N) (y : S512x1024.Idx) : (grid0.coords t 0).val * 1024 + (y 1).val < 2048 := by
  have h : (grid0.coords t 0).val < 2 := (grid0.coords t 0).isLt
  have h' : (y 1).val < 1024 := (y 1).isLt
  omega

/-- No fetched block of the first gate is cut: it is its part of the array. -/
theorem gate4 (c : Dev nD) (t : Fin cfg0.N) (y : S512x1024.Idx) : X0_4 m c t y
    = m ((c : Thread nD τ).loc main_arg4) (ix2 ⟨(grid0.coords t 1).val * 512 + (y 0).val, row_lt t y⟩
        ⟨8192 + ((grid0.coords t 0).val * 1024 + (y 1).val), by have h := col_lt t y; omega⟩) := by
  obtain ⟨e0, e1, e2, e3, e4, e5, e6⟩ := idx t
  unfold X0_4 Pipeline.Window.fill
  rw [dif_pos (moved0_4 t y)]
  show V m c main_arg4 (((cfg0.win 4).blk t).view.emb _) = _
  rw [V_main_arg4]
  congr 1
  blk_ext [e4]

/-- No fetched block of the second gate is cut: it is its part of the array. -/
theorem gate5 (c : Dev nD) (t : Fin cfg0.N) (y : S512x1024.Idx) : X0_5 m c t y
    = m ((c : Thread nD τ).loc main_arg4) (ix2 ⟨(grid0.coords t 1).val * 512 + (y 0).val, row_lt t y⟩
        ⟨10240 + ((grid0.coords t 0).val * 1024 + (y 1).val), by have h := col_lt t y; omega⟩) := by
  obtain ⟨e0, e1, e2, e3, e4, e5, e6⟩ := idx t
  unfold X0_5 Pipeline.Window.fill
  rw [dif_pos (moved0_5 t y)]
  show V m c main_arg4 (((cfg0.win 5).blk t).view.emb _) = _
  rw [V_main_arg4]
  congr 1
  blk_ext [e5]

/-- The result array is the mixing projection of the argument arrays. -/
theorem final (c : Dev nD) : (dats m 0 c).arrAt 6 cfg0.N
    = mixed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  obtain ⟨e0, e1, e2, e3, e4, e5, e6⟩ := idx t
  blk_simp
  rw [after0_6]
  unfold outsAt0
  frame_out
  rw [pay_apply]
  unfold mixed
  blk_simp [iblk, e0, e1, e2, e3, e4, e5, e6]
  rw [V_main_arg0, V_main_arg1, V_main_v0, V_main_v1]
  refine congrArg₂ (· + ·) (congrArg₂ (· * ·) ?_ (Finset.sum_congr rfl fun k _ => congrArg₂ (· * ·) ?_ ?_))
    (congrArg₂ (· * ·) ?_ (Finset.sum_congr rfl fun k _ => congrArg₂ (· * ·) ?_ ?_))
  · rw [gate4]
    refine congrArg (fun q => Ideal.logistic (m ((c : Thread nD τ).loc main_arg4) q)) ?_
    blk_ext [e6]
  · congr 1; blk_ext [e0, e6]
  · congr 1; blk_ext [e2, e6]
  · rw [gate5]
    refine congrArg (fun q => Ideal.logistic (m ((c : Thread nD τ).loc main_arg4) q)) ?_
    blk_ext [e6]
  · congr 1; blk_ext [e1, e6]
  · congr 1; blk_ext [e3, e6]

/-- The reference's result is the same function of its arguments. -/
theorem reference_eq (x0 x1 : Vec Ideal S16384x2048 .bf16) (x2 x3 : Vec Ideal S2048x2048 .f32) (x4 : Vec Ideal S16384x13824 .bf16) :
    Cert.MixRefIdeal.Read.val_main_v23 (F := Ideal) x0 x1 x2 x3 x4 = mixed x0 x1 x2 x3 x4 := by
  funext i
  rw [← Cert.MixRefIdeal.Read.val_main_v23_eq]
  pointwise [mixed, Ideal.logistic]

/-- At `Ideal` the kernel's result array and the reference's agree. -/
theorem algebraic : Cert.algebraic_MixIdeal_MixRefIdeal := by
  pair_intro
  · run_from Cert.MixIdeal.Value.run_blocks m g
  · run_from Cert.MixRefIdeal.Value.run m' g'
    rw [final m c]
    exact (Cert.MixRefIdeal.Read.val_main_v23_eq _ _ _ _ _).trans (reference_eq _ _ _ _ _)

end Cert.Proof.Mix

end
-- ==== Proof.LnA.Route.lean ====
/- The routing of one row over the extended reals, apart from how a program lays it out: the largest of four values and the
   first index that has it, the softmax of four, and the two largest of them normalised. -/
module

public import Idealize.ShloMosaic.PureOps.Ideal
public import Idealize.ShloMosaic.Lib.Pointwise

@[expose] public section

noncomputable section

open Idealize.ShloMosaic

namespace Cert.Proof.LnA

/-- The largest of four. -/
def top (v : Fin 4 → EReal) : EReal := max (max (max (v 0) (v 1)) (v 2)) (v 3)

/-- The first index of the largest of four, as a word. -/
def first (v : Fin 4 → EReal) : BitVec 32 :=
  if v 0 = top v then 0#32 else if v 1 = top v then 1#32 else if v 2 = top v then 2#32 else 3#32

/-- The sum of the exponentials of four, the largest taken off. -/
def total (v : Fin 4 → EReal) : EReal := ∑ k : Fin 4, Ideal.exp (v k - top v)

/-- The softmax of four. -/
def prob (v : Fin 4 → EReal) (k : Fin 4) : EReal := Ideal.div (Ideal.exp (v k - top v)) (total v)

/-- The row of four that the word `i` names. -/
def chosen (i : BitVec 32) (l : Fin 4 → Fin 4 → EReal) (e : Fin 4) : EReal :=
  if i = 0#32 then l 0 e else if i = 1#32 then l 1 e else if i = 2#32 then l 2 e else l 3 e

/-- Four values, `c` in the place that the word `i` names. -/
def without (c : EReal) (i : BitVec 32) (v : Fin 4 → EReal) (k : Fin 4) : EReal := if i = BitVec.ofNat 32 k.val then c else v k

/-- The two largest of four values over their sum, in their places, the others zero: `c` marks the largest out. -/
def pair (c : EReal) (v : Fin 4 → EReal) (k : Fin 4) : EReal :=
  if first v = BitVec.ofNat 32 k.val then Ideal.div (top v) (top v + top (without c (first v) v))
  else if first (without c (first v) v) = BitVec.ofNat 32 k.val then
    Ideal.div (top (without c (first v) v)) (top v + top (without c (first v) v))
  else 0

theorem le_of_top (v : Fin 4 → EReal) : ∀ k, v k ≤ top v := by
  intro k
  fin_cases k <;> simp [top]

theorem top_mem (v : Fin 4 → EReal) : v 0 = top v ∨ v 1 = top v ∨ v 2 = top v ∨ v 3 = top v := by
  unfold top
  rcases le_total (max (max (v 0) (v 1)) (v 2)) (v 3) with h3 | h3
  · right; right; right; exact (max_eq_right h3).symm
  · rw [max_eq_left h3]
    rcases le_total (max (v 0) (v 1)) (v 2) with h2 | h2
    · right; right; left; exact (max_eq_right h2).symm
    · rw [max_eq_left h2]
      rcases le_total (v 0) (v 1) with h1 | h1
      · right; left; exact (max_eq_right h1).symm
      · left; exact (max_eq_left h1).symm

theorem first_cases (v : Fin 4 → EReal) : first v = 0#32 ∨ first v = 1#32 ∨ first v = 2#32 ∨ first v = 3#32 := by
  unfold first
  split_ifs <;> simp

/-- The least index whose value is the largest is the first. -/
theorem least_eq_first (v : Fin 4 → EReal) :
    (Finset.univ : Finset (Fin 4)).fold IntOp.minsi 0x7FFFFFFF#32
      (fun k => if v k = top v then BitVec.ofNat 32 k.val else 4#32) = first v := by
  have h : ∀ f : Fin 4 → BitVec 32, (Finset.univ : Finset (Fin 4)).fold IntOp.minsi 0x7FFFFFFF#32 f
      = IntOp.minsi (f 0) (IntOp.minsi (f 1) (IntOp.minsi (f 2) (IntOp.minsi (f 3) 0x7FFFFFFF#32))) := fun f => rfl
  rw [h]
  unfold first
  rcases top_mem v with h0 | h1 | h2 | h3
  all_goals (by_cases e0 : v 0 = top v <;> by_cases e1 : v 1 = top v <;> by_cases e2 : v 2 = top v <;> by_cases e3 : v 3 = top v)
  all_goals (first | (exfalso; contradiction) | (simp only [e0, e1, e2, e3, if_true, if_false]; decide))

theorem greatest_eq_top (v : Fin 4 → EReal) : (Finset.univ : Finset (Fin 4)).fold max ⊥ v = top v := by
  have h : (Finset.univ : Finset (Fin 4)).fold max ⊥ v = max (v 0) (max (v 1) (max (v 2) (max (v 3) ⊥))) := rfl
  rw [h, max_bot_right]
  unfold top
  simp only [max_assoc]

/-- A sum over the rows, all but the named one masked, is the named row. -/
theorem masked_sum (v : Fin 4 → EReal) (l : Fin 4 → Fin 4 → EReal) (e : Fin 4) :
    (∑ g : Fin 4, if BitVec.ofNat 32 g.val = first v then l g e else 0) = chosen (first v) l e := by
  rw [Fin.sum_univ_four]
  unfold chosen
  rcases first_cases v with h | h | h | h <;> rw [h] <;> simp

theorem exp_nonneg (x : EReal) : 0 ≤ Ideal.exp x := by
  induction x with
  | bot => exact le_refl _
  | top => exact le_top
  | coe r => exact EReal.coe_nonneg.2 (Real.exp_pos r).le

theorem prob_nonneg (v : Fin 4 → EReal) (h : total v ≠ 0) (k : Fin 4) : 0 ≤ prob v k := by
  unfold prob Ideal.div
  rw [if_neg h]
  refine mul_nonneg (exp_nonneg _) ?_
  refine EReal.inv_nonneg_of_nonneg ?_
  exact Finset.sum_nonneg fun k _ => exp_nonneg _

theorem prob_bot (v : Fin 4 → EReal) (h : total v = 0) (k : Fin 4) : prob v k = ⊥ := by
  have hk : Ideal.exp (v k - top v) = 0 := by
    have := (Finset.sum_eq_zero_iff_of_nonneg (fun k _ => exp_nonneg (v k - top v))).1 h
    exact this k (Finset.mem_univ k)
  unfold prob Ideal.div
  rw [if_pos h, hk, if_neg (lt_irrefl _)]

/-- The largest of four and its first index, the `j`-th marked out by `c`. -/
theorem marked (c : EReal) (hc : c < 0) (v : Fin 4 → EReal) (hv : ∀ k, 0 ≤ v k) (i : BitVec 32)
    (hi : i = 0#32 ∨ i = 1#32 ∨ i = 2#32 ∨ i = 3#32) :
    top (without c i v) = top (without 0 i v) ∧ first (without c i v)
      = (if i ≠ 0#32 ∧ v 0 = top (without 0 i v) then 0#32 else if i ≠ 1#32 ∧ v 1 = top (without 0 i v) then 1#32
          else if i ≠ 2#32 ∧ v 2 = top (without 0 i v) then 2#32 else 3#32) ∧ first (without c i v) ≠ i := by
  have hl : ∀ k, max c (v k) = v k := fun k => max_eq_right (hc.le.trans (hv k))
  have hr : ∀ k, max (v k) c = v k := fun k => max_eq_left (hc.le.trans (hv k))
  have hl' : ∀ k, max 0 (v k) = v k := fun k => max_eq_right (hv k)
  have hr' : ∀ k, max (v k) 0 = v k := fun k => max_eq_left (hv k)
  have hne : ∀ x : EReal, 0 ≤ x → c ≠ x := fun x hx h => absurd (h ▸ hc) (not_lt.2 hx)
  have ht : top (without c i v) = top (without 0 i v) := by
    rcases hi with h | h | h | h <;> subst h <;>
      simp [top, without, hl, hr, hl', hr', max_assoc]
  have hp : 0 ≤ top (without 0 i v) := by
    refine le_trans ?_ (le_of_top _ 0)
    unfold without
    split_ifs
    exacts [le_refl _, hv 0]
  have h2 : first (without c i v)
      = (if i ≠ 0#32 ∧ v 0 = top (without 0 i v) then 0#32 else if i ≠ 1#32 ∧ v 1 = top (without 0 i v) then 1#32
          else if i ≠ 2#32 ∧ v 2 = top (without 0 i v) then 2#32 else 3#32) := by
    unfold first
    rw [ht]
    generalize top (without 0 i v) = t at hp
    rcases hi with h | h | h | h <;> subst h <;> simp [without, hne t hp]
  refine ⟨ht, h2, ?_⟩
  have hm := top_mem (without c i v)
  rcases hi with h | h | h | h <;> subst h
  all_goals
    rw [h2]
    rw [ht] at hm
    simp [without, hne _ hp] at hm ⊢
  all_goals split_ifs <;> simp_all

/-- Any mark below zero gives the same pair, and so does the sum of the two places. -/
theorem pair_mark (c : EReal) (hc : c < 0) (u : Fin 4 → EReal) (k : Fin 4) : pair c (prob u) k
    = (if BitVec.ofNat 32 k.val = first (prob u) then
        Ideal.div (top (prob u)) (top (prob u) + top (without ⊥ (first (prob u)) (prob u))) else 0)
      + (if BitVec.ofNat 32 k.val = first (without ⊥ (first (prob u)) (prob u)) then
        Ideal.div (top (without ⊥ (first (prob u)) (prob u))) (top (prob u) + top (without ⊥ (first (prob u)) (prob u))) else 0) := by
  by_cases h : total u = 0
  · have hb : prob u = fun _ => ⊥ := funext (prob_bot u h)
    have ht : top (fun _ => (⊥ : EReal)) = ⊥ := by simp [top]
    have hd : ∀ x : EReal, Ideal.div x ⊥ = 0 := fun x => by unfold Ideal.div; rw [if_neg (by simp)]; simp
    unfold pair
    rw [hb, ht]
    simp [hd]
  · have hv := prob_nonneg u h
    obtain ⟨t1, f1, n1⟩ := marked c hc _ hv _ (first_cases (prob u))
    obtain ⟨t2, f2, n2⟩ := marked ⊥ (by simp) _ hv _ (first_cases (prob u))
    have hf := f1.trans f2.symm
    have ht := t1.trans t2.symm
    unfold pair
    rw [hf, ht]
    by_cases ha : first (prob u) = BitVec.ofNat 32 k.val
    · have hb : first (without ⊥ (first (prob u)) (prob u)) ≠ BitVec.ofNat 32 k.val := fun hb => n2 (hb.trans ha.symm)
      rw [if_pos ha, if_pos ha.symm, if_neg hb.symm, add_zero]
    · rw [if_neg ha, if_neg (Ne.symm ha), zero_add]
      by_cases hb : first (without ⊥ (first (prob u)) (prob u)) = BitVec.ofNat 32 k.val
      · rw [if_pos hb, if_pos hb.symm]
      · rw [if_neg hb, if_neg (Ne.symm hb)]

end Cert.Proof.LnA

end
-- ==== Proof.LnA.Pay.lean ====
/- The router's row block at `Ideal`: what the kernel's chain of row operations holds in each column is the routing of that
   row's logits. -/
module

public import proofs.«01_k».proof.Proof.LnA.Route
public import proofs.«01_k».proof.Proof.Gen.LnAIdeal.Value
public import Idealize.ShloMosaic.Lib.Pipeline.ValueKit
public import Idealize.ShloMosaic.Lib.Pointwise

@[expose] public section

noncomputable section

open Idealize.ShloMosaic Idealize.ShloMosaic.TcCoe

namespace Cert.Proof.LnA

open Cert.LnAIdeal Cert.LnAIdeal.Gen

/-- What the kernel puts in the place of the largest when it looks for the second largest. -/
def mark : EReal := Ideal.ofBits .f32 0xBF800000#32

theorem sel {α : Type} (a b : BitVec 32) (x y : α) : Scalar.select (IntOp.cmpi .eq a b) x y = if a = b then x else y := by
  unfold Scalar.select IntOp.cmpi
  by_cases h : a = b
  · simp [h]
  · have e : (a == b) = false := by simpa using h
    simp [h, e]

/-- One row's routing weights and its group, as the eight numbers that go beside the row. -/
def route (g : Fin 4 → EReal) (l : Fin 4 → Fin 4 → EReal) (k : Fin 8) : EReal :=
  if h : k.val < 4 then Ideal.div 1 (total g) * pair mark (prob (chosen (first g) l)) ⟨k.val, h⟩
  else if k.val = 4 then (((first g).toInt : ℝ) : EReal) else 0

section Logits

variable (v34 : FVec Ideal S128x2048 .bf16) (v35 : FVec Ideal S512x2048 .bf16) (cst : FVec Ideal S128x512 .f32)
  (v37 : Vec Ideal S128x1 .f32) (p : Fin 512)

/-- The four group logits of the row `p`. -/
def grp (k : Fin 4) : EReal := k0_pay6 v34 v35 cst v37 (ix2 ⟨k.val, by omega⟩ p)

/-- Its sixteen expert logits, by group. -/
def ex (g e : Fin 4) : EReal := k0_pay6 v34 v35 cst v37 (ix2 ⟨4 + (g.val * 4 + e.val), by omega⟩ p)

theorem pay12 : k0_pay12 v34 v35 cst v37 (ix2 0 p) = first (grp v34 v35 cst v37 p) := by
  pointwise [k0_pay12, k0_pay11, k0_pay10, k0_pay9, k0_pay8, k0_pay7, first, top, grp]

theorem pay13 : k0_pay13 v34 v35 cst v37 (ix2 0 p) = Ideal.div 1 (total (grp v34 v35 cst v37 p)) := by
  pointwise [k0_pay13, k0_pay11, k0_pay10, k0_pay9, k0_pay8, k0_pay7, total, top, grp]
  rw [mul_zero, zero_add, Fin.sum_univ_four]
  rfl

theorem pay16 : k0_pay16 (k0_pay6 v34 v35 cst v37) (k0_pay14 v34 v35 cst v37) (k0_pay15 v34 v35 cst v37) (ix2 0 p)
    = chosen (first (grp v34 v35 cst v37 p)) (ex v34 v35 cst v37 p) 0 := by
  rw [← pay12]
  pointwise [k0_pay16, k0_pay14, k0_pay15, chosen, ex]
  simp only [sel]

theorem pay17 : k0_pay17 (k0_pay6 v34 v35 cst v37) (k0_pay12 v34 v35 cst v37) (ix2 0 p)
    = chosen (first (grp v34 v35 cst v37 p)) (ex v34 v35 cst v37 p) 1 := by
  rw [← pay12]
  pointwise [k0_pay17, chosen, ex]
  simp only [sel]

theorem pay18 : k0_pay18 (k0_pay6 v34 v35 cst v37) (k0_pay12 v34 v35 cst v37) (ix2 0 p)
    = chosen (first (grp v34 v35 cst v37 p)) (ex v34 v35 cst v37 p) 2 := by
  rw [← pay12]
  pointwise [k0_pay18, chosen, ex]
  simp only [sel]

theorem pay19 : k0_pay19 (k0_pay6 v34 v35 cst v37) (k0_pay12 v34 v35 cst v37) (ix2 0 p)
    = chosen (first (grp v34 v35 cst v37 p)) (ex v34 v35 cst v37 p) 3 := by
  rw [← pay12]
  pointwise [k0_pay19, chosen, ex]
  simp only [sel]

theorem pay20 : k0_pay20 (k0_pay6 v34 v35 cst v37) (k0_pay12 v34 v35 cst v37) (k0_pay14 v34 v35 cst v37) (k0_pay15 v34 v35 cst v37) (ix2 0 p)
    = top (chosen (first (grp v34 v35 cst v37 p)) (ex v34 v35 cst v37 p)) := by
  pointwise [k0_pay20, top]
  rw [pay16, pay17, pay18, pay19]

theorem pay21 : k0_pay21 (k0_pay6 v34 v35 cst v37) (k0_pay12 v34 v35 cst v37) (k0_pay14 v34 v35 cst v37) (k0_pay15 v34 v35 cst v37) (ix2 0 p)
    = Ideal.exp (chosen (first (grp v34 v35 cst v37 p)) (ex v34 v35 cst v37 p) 0
      - top (chosen (first (grp v34 v35 cst v37 p)) (ex v34 v35 cst v37 p))) := by
  pointwise [k0_pay21]
  rw [pay16, pay20]

theorem pay22 : k0_pay22 (k0_pay6 v34 v35 cst v37) (k0_pay12 v34 v35 cst v37) (k0_pay14 v34 v35 cst v37) (k0_pay15 v34 v35 cst v37) (ix2 0 p)
    = Ideal.exp (chosen (first (grp v34 v35 cst v37 p)) (ex v34 v35 cst v37 p) 1
      - top (chosen (first (grp v34 v35 cst v37 p)) (ex v34 v35 cst v37 p))) := by
  pointwise [k0_pay22]
  rw [pay17, pay20]

theorem pay23 : k0_pay23 (k0_pay6 v34 v35 cst v37) (k0_pay12 v34 v35 cst v37) (k0_pay14 v34 v35 cst v37) (k0_pay15 v34 v35 cst v37) (ix2 0 p)
    = Ideal.exp (chosen (first (grp v34 v35 cst v37 p)) (ex v34 v35 cst v37 p) 2
      - top (chosen (first (grp v34 v35 cst v37 p)) (ex v34 v35 cst v37 p))) := by
  pointwise [k0_pay23]
  rw [pay18, pay20]

theorem pay24 : k0_pay24 (k0_pay6 v34 v35 cst v37) (k0_pay12 v34 v35 cst v37) (k0_pay14 v34 v35 cst v37) (k0_pay15 v34 v35 cst v37) (ix2 0 p)
    = chosen (first (grp v34 v35 cst v37 p)) (ex v34 v35 cst v37 p) 3
      - top (chosen (first (grp v34 v35 cst v37 p)) (ex v34 v35 cst v37 p)) := by
  pointwise [k0_pay24]
  rw [pay19, pay20]

end Logits

section Pairs

variable {v130 v132 v134 v135 : FVec Ideal S1x512 .f32} {p : Fin 512} {u : Fin 4 → EReal}
  (h0 : v130 (ix2 0 p) = Ideal.exp (u 0 - top u)) (h1 : v132 (ix2 0 p) = Ideal.exp (u 1 - top u))
  (h2 : v134 (ix2 0 p) = Ideal.exp (u 2 - top u)) (h3 : v135 (ix2 0 p) = u 3 - top u)

include h0 h1 h2 h3

theorem pay27 : k0_pay27 v130 v132 v134 v135 (ix2 0 p) = prob u 0 := by
  pointwise [k0_pay27, k0_pay26, k0_pay25]
  rw [h0, h1, h2, h3]
  unfold prob total
  rw [Fin.sum_univ_four]

theorem pay28 : k0_pay28 v130 v132 v134 v135 (ix2 0 p) = prob u 1 := by
  pointwise [k0_pay28, k0_pay26, k0_pay25]
  rw [h0, h1, h2, h3]
  unfold prob total
  rw [Fin.sum_univ_four]

theorem pay29 : k0_pay29 v130 v132 v134 v135 (ix2 0 p) = prob u 2 := by
  pointwise [k0_pay29, k0_pay26, k0_pay25]
  rw [h0, h1, h2, h3]
  unfold prob total
  rw [Fin.sum_univ_four]

theorem pay30 : k0_pay30 v130 v132 v134 v135 (ix2 0 p) = prob u 3 := by
  pointwise [k0_pay30, k0_pay26, k0_pay25]
  rw [h0, h1, h2, h3]
  unfold prob total
  rw [Fin.sum_univ_four]

theorem pay31 : k0_pay31 v130 v132 v134 v135 (ix2 0 p) = top (prob u) := by
  pointwise [k0_pay31, top]
  rw [pay27 h0 h1 h2 h3, pay28 h0 h1 h2 h3, pay29 h0 h1 h2 h3, pay30 h0 h1 h2 h3]

theorem pay32 : k0_pay32 v130 v132 v134 v135 (ix2 0 p) = first (prob u) := by
  pointwise [k0_pay32, first]
  rw [pay31 h0 h1 h2 h3, pay27 h0 h1 h2 h3, pay28 h0 h1 h2 h3, pay29 h0 h1 h2 h3]

theorem pay33 : k0_pay33 v130 v132 v134 v135 (ix2 0 p) = without mark (first (prob u)) (prob u) 0 := by
  pointwise [k0_pay33, without, mark]
  rw [sel, pay32 h0 h1 h2 h3, pay27 h0 h1 h2 h3]

theorem pay34 : k0_pay34 v130 v132 v134 v135 (ix2 0 p) = without mark (first (prob u)) (prob u) 1 := by
  pointwise [k0_pay34, without, mark]
  rw [sel, pay32 h0 h1 h2 h3, pay28 h0 h1 h2 h3]

theorem pay35 : k0_pay35 v130 v132 v134 v135 (ix2 0 p) = without mark (first (prob u)) (prob u) 2 := by
  pointwise [k0_pay35, without, mark]
  rw [sel, pay32 h0 h1 h2 h3, pay29 h0 h1 h2 h3]

theorem pay36 : k0_pay36 v130 v132 v134 v135 (ix2 0 p) = top (without mark (first (prob u)) (prob u)) := by
  have e : top (without mark (first (prob u)) (prob u)) = max (max (max (without mark (first (prob u)) (prob u) 0)
      (without mark (first (prob u)) (prob u) 1)) (without mark (first (prob u)) (prob u) 2))
      (if first (prob u) = 3#32 then mark else prob u 3) := rfl
  rw [e]
  pointwise [k0_pay36, mark]
  rw [sel, pay32 h0 h1 h2 h3, pay30 h0 h1 h2 h3, pay33 h0 h1 h2 h3, pay34 h0 h1 h2 h3, pay35 h0 h1 h2 h3]
  rfl

theorem pay39 : k0_pay39 (k0_pay33 v130 v132 v134 v135) (k0_pay36 v130 v132 v134 v135) (k0_pay37 v130 v132 v134 v135)
    (k0_pay38 v130 v132 v134 v135) 1#32 (ix2 0 p) = first (without mark (first (prob u)) (prob u)) := by
  have e : ∀ w : Fin 4 → EReal, first w
      = if w 0 = top w then 0#32 else if w 1 = top w then 1#32 else if w 2 = top w then 2#32 else 3#32 := fun _ => rfl
  rw [e, ← pay36 h0 h1 h2 h3]
  rw [← pay33 h0 h1 h2 h3, ← pay34 h0 h1 h2 h3, ← pay35 h0 h1 h2 h3]
  pointwise [k0_pay39, k0_pay37, k0_pay38]

theorem pay41 (v73 : FVec Ideal S1x512 .f32) : k0_pay41 v73 (k0_pay31 v130 v132 v134 v135) (k0_pay32 v130 v132 v134 v135) (k0_pay33 v130 v132 v134 v135)
    (k0_pay36 v130 v132 v134 v135) (k0_pay37 v130 v132 v134 v135) (k0_pay38 v130 v132 v134 v135) 1#32 (ix2 0 p)
      = v73 (ix2 0 p) * pair mark (prob u) 0 := by
  pointwise [k0_pay41, k0_pay40, pair]
  rw [sel, sel, pay39 h0 h1 h2 h3, pay31 h0 h1 h2 h3, pay32 h0 h1 h2 h3, pay36 h0 h1 h2 h3]

theorem pay42 (v73 : FVec Ideal S1x512 .f32) : k0_pay42 v73 (k0_pay31 v130 v132 v134 v135) (k0_pay32 v130 v132 v134 v135) (k0_pay33 v130 v132 v134 v135)
    (k0_pay36 v130 v132 v134 v135) (k0_pay37 v130 v132 v134 v135) (k0_pay38 v130 v132 v134 v135) 1#32 (ix2 0 p)
      = v73 (ix2 0 p) * pair mark (prob u) 1 := by
  pointwise [k0_pay42, k0_pay40, pair]
  rw [sel, sel, pay39 h0 h1 h2 h3, pay31 h0 h1 h2 h3, pay32 h0 h1 h2 h3, pay36 h0 h1 h2 h3]

theorem pay43 (v73 : FVec Ideal S1x512 .f32) : k0_pay43 v73 (k0_pay31 v130 v132 v134 v135) (k0_pay32 v130 v132 v134 v135) (k0_pay33 v130 v132 v134 v135)
    (k0_pay36 v130 v132 v134 v135) (k0_pay37 v130 v132 v134 v135) (k0_pay38 v130 v132 v134 v135) 1#32 (ix2 0 p)
      = v73 (ix2 0 p) * pair mark (prob u) 2 := by
  pointwise [k0_pay43, k0_pay40, pair]
  rw [sel, sel, pay39 h0 h1 h2 h3, pay31 h0 h1 h2 h3, pay32 h0 h1 h2 h3, pay36 h0 h1 h2 h3]

theorem pay44 (v73 : FVec Ideal S1x512 .f32) : k0_pay44 v73 (k0_pay31 v130 v132 v134 v135) (k0_pay32 v130 v132 v134 v135) (k0_pay33 v130 v132 v134 v135)
    (k0_pay36 v130 v132 v134 v135) (k0_pay37 v130 v132 v134 v135) (k0_pay38 v130 v132 v134 v135) 1#32 (ix2 0 p)
      = v73 (ix2 0 p) * pair mark (prob u) 3 := by
  pointwise [k0_pay44, k0_pay40, pair]
  rw [sel, sel, pay39 h0 h1 h2 h3, pay31 h0 h1 h2 h3, pay32 h0 h1 h2 h3, pay36 h0 h1 h2 h3]

end Pairs

theorem mark_neg : mark < 0 := by
  have e : mark = ((-(1 : ℝ) : ℝ) : EReal) := by
    simp [mark, Ideal.ofBits, Ideal.ieee, -EReal.coe_mul, -EReal.coe_neg]
    norm_num
  rw [e, ← EReal.coe_zero, EReal.coe_lt_coe_iff]
  norm_num

theorem pay45 (v57 : IVec S1x512 32) (p : Fin 512) : k0_pay45 (F := Ideal) v57 (ix2 0 p) = (((v57 (ix2 0 p)).toInt : ℝ) : EReal) := by
  pointwise [k0_pay45]
  rfl

/-- The eight rows that go to the second result, from rows that hold the routing. -/
theorem pay1 (v196 v206 v216 v226 v227 : FVec Ideal S1x512 .f32) (p : Fin 512) (g : Fin 4 → EReal) (l : Fin 4 → Fin 4 → EReal)
    (h0 : v196 (ix2 0 p) = route g l 0) (h1 : v206 (ix2 0 p) = route g l 1) (h2 : v216 (ix2 0 p) = route g l 2)
    (h3 : v226 (ix2 0 p) = route g l 3) (h4 : v227 (ix2 0 p) = route g l 4) (k : Fin 8) :
    k0_pay1 v196 v206 v216 v226 v227 (ix2 k p) = route g l k := by
  fin_cases k
  · pointwise [k0_pay1]
    exact h0
  · pointwise [k0_pay1]
    exact h1
  · pointwise [k0_pay1]
    exact h2
  · pointwise [k0_pay1]
    exact h3
  · pointwise [k0_pay1]
    exact h4
  all_goals
    pointwise [k0_pay1]
    simp [route]

/-- The same as columns, with zeros after them, for the first result. -/
theorem pay2 (v196 v206 v216 v226 v227 : FVec Ideal S1x512 .f32) (p : Fin 512) (j : Fin 128) :
    k0_pay2 v196 v206 v216 v226 v227 (ix2 p j)
      = if h : j.val < 8 then k0_pay1 v196 v206 v216 v226 v227 (ix2 ⟨j.val, h⟩ p) else 0 := by
  pointwise [k0_pay2]

/-- The eight rows that the kernel stores: in each column the routing of that row's logits. -/
theorem rows (v34 : FVec Ideal S128x2048 .bf16) (v35 : FVec Ideal S512x2048 .bf16) (cst : FVec Ideal S128x512 .f32)
    (v37 : Vec Ideal S128x1 .f32) (p : Fin 512) (k : Fin 8) :
    k0_pay1 (k0_pay41 (k0_pay13 v34 v35 cst v37) (k0_pay31 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay32 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay33 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay36 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay37 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay38 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) 1#32) (k0_pay42 (k0_pay13 v34 v35 cst v37) (k0_pay31 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay32 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay33 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay36 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay37 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay38 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) 1#32) (k0_pay43 (k0_pay13 v34 v35 cst v37) (k0_pay31 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay32 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay33 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay36 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay37 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay38 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) 1#32) (k0_pay44 (k0_pay13 v34 v35 cst v37) (k0_pay31 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay32 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay33 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay36 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay37 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) (k0_pay38 (k0_pay21 (k0_pay6 v34 v35 cst v37) (k0_pay12 v34 v35 cst v37) (k0_pay14 v34 v35 cst v37) (k0_pay15 v34 v35 cst v37)) (k0_pay22 (k0_pay6 v34 v35 cst v37) (k0_pay12 v34 v35 cst v37) (k0_pay14 v34 v35 cst v37) (k0_pay15 v34 v35 cst v37)) (k0_pay23 (k0_pay6 v34 v35 cst v37) (k0_pay12 v34 v35 cst v37) (k0_pay14 v34 v35 cst v37) (k0_pay15 v34 v35 cst v37)) (k0_pay24 (k0_pay6 v34 v35 cst v37) (k0_pay12 v34 v35 cst v37) (k0_pay14 v34 v35 cst v37) (k0_pay15 v34 v35 cst v37))) 1#32) (k0_pay45 (F := Ideal) (k0_pay12 v34 v35 cst v37)) (ix2 k p)
      = route (grp v34 v35 cst v37 p) (ex v34 v35 cst v37 p) k :=
  pay1 _ _ _ _ _ p _ _
    ((pay41 (pay21 v34 v35 cst v37 p) (pay22 v34 v35 cst v37 p) (pay23 v34 v35 cst v37 p) (pay24 v34 v35 cst v37 p) _).trans (by rw [pay13]; rfl))
    ((pay42 (pay21 v34 v35 cst v37 p) (pay22 v34 v35 cst v37 p) (pay23 v34 v35 cst v37 p) (pay24 v34 v35 cst v37 p) _).trans (by rw [pay13]; rfl))
    ((pay43 (pay21 v34 v35 cst v37 p) (pay22 v34 v35 cst v37 p) (pay23 v34 v35 cst v37 p) (pay24 v34 v35 cst v37 p) _).trans (by rw [pay13]; rfl))
    ((pay44 (pay21 v34 v35 cst v37 p) (pay22 v34 v35 cst v37 p) (pay23 v34 v35 cst v37 p) (pay24 v34 v35 cst v37 p) _).trans (by rw [pay13]; rfl))
    ((pay45 _ p).trans (by rw [pay12]; rfl)) k

end Cert.Proof.LnA

end
-- ==== Proof.LnA.Ref.lean ====
/- The first normalisation with its router over the extended reals, index by index, and the reference read as it. -/
module

public import proofs.«01_k».proof.Proof.LnA.Pay
public import proofs.«01_k».proof.Proof.Gen.LnARefIdeal.Read
public import Idealize.ShloMosaic.Lib.Pointwise

@[expose] public section

noncomputable section

open Idealize.ShloMosaic Idealize.ShloMosaic.TcCoe

namespace Cert.Proof.LnA

open Cert.LnARefIdeal

/-- The mean of a row of 2048. -/
def mean (f : Fin 2048 → EReal) : EReal := Ideal.div (∑ k : Fin 2048, f k) (Ideal.ofBits .f32 0x45000000#32)

/-- The layer norm of a row, with gain `g` and offset `b`, at column `j`. -/
def norm (f : Fin 2048 → EReal) (g b : EReal) (j : Fin 2048) : EReal :=
  (f j - mean f) * Ideal.rsqrt (mean (fun k => (f k - mean f) * (f k - mean f)) + Ideal.ofBits .f32 0x3727C5AC#32) * g + b

/-- A row before the norm: the residual and the projected mixer output. -/
def row (h mix : Fin 2048 → EReal) (w : Fin 2048 → Fin 2048 → EReal) (j : Fin 2048) : EReal :=
  Ideal.ofBits .f32 0x3FB504F3#32 * h j + ∑ k : Fin 2048, mix k * w k j

theorem bot : Ideal.ofBits .f32 0xFF800000#32 = ⊥ := by
  simp [Ideal.ofBits, Ideal.ieee]

theorem zero1 (i : S16384x4x4.Idx) : Read.val_main_call1_v2 (F := Ideal) i = 0 := Ideal.ofBits_zero_f32

theorem zero5 (i : S16384x4.Idx) : Read.val_main_call5_v2 (F := Ideal) i = 0 := Ideal.ofBits_zero_f32

theorem zero6 (i : S16384x4.Idx) : Read.val_main_call6_v2 (F := Ideal) i = 0 := Ideal.ofBits_zero_f32

theorem bot_at : id (constant (F := Ideal) S_ .f32 0xFF800000#32) ix0 = ⊥ := bot

section Layer

variable (x0 : Vec Ideal S16384x2048 .bf16) (x1 : Vec Ideal S16384x2048 .f32) (x2 : Vec Ideal S2048x2048 .f32)
  (x3 x4 : Vec Ideal S2048 .f32) (x5 : Vec Ideal S2048x4 .f32) (x6 : Vec Ideal S4 .f32) (x7 : Vec Ideal S2048x16 .f32)
  (x8 : Vec Ideal S16 .f32)

/-- The normalised row `r` at column `j`. -/
def xat (r : Fin 16384) (j : Fin 2048) : EReal :=
  norm (row (fun k => x1 (ix2 r k)) (fun k => x0 (ix2 r k)) (fun k l => x2 (ix2 k l))) (x3 (ix1 j)) (x4 (ix1 j)) j

/-- The row's logit for the group `k`. -/
def glog (r : Fin 16384) (k : Fin 4) : EReal := (∑ j : Fin 2048, xat x0 x1 x2 x3 x4 r j * x5 (ix2 j k)) + x6 (ix1 k)

/-- The row's logit for the expert `e` of the group `g`. -/
def elog (r : Fin 16384) (g e : Fin 4) : EReal :=
  (∑ j : Fin 2048, xat x0 x1 x2 x3 x4 r j * x7 (ix2 j ⟨g.val * 4 + e.val, by omega⟩)) + x8 (ix1 ⟨g.val * 4 + e.val, by omega⟩)

/-- The row's routing. -/
def rat (r : Fin 16384) (k : Fin 8) : EReal :=
  route (glog x0 x1 x2 x3 x4 x5 x6 r) (elog x0 x1 x2 x3 x4 x7 x8 r) k

/-- The first result: the normalised row, its routing, and zeros. -/
def out : Vec Ideal S16384x2176 .f32 := fun i =>
  if h : (i 1).val < 2048 then xat x0 x1 x2 x3 x4 (i 0) ⟨(i 1).val, h⟩
  else if h' : (i 1).val - 2048 < 8 then rat x0 x1 x2 x3 x4 x5 x6 x7 x8 (i 0) ⟨(i 1).val - 2048, h'⟩ else 0

/-- The second result: the routing of all rows, one row a column. -/
def out' : Vec Ideal S8x16384 .f32 := fun i => rat x0 x1 x2 x3 x4 x5 x6 x7 x8 (i 1) (i 0)

/-- The logits within the row's group. -/
def sub (r : Fin 16384) : Fin 4 → EReal := chosen (first (glog x0 x1 x2 x3 x4 x5 x6 r)) (elog x0 x1 x2 x3 x4 x7 x8 r)

theorem ref_v28 (r : Fin 16384) (j : Fin 2048) : Read.val_main_v28 (F := Ideal) x0 x1 x2 x3 x4 (ix2 r j) = xat x0 x1 x2 x3 x4 r j := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_v19, Read.val_main_v20, Read.val_main_v21, Read.val_main_v22, Read.val_main_v23, Read.val_main_v24, Read.val_main_v25, Read.val_main_v26, Read.val_main_v27, Read.val_main_v28, Read.val_main_cst, Read.val_main_cst_0, Read.val_main_cst_1, Read.val_main_cst_2, Read.val_main_cst_3, Read.val_main_cst_4, xat, norm, mean, row]

theorem ref_v32 (r : Fin 16384) (k : Fin 4) : Read.val_main_v32 (F := Ideal) x0 x1 x2 x3 x4 x5 x6 (ix2 r k) = glog x0 x1 x2 x3 x4 x5 x6 r k := by
  pointwise [Read.val_main_v32, Read.val_main_v31, Read.val_main_v30, Read.val_main_v29]
  simp only [ref_v28]
  rfl

theorem ref_v34 (r : Fin 16384) : Read.val_main_v34 (F := Ideal) x0 x1 x2 x3 x4 x5 x6 (ix1 r) = top (glog x0 x1 x2 x3 x4 x5 x6 r) := by
  pointwise [Read.val_main_v34, Read.val_main_cst_5]
  rw [bot]
  simp only [ref_v32]
  exact greatest_eq_top _

theorem ref_v38 (r : Fin 16384) (k : Fin 4) : Read.val_main_v38 (F := Ideal) x0 x1 x2 x3 x4 x5 x6 (ix2 r k) = if glog x0 x1 x2 x3 x4 x5 x6 r k = top (glog x0 x1 x2 x3 x4 x5 x6 r) then BitVec.ofNat 32 k.val else 4#32 := by
  pointwise [Read.val_main_v38, Read.val_main_v37, Read.val_main_v36, Read.val_main_v35, Read.val_main_v33, Read.val_main_call0_v1, Read.val_main_call0_v0, Read.val_main_c]
  rw [ref_v32, ref_v34]
  rfl

theorem ref_v39 (r : Fin 16384) : Read.val_main_v39 (F := Ideal) x0 x1 x2 x3 x4 x5 x6 (ix1 r) = first (glog x0 x1 x2 x3 x4 x5 x6 r) := by
  pointwise [Read.val_main_v39, Read.val_main_c_6]
  simp only [ref_v38]
  exact least_eq_first _

theorem ref_v41 (r : Fin 16384) : Read.val_main_v41 (F := Ideal) x0 x1 x2 x3 x4 x5 x6 (ix1 r) = top (glog x0 x1 x2 x3 x4 x5 x6 r) := by
  pointwise [Read.val_main_v41, Read.val_main_cst_7]
  rw [bot]
  simp only [ref_v32]
  exact greatest_eq_top _

theorem ref_v49 (r : Fin 16384) : Read.val_main_v49 (F := Ideal) x0 x1 x2 x3 x4 x5 x6 (ix2 r 0) = Ideal.div 1 (total (glog x0 x1 x2 x3 x4 x5 x6 r)) := by
  pointwise [Read.val_main_v49, Read.val_main_v48, Read.val_main_cst_9, Read.val_main_v47, Read.val_main_v46, Read.val_main_cst_8, Read.val_main_v45, Read.val_main_v44, Read.val_main_v43, Read.val_main_v42]
  simp only [ref_v32, ref_v41]
  rfl

theorem ref_v54 (r : Fin 16384) (g e : Fin 4) : Read.val_main_v54 (F := Ideal) x0 x1 x2 x3 x4 x7 x8 (ix2 r ⟨g.val * 4 + e.val, by omega⟩) = elog x0 x1 x2 x3 x4 x7 x8 r g e := by
  pointwise [Read.val_main_v54, Read.val_main_v53, Read.val_main_v52, Read.val_main_v51]
  simp only [ref_v28]
  rfl

theorem ref_v55 (r : Fin 16384) (g e : Fin 4) : Read.val_main_v55 (F := Ideal) x0 x1 x2 x3 x4 x7 x8 (ix3 r g e) = elog x0 x1 x2 x3 x4 x7 x8 r g e := by
  pointwise [Read.val_main_v55]
  exact ref_v54 x0 x1 x2 x3 x4 x7 x8 r g e

theorem ref_v60 (r : Fin 16384) (k : Fin 4) : Read.val_main_v60 (F := Ideal) x0 x1 x2 x3 x4 x5 x6 x7 x8 (ix2 r k) = sub x0 x1 x2 x3 x4 x5 x6 x7 x8 r k := by
  pointwise [Read.val_main_v60, Read.val_main_cst_11, Read.val_main_v59, Read.val_main_call1_v1, Read.val_main_v58, Read.val_main_v57, Read.val_main_v56, Read.val_main_v40, Read.val_main_v50]
  simp only [ref_v39, ref_v55, sel, zero1]
  exact masked_sum _ _ _

theorem ref_v61 (r : Fin 16384) : Read.val_main_v61 (F := Ideal) x0 x1 x2 x3 x4 x5 x6 x7 x8 (ix1 r) = top (sub x0 x1 x2 x3 x4 x5 x6 x7 x8 r) := by
  pointwise [Read.val_main_v61, Read.val_main_cst_12]
  rw [bot]
  simp only [ref_v60]
  exact greatest_eq_top _

theorem ref_v63 (r : Fin 16384) : Read.val_main_v63 (F := Ideal) x0 x1 x2 x3 x4 x5 x6 x7 x8 (ix1 r) = top (sub x0 x1 x2 x3 x4 x5 x6 x7 x8 r) := by
  pointwise [Read.val_main_v63, Read.val_main_v62, Read.val_main_cst_13]
  rw [bot, ref_v61]
  exact max_bot_left _

theorem ref_v67 (r : Fin 16384) (k : Fin 4) : Read.val_main_v67 (F := Ideal) x0 x1 x2 x3 x4 x5 x6 x7 x8 (ix2 r k) = Ideal.exp (sub x0 x1 x2 x3 x4 x5 x6 x7 x8 r k - top (sub x0 x1 x2 x3 x4 x5 x6 x7 x8 r)) := by
  pointwise [Read.val_main_v67, Read.val_main_v66, Read.val_main_v65, Read.val_main_v64]
  rw [ref_v60, ref_v63]

theorem ref_v68 (r : Fin 16384) : Read.val_main_v68 (F := Ideal) x0 x1 x2 x3 x4 x5 x6 x7 x8 (ix1 r) = total (sub x0 x1 x2 x3 x4 x5 x6 x7 x8 r) := by
  pointwise [Read.val_main_v68, Read.val_main_cst_14]
  simp only [ref_v67]
  rfl

theorem ref_v71 (r : Fin 16384) (k : Fin 4) : Read.val_main_v71 (F := Ideal) x0 x1 x2 x3 x4 x5 x6 x7 x8 (ix2 r k) = prob (sub x0 x1 x2 x3 x4 x5 x6 x7 x8 r) k := by
  pointwise [Read.val_main_v71, Read.val_main_v70, Read.val_main_v69]
  rw [ref_v67, ref_v68]
  rfl

theorem ref_v73 (r : Fin 16384) : Read.val_main_v73 (F := Ideal) x0 x1 x2 x3 x4 x5 x6 x7 x8 (ix1 r) = top (prob (sub x0 x1 x2 x3 x4 x5 x6 x7 x8 r)) := by
  pointwise [Read.val_main_v73, Read.val_main_cst_15]
  rw [bot]
  simp only [ref_v71]
  exact greatest_eq_top _

theorem ref_v77 (r : Fin 16384) (k : Fin 4) : Read.val_main_v77 (F := Ideal) x0 x1 x2 x3 x4 x5 x6 x7 x8 (ix2 r k) = if prob (sub x0 x1 x2 x3 x4 x5 x6 x7 x8 r) k = top (prob (sub x0 x1 x2 x3 x4 x5 x6 x7 x8 r)) then BitVec.ofNat 32 k.val else 4#32 := by
  pointwise [Read.val_main_v77, Read.val_main_v76, Read.val_main_v75, Read.val_main_v74, Read.val_main_v72, Read.val_main_call2_v1, Read.val_main_call2_v0, Read.val_main_c_16]
  rw [ref_v71, ref_v73]
  rfl

theorem ref_v78 (r : Fin 16384) : Read.val_main_v78 (F := Ideal) x0 x1 x2 x3 x4 x5 x6 x7 x8 (ix1 r) = first (prob (sub x0 x1 x2 x3 x4 x5 x6 x7 x8 r)) := by
  pointwise [Read.val_main_v78, Read.val_main_c_17]
  simp only [ref_v77]
  exact least_eq_first _

theorem ref_v80 (r : Fin 16384) : Read.val_main_v80 (F := Ideal) x0 x1 x2 x3 x4 x5 x6 x7 x8 (ix1 r) = top (prob (sub x0 x1 x2 x3 x4 x5 x6 x7 x8 r)) := by
  pointwise [Read.val_main_v80, Read.val_main_cst_18]
  rw [bot]
  simp only [ref_v71]
  exact greatest_eq_top _

theorem ref_v84 (r : Fin 16384) (k : Fin 4) : Read.val_main_v84 (F := Ideal) x0 x1 x2 x3 x4 x5 x6 x7 x8 (ix2 r k) = without ⊥ (first (prob (sub x0 x1 x2 x3 x4 x5 x6 x7 x8 r))) (prob (sub x0 x1 x2 x3 x4 x5 x6 x7 x8 r)) k := by
  pointwise [Read.val_main_v84, Read.val_main_v83, Read.val_main_v82, Read.val_main_v79, Read.val_main_v50, Read.val_main_call3_v1, Read.val_main_call3_v0, Read.val_main_cst_19]
  rw [ref_v71, ref_v78, sel, bot_at]
  unfold without
  simp only [eq_comm]

theorem ref_v86 (r : Fin 16384) : Read.val_main_v86 (F := Ideal) x0 x1 x2 x3 x4 x5 x6 x7 x8 (ix1 r) = top (without ⊥ (first (prob (sub x0 x1 x2 x3 x4 x5 x6 x7 x8 r))) (prob (sub x0 x1 x2 x3 x4 x5 x6 x7 x8 r))) := by
  pointwise [Read.val_main_v86, Read.val_main_cst_20]
  rw [bot]
  simp only [ref_v84]
  exact greatest_eq_top _

theorem ref_v90 (r : Fin 16384) (k : Fin 4) : Read.val_main_v90 (F := Ideal) x0 x1 x2 x3 x4 x5 x6 x7 x8 (ix2 r k) = if (without ⊥ (first (prob (sub x0 x1 x2 x3 x4 x5 x6 x7 x8 r))) (prob (sub x0 x1 x2 x3 x4 x5 x6 x7 x8 r))) k = top (without ⊥ (first (prob (sub x0 x1 x2 x3 x4 x5 x6 x7 x8 r))) (prob (sub x0 x1 x2 x3 x4 x5 x6 x7 x8 r))) then BitVec.ofNat 32 k.val else 4#32 := by
  pointwise [Read.val_main_v90, Read.val_main_v89, Read.val_main_v88, Read.val_main_v87, Read.val_main_v85, Read.val_main_call4_v1, Read.val_main_call4_v0, Read.val_main_c_21]
  rw [ref_v84, ref_v86]
  rfl

theorem ref_v91 (r : Fin 16384) : Read.val_main_v91 (F := Ideal) x0 x1 x2 x3 x4 x5 x6 x7 x8 (ix1 r) = first (without ⊥ (first (prob (sub x0 x1 x2 x3 x4 x5 x6 x7 x8 r))) (prob (sub x0 x1 x2 x3 x4 x5 x6 x7 x8 r))) := by
  pointwise [Read.val_main_v91, Read.val_main_c_22]
  simp only [ref_v90]
  exact least_eq_first _

theorem ref_v93 (r : Fin 16384) : Read.val_main_v93 (F := Ideal) x0 x1 x2 x3 x4 x5 x6 x7 x8 (ix1 r) = top (without ⊥ (first (prob (sub x0 x1 x2 x3 x4 x5 x6 x7 x8 r))) (prob (sub x0 x1 x2 x3 x4 x5 x6 x7 x8 r))) := by
  pointwise [Read.val_main_v93, Read.val_main_cst_23]
  rw [bot]
  simp only [ref_v84]
  exact greatest_eq_top _

theorem ref_v105 (r : Fin 16384) (k : Fin 4) : Read.val_main_v105 (F := Ideal) x0 x1 x2 x3 x4 x5 x6 x7 x8 (ix2 r k) = pair mark (prob (sub x0 x1 x2 x3 x4 x5 x6 x7 x8 r)) k := by
  pointwise [Read.val_main_v105, Read.val_main_v104, Read.val_main_v103, Read.val_main_v102, Read.val_main_v101, Read.val_main_v100, Read.val_main_v99, Read.val_main_v98, Read.val_main_v97, Read.val_main_v96, Read.val_main_v95, Read.val_main_v94, Read.val_main_v92, Read.val_main_v81, Read.val_main_v79, Read.val_main_v50, Read.val_main_call5_v1, Read.val_main_call6_v1]
  simp only [ref_v78, ref_v91, ref_v80, ref_v93, sel, zero5, zero6]
  exact (pair_mark mark mark_neg _ k).symm

theorem ref_v107 (r : Fin 16384) (k : Fin 4) : Read.val_main_v107 (F := Ideal) x0 x1 x2 x3 x4 x5 x6 x7 x8 (ix2 r k) = Ideal.div 1 (total (glog x0 x1 x2 x3 x4 x5 x6 r)) * pair mark (prob (sub x0 x1 x2 x3 x4 x5 x6 x7 x8 r)) k := by
  pointwise [Read.val_main_v107, Read.val_main_v106]
  rw [ref_v49, ref_v105]

theorem ref_v110 (r : Fin 16384) (k : Fin 8) : Read.val_main_v110 (F := Ideal) x0 x1 x2 x3 x4 x5 x6 x7 x8 (ix2 r k) = rat x0 x1 x2 x3 x4 x5 x6 x7 x8 r k := by
  have hr : ∀ k : Fin 4, Read.val_main_v107 (F := Ideal) x0 x1 x2 x3 x4 x5 x6 x7 x8 (ix2 r k) = rat x0 x1 x2 x3 x4 x5 x6 x7 x8 r ⟨k.val, by omega⟩ := fun k => by
    rw [ref_v107]
    unfold rat route
    rw [dif_pos k.isLt]
    rfl
  fin_cases k
  · pointwise [Read.val_main_v110]
    exact hr 0
  · pointwise [Read.val_main_v110]
    exact hr 1
  · pointwise [Read.val_main_v110]
    exact hr 2
  · pointwise [Read.val_main_v110]
    exact hr 3
  · pointwise [Read.val_main_v110, Read.val_main_v108, Read.val_main_v40]
    rw [ref_v39]
    rfl
  all_goals
    pointwise [Read.val_main_v110, Read.val_main_v109, Read.val_main_cst_26]
    simp [rat, route]

/-- The reference's first result is that function of its arguments; -/
theorem reference_eq : Read.val_main_v112 (F := Ideal) x0 x1 x2 x3 x4 x5 x6 x7 x8 = out x0 x1 x2 x3 x4 x5 x6 x7 x8 := by
  funext i
  obtain ⟨r, j, rfl⟩ : ∃ (r : Fin 16384) (j : Fin 2176), i = ix2 r j := ⟨i 0, i 1, eq_ix2 i⟩
  pointwise [Read.val_main_v112, Read.val_main_v111, Read.val_main_cst_27, out]
  simp only [ref_v28, ref_v110]

/-- and so is its second. -/
theorem reference_eq' : Read.val_main_v113 (F := Ideal) x0 x1 x2 x3 x4 x5 x6 x7 x8 = out' x0 x1 x2 x3 x4 x5 x6 x7 x8 := by
  funext i
  obtain ⟨k, r, rfl⟩ : ∃ (k : Fin 8) (r : Fin 16384), i = ix2 k r := ⟨i 0, i 1, eq_ix2 i⟩
  pointwise [Read.val_main_v113, out']
  exact ref_v110 x0 x1 x2 x3 x4 x5 x6 x7 x8 r k

end Layer

end Cert.Proof.LnA

end
-- ==== Proof.LnA.Value.lean ====
/- The first normalisation with its router at `Ideal`: every block that the kernel writes back is the block of the function
   over the argument arrays. -/
module

public import proofs.«01_k».proof.Defs
public import proofs.«01_k».proof.Proof.LnA.Ref
public import proofs.«01_k».proof.Proof.Gen.LnAIdeal.Value
public import proofs.«01_k».proof.Proof.Gen.LnARefIdeal.Run
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Proof.LnA

open Cert.LnAIdeal Cert.LnAIdeal.Gen Cert.LnAIdeal.Value

variable (m : (ℓ : Loc nD τ sig) → Buf (Elt Ideal) ℓ) (ρ : Dev nD → PrngReg)

/-- The normalised rows of the block. -/
theorem pay3 (v0 : Vec Ideal S512x2048 .f32) (v3 : Vec Ideal S512x2048 .bf16) (v4 : Vec Ideal S2048x2048 .bf16)
    (v8 v10 : Vec Ideal S1x2048 .f32) (p : Fin 512) (q : Fin 2048) :
    k0_pay3 (F := Ideal) v0 v3 v4 v8 v10 (ix2 p q)
      = norm (row (fun k => v0 (ix2 p k)) (fun k => v3 (ix2 p k)) (fun k l => v4 (ix2 k l))) (v8 (ix2 0 q)) (v10 (ix2 0 q)) q := by
  pointwise [k0_pay3, norm, mean, row]

/-- The logits of the block, one row a column. -/
theorem pay6 (v0 : Vec Ideal S512x2048 .f32) (v3 : Vec Ideal S512x2048 .bf16) (v4 : Vec Ideal S2048x2048 .bf16)
    (v8 v10 : Vec Ideal S1x2048 .f32) (v33 : Vec Ideal S128x2048 .bf16) (v37 : Vec Ideal S128x1 .f32) (k : Fin 128) (p : Fin 512) :
    k0_pay6 (F := Ideal) (k0_pay4 v33) (k0_pay5 v0 v3 v4 v8 v10) (constant S128x512 .f32 0x00000000#32) v37 (ix2 k p)
      = (∑ j : Fin 2048, v33 (ix2 k j) * k0_pay3 v0 v3 v4 v8 v10 (ix2 p j)) + v37 (ix2 k 0) := by
  pointwise [k0_pay6, k0_pay5, k0_pay4]

/-- The blocks' indices at a grid point. -/
theorem idx : ∀ t : Fin cfg0.N,
    win0_0.index t = ![(grid0.coords t 0).val, 0] ∧ win0_1.index t = ![(grid0.coords t 0).val, 0]
    ∧ win0_2.index t = ![0, 0] ∧ win0_3.index t = ![0, 0] ∧ win0_4.index t = ![0, 0]
    ∧ win0_5.index t = ![0, 0] ∧ win0_6.index t = ![0, 0] ∧ win0_7.index t = ![(grid0.coords t 0).val, 0]
    ∧ win0_8.index t = ![0, (grid0.coords t 0).val] :=
  (by decide +kernel : ∀ t : Fin grid0.N, _)

/-- The host's rounded copies of the weights are, at `Ideal`, the weights; the gain and the offset are read as one row; the two
    routers' weights go side by side, one output a row, and their biases one under the other. -/
theorem V_main_v4 (c : Dev nD) : V m c main_v4 = m ((c : Thread nD τ).loc main_arg2) := by
  unfold V
  after_results
  rfl
theorem V_main_v5 (c : Dev nD) : V m c main_v5 = shapeCast S1x2048 (m ((c : Thread nD τ).loc main_arg3)) shapeCasts_S2048_S1x2048 := by
  unfold V
  after_results
  rfl
theorem V_main_v6 (c : Dev nD) : V m c main_v6 = shapeCast S1x2048 (m ((c : Thread nD τ).loc main_arg4)) shapeCasts_S2048_S1x2048 := by
  unfold V
  after_results
  rfl
theorem V_main_v8 (c : Dev nD) : V m c main_v8 = truncf (F := Ideal) .bf16 (transpose S128x2048 [1, 0] (concatenate S2048x128 1
    [⟨S2048x4, m ((c : Thread nD τ).loc main_arg5)⟩, ⟨S2048x16, m ((c : Thread nD τ).loc main_arg7)⟩,
      ⟨S2048x108, (broadcastInDim S2048x108 ![] bcast_S_S2048x108 (constant (F := Ideal) S_ .f32 0x00000000#32) : Vec Ideal S2048x108 .f32)⟩]
    concatenates_S2048x4_S2048x16_S2048x108_S2048x128_d1 : Vec Ideal S2048x128 .f32) transposes_S2048x128_S128x2048_1_0) bitsLt_bf16_f32 := by
  unfold V
  after_results <;> rfl
theorem V_main_v9 (c : Dev nD) : V m c main_v9 = shapeCast S128x1 (concatenate S128 0
    [⟨S4, m ((c : Thread nD τ).loc main_arg6)⟩, ⟨S16, m ((c : Thread nD τ).loc main_arg8)⟩,
      ⟨S108, (broadcastInDim S108 ![] bcast_S_S108 (constant (F := Ideal) S_ .f32 0x00000000#32) : Vec Ideal S108 .f32)⟩]
    concatenates_S4_S16_S108_S128_d0 : Vec Ideal S128 .f32) shapeCasts_S128_S128x1 := by
  unfold V
  after_results <;> rfl

theorem row_lt (t : Fin cfg0.N) (p : Fin 512) : (grid0.coords t 0).val * 512 + p.val < 16384 := by
  have h : (grid0.coords t 0).val < 32 := (grid0.coords t 0).isLt
  omega

theorem as_row (x : Vec Ideal S2048 .f32) (q : Fin 2048) : shapeCast S1x2048 x shapeCasts_S2048_S1x2048 (ix2 0 q) = x (ix1 q) := by
  pointwise

theorem side (x : Vec Ideal S2048x4 .f32) (y : Vec Ideal S2048x16 .f32) (z : Vec Ideal S2048x108 .f32) (k : Fin 128) (j : Fin 2048) :
    truncf (F := Ideal) .bf16 (transpose S128x2048 [1, 0] (concatenate S2048x128 1 [⟨S2048x4, x⟩, ⟨S2048x16, y⟩, ⟨S2048x108, z⟩]
      concatenates_S2048x4_S2048x16_S2048x108_S2048x128_d1 : Vec Ideal S2048x128 .f32) transposes_S2048x128_S128x2048_1_0) bitsLt_bf16_f32 (ix2 k j)
      = if h : k.val < 4 then x (ix2 j ⟨k.val, h⟩) else if h' : k.val - 4 < 16 then y (ix2 j ⟨k.val - 4, h'⟩)
        else z (ix2 j ⟨k.val - 4 - 16, by omega⟩) := by
  pointwise

theorem under (x : Vec Ideal S4 .f32) (y : Vec Ideal S16 .f32) (z : Vec Ideal S108 .f32) (k : Fin 128) :
    shapeCast S128x1 (concatenate S128 0 [⟨S4, x⟩, ⟨S16, y⟩, ⟨S108, z⟩]
      concatenates_S4_S16_S108_S128_d0 : Vec Ideal S128 .f32) shapeCasts_S128_S128x1 (ix2 k 0)
      = if h : k.val < 4 then x (ix1 ⟨k.val, h⟩) else if h' : k.val - 4 < 16 then y (ix1 ⟨k.val - 4, h'⟩)
        else z (ix1 ⟨k.val - 4 - 16, by omega⟩) := by
  pointwise

theorem part0 (c : Dev nD) (t : Fin cfg0.N) (p : Fin 512) (k : Fin 2048) : iblk m c 0 t (ix2 p k)
    = m ((c : Thread nD τ).loc main_arg0) (ix2 ⟨(grid0.coords t 0).val * 512 + p.val, row_lt t p⟩ k) := by
  obtain ⟨e0, e1, e2, e3, e4, e5, e6, e7, e8⟩ := idx t
  show V m c main_arg0 (((cfg0.win 0).blk t).view.emb _) = _
  rw [V_main_arg0]
  congr 1
  blk_ext [e0]
theorem part1 (c : Dev nD) (t : Fin cfg0.N) (p : Fin 512) (k : Fin 2048) : iblk m c 1 t (ix2 p k)
    = m ((c : Thread nD τ).loc main_arg1) (ix2 ⟨(grid0.coords t 0).val * 512 + p.val, row_lt t p⟩ k) := by
  obtain ⟨e0, e1, e2, e3, e4, e5, e6, e7, e8⟩ := idx t
  show V m c main_arg1 (((cfg0.win 1).blk t).view.emb _) = _
  rw [V_main_arg1]
  congr 1
  blk_ext [e1]
theorem part2 (c : Dev nD) (t : Fin cfg0.N) (k l : Fin 2048) : iblk m c 2 t (ix2 k l)
    = m ((c : Thread nD τ).loc main_arg2) (ix2 k l) := by
  obtain ⟨e0, e1, e2, e3, e4, e5, e6, e7, e8⟩ := idx t
  show V m c main_v4 (((cfg0.win 2).blk t).view.emb _) = _
  rw [V_main_v4]
  congr 1
  blk_ext [e2]
theorem part3 (c : Dev nD) (t : Fin cfg0.N) (q : Fin 2048) : iblk m c 3 t (ix2 0 q)
    = m ((c : Thread nD τ).loc main_arg3) (ix1 q) := by
  obtain ⟨e0, e1, e2, e3, e4, e5, e6, e7, e8⟩ := idx t
  have h : ((cfg0.win 3).blk t).view.emb (ix2 0 q) = ix2 0 q := by blk_ext [e3]
  show V m c main_v5 (((cfg0.win 3).blk t).view.emb _) = _
  rw [V_main_v5, h]
  exact as_row _ q
theorem part4 (c : Dev nD) (t : Fin cfg0.N) (q : Fin 2048) : iblk m c 4 t (ix2 0 q)
    = m ((c : Thread nD τ).loc main_arg4) (ix1 q) := by
  obtain ⟨e0, e1, e2, e3, e4, e5, e6, e7, e8⟩ := idx t
  have h : ((cfg0.win 4).blk t).view.emb (ix2 0 q) = ix2 0 q := by blk_ext [e4]
  show V m c main_v6 (((cfg0.win 4).blk t).view.emb _) = _
  rw [V_main_v6, h]
  exact as_row _ q
theorem part5a (c : Dev nD) (t : Fin cfg0.N) (k : Fin 4) (j : Fin 2048) : iblk m c 5 t (ix2 ⟨k.val, by omega⟩ j)
    = m ((c : Thread nD τ).loc main_arg5) (ix2 j k) := by
  obtain ⟨e0, e1, e2, e3, e4, e5, e6, e7, e8⟩ := idx t
  have h : ((cfg0.win 5).blk t).view.emb (ix2 ⟨k.val, by omega⟩ j) = ix2 ⟨k.val, by omega⟩ j := by blk_ext [e5]
  show V m c main_v8 (((cfg0.win 5).blk t).view.emb _) = _
  rw [V_main_v8, h]
  refine (side _ _ _ _ _).trans ?_
  rw [dif_pos k.isLt]
theorem part5b (c : Dev nD) (t : Fin cfg0.N) (k : Fin 16) (j : Fin 2048) : iblk m c 5 t (ix2 ⟨4 + k.val, by omega⟩ j)
    = m ((c : Thread nD τ).loc main_arg7) (ix2 j k) := by
  obtain ⟨e0, e1, e2, e3, e4, e5, e6, e7, e8⟩ := idx t
  have h : ((cfg0.win 5).blk t).view.emb (ix2 ⟨4 + k.val, by omega⟩ j) = ix2 ⟨4 + k.val, by omega⟩ j := by blk_ext [e5]
  show V m c main_v8 (((cfg0.win 5).blk t).view.emb _) = _
  rw [V_main_v8, h]
  refine (side _ _ _ _ _).trans ?_
  rw [dif_neg (show ¬ 4 + k.val < 4 by omega), dif_pos (show 4 + k.val - 4 < 16 by omega)]
  exact congrArg (fun q : Fin 16 => m ((c : Thread nD τ).loc main_arg7) (ix2 j q)) (Fin.ext (Nat.add_sub_cancel_left 4 k.val))
theorem part6a (c : Dev nD) (t : Fin cfg0.N) (k : Fin 4) : iblk m c 6 t (ix2 ⟨k.val, by omega⟩ 0)
    = m ((c : Thread nD τ).loc main_arg6) (ix1 k) := by
  obtain ⟨e0, e1, e2, e3, e4, e5, e6, e7, e8⟩ := idx t
  have h : ((cfg0.win 6).blk t).view.emb (ix2 ⟨k.val, by omega⟩ 0) = ix2 ⟨k.val, by omega⟩ 0 := by blk_ext [e6]
  show V m c main_v9 (((cfg0.win 6).blk t).view.emb _) = _
  rw [V_main_v9, h]
  refine (under _ _ _ _).trans ?_
  rw [dif_pos k.isLt]
theorem part6b (c : Dev nD) (t : Fin cfg0.N) (k : Fin 16) : iblk m c 6 t (ix2 ⟨4 + k.val, by omega⟩ 0)
    = m ((c : Thread nD τ).loc main_arg8) (ix1 k) := by
  obtain ⟨e0, e1, e2, e3, e4, e5, e6, e7, e8⟩ := idx t
  have h : ((cfg0.win 6).blk t).view.emb (ix2 ⟨4 + k.val, by omega⟩ 0) = ix2 ⟨4 + k.val, by omega⟩ 0 := by blk_ext [e6]
  show V m c main_v9 (((cfg0.win 6).blk t).view.emb _) = _
  rw [V_main_v9, h]
  refine (under _ _ _ _).trans ?_
  rw [dif_neg (show ¬ 4 + k.val < 4 by omega), dif_pos (show 4 + k.val - 4 < 16 by omega)]
  exact congrArg (fun q : Fin 16 => m ((c : Thread nD τ).loc main_arg8) (ix1 q)) (Fin.ext (Nat.add_sub_cancel_left 4 k.val))

theorem norm_row_congr {h h' x x' : Fin 2048 → EReal} {w w' : Fin 2048 → Fin 2048 → EReal} {a a' b b' : EReal} {j : Fin 2048}
    (eh : ∀ k, h k = h' k) (ex : ∀ k, x k = x' k) (ew : ∀ k l, w k l = w' k l) (ea : a = a') (eb : b = b') :
    norm (row h x w) a b j = norm (row h' x' w') a' b' j := by
  obtain rfl : h = h' := funext eh
  obtain rfl : x = x' := funext ex
  obtain rfl : w = w' := funext fun k => funext (ew k)
  rw [ea, eb]

/-- The block's normalised rows are the function's. -/
theorem block_x (c : Dev nD) (t : Fin cfg0.N) (p : Fin 512) (q : Fin 2048) :
    k0_pay3 (F := Ideal) (iblk m c 1 t) (iblk m c 0 t) (iblk m c 2 t) (iblk m c 3 t) (iblk m c 4 t) (ix2 p q) = xat (m ((c : Thread nD τ).loc main_arg0)) (m ((c : Thread nD τ).loc main_arg1)) (m ((c : Thread nD τ).loc main_arg2)) (m ((c : Thread nD τ).loc main_arg3)) (m ((c : Thread nD τ).loc main_arg4)) ⟨(grid0.coords t 0).val * 512 + p.val, row_lt t p⟩ q := by
  rw [pay3]
  exact norm_row_congr (fun k => part1 m c t p k) (fun k => part0 m c t p k) (fun k l => part2 m c t k l) (part3 m c t q) (part4 m c t q)

theorem block_grp (c : Dev nD) (t : Fin cfg0.N) (p : Fin 512) :
    grp (k0_pay4 (iblk m c 5 t)) (k0_pay5 (iblk m c 1 t) (iblk m c 0 t) (iblk m c 2 t) (iblk m c 3 t) (iblk m c 4 t)) (constant S128x512 .f32 0x00000000#32) (iblk m c 6 t) p = glog (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨(grid0.coords t 0).val * 512 + p.val, row_lt t p⟩ := by
  funext k
  unfold grp
  refine (pay6 _ _ _ _ _ _ _ _ _).trans ?_
  unfold glog
  refine congrArg₂ (fun a b : EReal => a + b) (Finset.sum_congr (M := EReal) rfl fun j _ => ?_) (part6a m c t k)
  rw [mul_comm]
  exact congrArg₂ (fun a b : EReal => a * b) (block_x m c t p j) (part5a m c t k j)

theorem block_ex (c : Dev nD) (t : Fin cfg0.N) (p : Fin 512) :
    ex (k0_pay4 (iblk m c 5 t)) (k0_pay5 (iblk m c 1 t) (iblk m c 0 t) (iblk m c 2 t) (iblk m c 3 t) (iblk m c 4 t)) (constant S128x512 .f32 0x00000000#32) (iblk m c 6 t) p = elog (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) ⟨(grid0.coords t 0).val * 512 + p.val, row_lt t p⟩ := by
  funext g e
  unfold ex
  refine (pay6 _ _ _ _ _ _ _ _ _).trans ?_
  unfold elog
  refine congrArg₂ (fun a b : EReal => a + b) (Finset.sum_congr (M := EReal) rfl fun j _ => ?_) (part6b m c t ⟨g.val * 4 + e.val, by omega⟩)
  rw [mul_comm]
  exact congrArg₂ (fun a b : EReal => a * b) (block_x m c t p j) (part5b m c t ⟨g.val * 4 + e.val, by omega⟩ j)

/-- The second result array is that function of the argument arrays; -/
theorem final' (c : Dev nD) : (dats m 0 c).arrAt 8 cfg0.N = out' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 8 _ (by decide +kernel) fun t hf y => ?_
  obtain ⟨e0, e1, e2, e3, e4, e5, e6, e7, e8⟩ := idx t
  blk_simp
  rw [after0_8]
  unfold outsAt0
  dsimp only
  frame_out
  obtain ⟨k, p, rfl⟩ : ∃ (k : Fin 8) (p : Fin 512), y = ix2 k p := ⟨y 0, y 1, eq_ix2 y⟩
  have hy : (win0_8.blk t).view.emb (ix2 k p) = ix2 k (⟨(grid0.coords t 0).val * 512 + p.val, row_lt t p⟩ : Fin 16384) := by
    blk_ext [e8]
  rw [hy]
  refine (rows _ _ _ _ p k).trans ?_
  rw [block_grp, block_ex]
  rfl

theorem out_apply (x0 : Vec Ideal S16384x2048 .bf16) (x1 : Vec Ideal S16384x2048 .f32) (x2 : Vec Ideal S2048x2048 .f32)
    (x3 x4 : Vec Ideal S2048 .f32) (x5 : Vec Ideal S2048x4 .f32) (x6 : Vec Ideal S4 .f32) (x7 : Vec Ideal S2048x16 .f32)
    (x8 : Vec Ideal S16 .f32) (r : Fin 16384) (j : Fin 2176) :
    out x0 x1 x2 x3 x4 x5 x6 x7 x8 (ix2 r j) = if h : j.val < 2048 then xat x0 x1 x2 x3 x4 r ⟨j.val, h⟩
      else if h' : j.val - 2048 < 8 then rat x0 x1 x2 x3 x4 x5 x6 x7 x8 r ⟨j.val - 2048, h'⟩ else 0 := rfl

/-- What the two stores leave in the first result's block. -/
theorem stored (x : Vec Ideal S512x2048 .f32) (z : Vec Ideal S512x128 .f32) (p : Fin 512) (j : Fin 2176)
    (i0 : ∀ a, (![0, 2048] : Fin 2 → ℕ) a + S512x128.size a ≤ S512x2176.size a)
    (i1 : ∀ a, (![0, 0] : Fin 2 → ℕ) a + S512x2048.size a ≤ S512x2176.size a) :
    View.canon (Val := Elt Ideal) (s := S512x2176) (e := .f32) [⟨Rect.unit ![0, 2048] S512x128.size i0, z⟩, ⟨Rect.unit ![0, 0] S512x2048.size i1, x⟩] (ix2 p j)
      = if h : j.val < 2048 then x (ix2 p ⟨j.val, h⟩) else z (ix2 p ⟨j.val - 2048, by omega⟩) := by
  by_cases h : j.val < 2048
  · rw [dif_pos h, View.canon_cons_of_not_mem]
    · have e : (ix2 p j : S512x2176.Idx) = (Rect.unit (s := S512x2176) ![0, 0] S512x2048.size i1).emb (ix2 p (⟨j.val, h⟩ : Fin 2048)) := by
        funext a
        fin_cases a
        · exact Fin.ext (by rw [Rect.emb_apply]; show p.val = 0 + 1 * p.val; omega)
        · exact Fin.ext (by rw [Rect.emb_apply]; show j.val = 0 + 1 * j.val; omega)
      rw [e]
      exact View.canon_cons_emb _ _ _ _
    · intro hm
      have hb := ((Rect.mem_set_unit (inb := i0)).mp hm 1).1
      exact absurd (show 2048 ≤ j.val from hb) (by omega)
  · rw [dif_neg h]
    have e : (ix2 p j : S512x2176.Idx)
        = (Rect.unit (s := S512x2176) ![0, 2048] S512x128.size i0).emb (ix2 p (⟨j.val - 2048, by omega⟩ : Fin 128)) := by
      funext a
      fin_cases a
      · exact Fin.ext (by rw [Rect.emb_apply]; show p.val = 0 + 1 * p.val; omega)
      · exact Fin.ext (by rw [Rect.emb_apply]; show j.val = 2048 + 1 * (j.val - 2048); omega)
    rw [e]
    exact View.canon_cons_emb _ _ _ _

/-- The first result array is that function of the argument arrays. -/
theorem final (c : Dev nD) : (dats m 0 c).arrAt 7 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 7 _ (by decide +kernel) fun t hf y => ?_
  obtain ⟨e0, e1, e2, e3, e4, e5, e6, e7, e8⟩ := idx t
  blk_simp
  rw [after0_7]
  unfold outsAt0
  dsimp only
  frame_out
  obtain ⟨p, j, rfl⟩ : ∃ (p : Fin 512) (j : Fin 2176), y = ix2 p j := ⟨y 0, y 1, eq_ix2 y⟩
  have hy : (win0_7.blk t).view.emb (ix2 p j) = ix2 (⟨(grid0.coords t 0).val * 512 + p.val, row_lt t p⟩ : Fin 16384) j := by
    blk_ext [e7]
  rw [hy, out_apply]
  refine (stored _ _ p j _ _).trans ?_
  by_cases h : j.val < 2048
  · rw [dif_pos h, dif_pos h]
    exact block_x m c t p ⟨j.val, h⟩
  · rw [dif_neg h, dif_neg h]
    refine (pay2 _ _ _ _ _ p _).trans ?_
    by_cases h' : j.val - 2048 < 8
    · rw [dif_pos h', dif_pos h']
      refine (rows _ _ _ _ p _).trans ?_
      rw [block_grp, block_ex]
      rfl
    · rw [dif_neg h', dif_neg h']

/-- At `Ideal` the kernel's result arrays and the reference's agree. -/
theorem algebraic : Cert.algebraic_LnAIdeal_LnARefIdeal := by
  pair_intro
  · run_from Cert.LnAIdeal.Value.run_blocks m g
  · run_from Cert.LnARefIdeal.Value.run m' g'
    all_goals obtain ⟨h0, h1, h2, h3, h4, h5, h6, h7, h8⟩ := hagree c
    · rw [final m c, ← h0, ← h1, ← h2, ← h3, ← h4, ← h5, ← h6, ← h7, ← h8]
      exact (Cert.LnARefIdeal.Read.val_main_v112_eq _).trans (reference_eq _ _ _ _ _ _ _ _ _)
    · rw [final' m c, ← h0, ← h1, ← h2, ← h3, ← h4, ← h5, ← h6, ← h7, ← h8]
      exact (Cert.LnARefIdeal.Read.val_main_v113_eq _).trans (reference_eq' _ _ _ _ _ _ _ _ _)

end Cert.Proof.LnA

end
-- ==== Proof.Pos.Count.lean ====
/- Counting the rows of a group, over the extended reals: in one row of all, and in a table of 128 by 128 as running sums within
   the table's rows and sums of the rows above. -/
module

public import Idealize.ShloMosaic.PureOps
public import Idealize.ShloMosaic.PureOps.Ideal
public import Mathlib.Algebra.BigOperators.Fin

@[expose] public section

noncomputable section

open Idealize.ShloMosaic

namespace Cert.Proof.Pos

/-- The group `g` as a number. -/
def lit (g : Fin 4) : EReal := ((g.val : ℝ) : EReal)

theorem lit_inj (a b : Fin 4) : lit a = lit b ↔ a = b := by
  unfold lit
  rw [EReal.coe_eq_coe_iff, Nat.cast_inj, Fin.ext_iff]

theorem lit_zero : lit 0 = 0 := by simp [lit]
theorem lit_one : lit 1 = 1 := by simp [lit]
theorem lit_two : lit 2 = Ideal.ofBits .f32 0x40000000#32 := by
  simp [lit, Ideal.ofBits, Ideal.ieee]
  rw [← EReal.coe_mul]
  norm_num
theorem lit_three : lit 3 = Ideal.ofBits .f32 0x40400000#32 := by
  simp [lit, Ideal.ofBits, Ideal.ieee]
  rw [← EReal.coe_mul]
  norm_num

/-- One where the row is of the group, zero elsewhere. -/
def hot (v e : EReal) : EReal := if e = v then 1 else 0

/-- A count rounded up to whole tiles of 512. -/
def room (n : EReal) : EReal :=
  Ideal.liftRound Int.floor ((n + Ideal.ofBits .f32 0x43FF8000#32) * Ideal.ofBits .f32 0x3B000000#32) * Ideal.ofBits .f32 0x44000000#32

/-- A division by 512 is a multiplication by its inverse. -/
theorem div_tile (y : EReal) : Ideal.div y (Ideal.ofBits .f32 0x44000000#32) = y * Ideal.ofBits .f32 0x3B000000#32 := by
  have h : Ideal.ofBits .f32 0x44000000#32 = ((512 : ℝ) : EReal) := by
    simp [Ideal.ofBits, Ideal.ieee]
    rw [← EReal.coe_mul]
    norm_num
  have h' : Ideal.ofBits .f32 0x3B000000#32 = (((512 : ℝ)⁻¹ : ℝ) : EReal) := by
    simp [Ideal.ofBits, Ideal.ieee]
    rw [← EReal.coe_mul]
    norm_num
  rw [h, h']
  unfold Ideal.div
  rw [if_neg (by norm_num), EReal.coe_inv]

section Rows

variable (f : Fin 16384 → EReal)

/-- How many rows are of the group `v`. -/
def count (v : EReal) : EReal := ∑ t : Fin 16384, hot v (f t)

/-- How many rows up to `t`, itself among them, are of its group. -/
def nth (t : Fin 16384) : EReal := ∑ s : Fin 16384, if s.val ≤ t.val ∧ f s = f t then 1 else 0

/-- The first row of the group `g` once sorted: the rooms of the groups before it. -/
def first (g : Fin 4) : EReal := ∑ k : Fin 4, if k.val < g.val then room (count f (lit k)) else 0

/-- The row `r`, lane `l` of the table. -/
abbrev cell (r l : Fin 128) : Fin 16384 := ⟨r.val * 128 + l.val, by omega⟩

/-- How many of the table's row `r` are of the group `v`, up to the lane `l`. -/
def incl (v : EReal) (r l : Fin 128) : EReal := ∑ j : Fin 128, hot v (f (cell r j)) * (if j.val ≤ l.val then 1 else 0)

/-- How many of the rows above `r` are of the group `v`. -/
def above (v : EReal) (r : Fin 128) : EReal := ∑ s : Fin 128, (if s.val < r.val then 1 else 0) * incl f v s 127

theorem sum_cells (F : Fin 16384 → EReal) : ∑ t : Fin 16384, F t = ∑ r : Fin 128, ∑ l : Fin 128, F (cell r l) := by
  have h := (finProdFinEquiv (m := 128) (n := 128)).sum_comp F
  rw [← h, Fintype.sum_prod_type]
  refine Finset.sum_congr rfl fun r _ => Finset.sum_congr rfl fun l _ => congrArg F ?_
  apply Fin.ext
  show l.val + 128 * r.val = r.val * 128 + l.val
  omega

theorem incl_last (v : EReal) (r : Fin 128) : incl f v r 127 = ∑ j : Fin 128, hot v (f (cell r j)) := by
  unfold incl
  refine Finset.sum_congr rfl fun j _ => ?_
  rw [if_pos (by show j.val ≤ 127; omega), mul_one]

theorem sum_incl (v : EReal) : ∑ r : Fin 128, incl f v r 127 = count f v := by
  unfold count
  rw [sum_cells]
  exact Finset.sum_congr rfl fun r _ => incl_last f v r

theorem above_incl (v : EReal) (r l : Fin 128) (h : f (cell r l) = v) : above f v r + incl f v r l = nth f (cell r l) := by
  unfold nth
  rw [sum_cells, h]
  have e : ∀ s : Fin 128, (∑ j : Fin 128, if (cell s j).val ≤ (cell r l).val ∧ f (cell s j) = v then (1 : EReal) else 0)
      = (if s.val < r.val then 1 else 0) * incl f v s 127 + if r = s then incl f v r l else 0 := by
    intro s
    rcases lt_trichotomy s.val r.val with hs | hs | hs
    · rw [if_pos hs, if_neg (by rintro rfl; omega), one_mul, add_zero, incl_last]
      refine Finset.sum_congr rfl fun j _ => ?_
      unfold hot
      refine if_congr ⟨fun a => a.2, fun a => ⟨?_, a⟩⟩ rfl rfl
      show s.val * 128 + j.val ≤ r.val * 128 + l.val
      omega
    · obtain rfl : s = r := Fin.ext hs
      rw [if_neg (by omega), if_pos rfl, zero_mul, zero_add]
      unfold incl
      refine Finset.sum_congr rfl fun j _ => ?_
      unfold hot
      have q : (cell s j).val ≤ (cell s l).val ↔ j.val ≤ l.val := by
        show s.val * 128 + j.val ≤ s.val * 128 + l.val ↔ _
        omega
      by_cases a : j.val ≤ l.val
      · rw [if_pos a, mul_one]
        exact if_congr ⟨fun b => b.2, fun b => ⟨q.2 a, b⟩⟩ rfl rfl
      · rw [if_neg a, mul_zero, if_neg fun b => a (q.1 b.1)]
    · rw [if_neg (by omega), if_neg (by rintro rfl; omega), zero_mul, zero_add]
      refine Finset.sum_eq_zero fun j _ => if_neg fun b => ?_
      have b' : s.val * 128 + j.val ≤ r.val * 128 + l.val := b.1
      omega
  rw [Finset.sum_congr rfl fun s _ => e s, Finset.sum_add_distrib, Finset.sum_ite_eq, if_pos (Finset.mem_univ r)]
  rfl

theorem first_zero : first f 0 = 0 := by
  simp [first]
theorem first_one : first f 1 = first f 0 + room (count f (lit 0)) := by
  simp [first, Fin.sum_univ_four]
theorem first_two : first f 2 = first f 1 + room (count f (lit 1)) := by
  simp [first, Fin.sum_univ_four]
theorem first_three : first f 3 = first f 2 + room (count f (lit 2)) := by
  simp [first, Fin.sum_univ_four]
theorem rooms : ∑ g : Fin 4, room (count f (lit g)) = first f 3 + room (count f (lit 3)) := by
  simp [first, Fin.sum_univ_four]

/-- Where the row `t` goes: after its group's first row, as the group's next; a row of no group has none. -/
def place (t : Fin 16384) : EReal := ∑ g : Fin 4, if f t = lit g then first f g + nth f t - 1 else 0

/-- The groups' first rows, their counts and the rows in use. -/
def summary (b : Fin 128) : EReal :=
  if h : b.val < 4 then first f ⟨b.val, h⟩
  else if h : b.val - 4 < 4 then count f (lit ⟨b.val - 4, h⟩)
  else if b.val - 4 - 4 < 1 then ∑ g : Fin 4, room (count f (lit g)) else 0

/-- The position that the table's running sums give. -/
def stand (v s : EReal) (r l : Fin 128) : EReal := s + above f v r + incl f v r l - 1

theorem stand_eq (g : Fin 4) (r l : Fin 128) (h : f (cell r l) = lit g) :
    stand f (lit g) (first f g) r l = first f g + nth f (cell r l) - 1 := by
  unfold stand
  rw [add_assoc, above_incl f (lit g) r l h]

/-- The choices by group, one after another, are the place. -/
theorem choices (r l : Fin 128) :
    (if f (cell r l) = lit 3 then stand f (lit 3) (first f 3) r l else
      if f (cell r l) = lit 2 then stand f (lit 2) (first f 2) r l else
      if f (cell r l) = lit 1 then stand f (lit 1) (first f 1) r l else
      if f (cell r l) = lit 0 then stand f (lit 0) (first f 0) r l else 0) = place f (cell r l) := by
  have one : ∀ g : Fin 4, f (cell r l) = lit g → place f (cell r l) = stand f (lit g) (first f g) r l := by
    intro g h
    unfold place
    rw [Finset.sum_eq_single g (fun k _ hk => if_neg (by rw [h, lit_inj]; exact fun e => hk e.symm))
      (fun hg => absurd (Finset.mem_univ g) hg), if_pos h, stand_eq f g r l h]
  by_cases h3 : f (cell r l) = lit 3
  · rw [if_pos h3, one 3 h3]
  rw [if_neg h3]
  by_cases h2 : f (cell r l) = lit 2
  · rw [if_pos h2, one 2 h2]
  rw [if_neg h2]
  by_cases h1 : f (cell r l) = lit 1
  · rw [if_pos h1, one 1 h1]
  rw [if_neg h1]
  by_cases h0 : f (cell r l) = lit 0
  · rw [if_pos h0, one 0 h0]
  rw [if_neg h0]
  unfold place
  rw [Fin.sum_univ_four, if_neg h0, if_neg h1, if_neg h2, if_neg h3]
  simp

/-- The lanes of the summary, chosen one after another. -/
theorem lanes (b : Fin 128) :
    (if b.val = 8 then first f 3 + room (count f (lit 3)) else if b.val = 7 then count f (lit 3) else
      if b.val = 3 then first f 3 else if b.val = 6 then count f (lit 2) else if b.val = 2 then first f 2 else
      if b.val = 5 then count f (lit 1) else if b.val = 1 then first f 1 else if b.val = 4 then count f (lit 0) else
      if b.val = 0 then first f 0 else 0) = summary f b := by
  unfold summary
  rw [rooms]
  obtain ⟨b, hb⟩ := b
  by_cases h : b < 9
  · interval_cases b <;> rfl
  · simp only [show ¬ b = 8 by omega, show ¬ b = 7 by omega, show ¬ b = 6 by omega, show ¬ b = 5 by omega,
      show ¬ b = 4 by omega, show ¬ b = 3 by omega, show ¬ b = 2 by omega, show ¬ b = 1 by omega, show ¬ b = 0 by omega,
      show ¬ b < 4 by omega, show ¬ b - 4 < 4 by omega, show ¬ b - 4 - 4 < 1 by omega, if_false, dif_neg, not_false_eq_true]

end Rows

/-! ## Comparisons of small indices as 32-bit words -/

theorem toInt_small (a : ℕ) (h : a < 16384) : (BitVec.ofNat 32 a).toInt = a := by
  rw [BitVec.toInt_eq_toNat_bmod, BitVec.toNat_ofNat, Nat.mod_eq_of_lt (by omega)]
  exact Int.bmod_eq_of_le (by omega) (by omega)

theorem le_word {α : Type} (a b : ℕ) (ha : a < 16384) (hb : b < 16384) (x y : α) :
    Scalar.select (IntOp.cmpi .sle (BitVec.ofNat 32 a) (BitVec.ofNat 32 b)) x y = if a ≤ b then x else y := by
  unfold Scalar.select IntOp.cmpi
  have e : (BitVec.ofNat 32 a).sle (BitVec.ofNat 32 b) = decide (a ≤ b) := by
    unfold BitVec.sle
    rw [toInt_small a ha, toInt_small b hb]
    simp
  by_cases h : a ≤ b <;> simp [e, h]

theorem le_and_word {α : Type} (a b : ℕ) (ha : a < 16384) (hb : b < 16384) (p : Prop) [Decidable p] (x y : α) :
    Scalar.select (IntOp.andi (IntOp.cmpi .sle (BitVec.ofNat 32 a) (BitVec.ofNat 32 b)) (BitVec.ofBool (decide p))) x y
      = if a ≤ b ∧ p then x else y := by
  unfold Scalar.select IntOp.cmpi IntOp.andi
  have e : (BitVec.ofNat 32 a).sle (BitVec.ofNat 32 b) = decide (a ≤ b) := by
    unfold BitVec.sle
    rw [toInt_small a ha, toInt_small b hb]
    simp
  by_cases h : a ≤ b <;> by_cases h' : p <;> simp [e, h, h']

theorem lt_word {α : Type} (a b : ℕ) (ha : a < 16384) (hb : b < 16384) (x y : α) :
    Scalar.select (IntOp.cmpi .slt (BitVec.ofNat 32 a) (BitVec.ofNat 32 b)) x y = if a < b then x else y := by
  unfold Scalar.select IntOp.cmpi
  have e : (BitVec.ofNat 32 a).slt (BitVec.ofNat 32 b) = decide (a < b) := by
    unfold BitVec.slt
    rw [toInt_small a ha, toInt_small b hb]
    simp
  by_cases h : a < b <;> simp [e, h]

theorem eq_word {α : Type} (a b : ℕ) (ha : a < 16384) (hb : b < 16384) (x y : α) :
    Scalar.select (IntOp.cmpi .eq (BitVec.ofNat 32 a) (BitVec.ofNat 32 b)) x y = if a = b then x else y := by
  unfold Scalar.select IntOp.cmpi
  have e : ((BitVec.ofNat 32 a) == (BitVec.ofNat 32 b)) = decide (a = b) := by
    by_cases h : a = b
    · simp [h]
    · have q : BitVec.ofNat 32 a ≠ BitVec.ofNat 32 b := by
        intro q
        have q' := congrArg BitVec.toInt q
        rw [toInt_small a ha, toInt_small b hb] at q'
        omega
      simp [h, q]
  by_cases h : a = b <;> simp [e, h]

theorem eq_sel {α : Type} (a b : EReal) (x y : α) : Scalar.select (Ideal.cmp .oeq a b) x y = if a = b then x else y := by
  unfold Scalar.select Ideal.cmp
  by_cases h : a = b <;> simp [h]

end Cert.Proof.Pos

end
-- ==== Proof.Pos.Pay.lean ====
/- The positions' body at `Ideal`: what it stores, index by index, is the rows' places and the groups' summary. -/
module

public import proofs.«01_k».proof.Proof.Pos.Count
public import proofs.«01_k».proof.Proof.Gen.PosIdeal.Value
public import Idealize.ShloMosaic.Lib.Pipeline.ValueKit
public import Idealize.ShloMosaic.Lib.Pointwise

@[expose] public section

noncomputable section

open Idealize.ShloMosaic Idealize.ShloMosaic.TcCoe

namespace Cert.Proof.Pos

open Cert.PosIdeal Cert.PosIdeal.Gen

theorem whole_block (x0 : Vec Ideal S128x128 .f32) : View.ld x0 r0_0 = x0 := by
  frame_out

theorem word (b : Fin 128) (k : ℕ) (hk : k < 16384) {α : Type} (x y : α) :
    Scalar.select (IntOp.cmpi .eq (BitVec.ofNat 32 b.val) (BitVec.ofNat 32 k)) x y = if b.val = k then x else y :=
  eq_word b.val k (by omega) hk x y

theorem third : (Scalar.ofBits .f32 0x40400000#32 : Ideal .f32) = lit 3 := lit_three.symm

/-- The two triangles. -/
theorem upper (x0 : Vec Ideal S128x128 .f32) (a b : Fin 128) : k0_pay37 x0 (ix2 a b) = if a.val ≤ b.val then 1 else 0 := by
  pointwise [k0_pay37, k0_pay3]
  exact le_word _ _ (by omega) (by omega) _ _

theorem below (x0 : Vec Ideal S128x128 .f32) (a b : Fin 128) : k0_pay38 x0 (ix2 a b) = if b.val < a.val then 1 else 0 := by
  pointwise [k0_pay38, k0_pay4]
  exact lt_word _ _ (by omega) (by omega) _ _

theorem lane (x0 : Vec Ideal S128x128 .f32) (b : Fin 128) : k0_pay35 x0 (ix2 0 b) = BitVec.ofNat 32 b.val := by
  pointwise [k0_pay35]

section Body

variable (f : Fin 16384 → EReal) (x0 : Vec Ideal S128x128 .f32) (hx : ∀ r l : Fin 128, x0 (ix2 r l) = f (cell r l))

include hx

theorem table (r l : Fin 128) : k0_pay36 x0 (ix2 r l) = f (cell r l) := by
  unfold k0_pay36
  rw [whole_block]
  pointwise [k0_pay2]
  exact hx r l

/-! ### The group 0 -/

theorem incl0 (r l : Fin 128) : k0_pay8 x0 (ix2 r l) = incl f (lit 0) r l := by
  pointwise [k0_pay8, k0_pay7, k0_pay2, incl, hot]
  simp only [eq_sel, hx, lit_zero]
  refine Finset.sum_congr rfl fun j _ => ?_
  congr 1
  exact upper x0 j l

theorem count0 : k0_pay40 x0 (ix2 0 0) = count f (lit 0) := by
  unfold k0_pay40
  rw [whole_block, ← sum_incl]
  pointwise [k0_pay10, k0_pay9]
  exact Finset.sum_congr rfl fun r _ => incl0 f x0 hx r 127

theorem pos0 (r l : Fin 128) : k0_pay11 x0 (ix2 r l)
    = if f (cell r l) = lit 0 then stand f (lit 0) (first f 0) r l else 0 := by
  pointwise [k0_pay11, k0_pay9, k0_pay7, k0_pay6, k0_pay2]
  simp only [incl0 f x0 hx, hx]
  unfold stand
  rw [first_zero, zero_add, lit_zero]
  simp only [above, ← below x0]
  rfl

theorem first1 : k0_pay41 x0 (ix2 0 0) = first f 1 := by
  rw [first_one, first_zero, ← count0 f x0 hx]
  pointwise [k0_pay41, k0_pay14, k0_pay39, k0_pay6, room]
  trace_state

/-! ### The group 1 -/

theorem incl1 (r l : Fin 128) : k0_pay16 (k0_pay36 x0) (k0_pay37 x0) (ix2 r l) = incl f (lit 1) r l := by
  pointwise [k0_pay16, k0_pay15]
  simp only [table f x0 hx, upper, lit_one]
  rfl

theorem count1 : k0_pay42 x0 (ix2 0 0) = count f (lit 1) := by
  rw [← sum_incl]
  pointwise [k0_pay42, k0_pay18, k0_pay17]
  exact Finset.sum_congr rfl fun r _ => incl1 f x0 hx r 127

theorem pos1 (v39 : FVec Ideal S128x128 .f32) (r l : Fin 128) :
    k0_pay19 (k0_pay36 x0) (k0_pay37 x0) (k0_pay38 x0) (k0_pay39 x0) (k0_pay40 x0) v39 (ix2 r l)
    = if f (cell r l) = lit 1 then stand f (lit 1) (first f 1) r l else v39 (ix2 r l) := by
  pointwise [k0_pay19, k0_pay17, k0_pay15]
  simp only [incl1 f x0 hx, table f x0 hx, below, lit_one]
  rw [← first1 f x0 hx]
  rfl

theorem first2 : k0_pay22 (k0_pay41 x0) (k0_pay42 x0) (k0_pay43 x0) (ix2 0 0) = first f 2 := by
  rw [first_two, ← first1 f x0 hx, ← count1 f x0 hx]
  pointwise [k0_pay22, k0_pay43, k0_pay21, room]

/-! ### The group 2 -/

theorem incl2 (r l : Fin 128) : k0_pay24 (k0_pay36 x0) (k0_pay37 x0) (ix2 r l) = incl f (lit 2) r l := by
  pointwise [k0_pay24, k0_pay23]
  simp only [table f x0 hx, upper, ← lit_two]
  rfl

theorem count2 : k0_pay26 (k0_pay36 x0) (k0_pay37 x0) (ix2 0 0) = count f (lit 2) := by
  rw [← sum_incl]
  pointwise [k0_pay26, k0_pay25]
  exact Finset.sum_congr rfl fun r _ => incl2 f x0 hx r 127

theorem pos2 (v77 : FVec Ideal S128x128 .f32) (r l : Fin 128) :
    k0_pay27 (k0_pay36 x0) (k0_pay37 x0) (k0_pay38 x0) (k0_pay41 x0) (k0_pay42 x0) v77 (k0_pay43 x0) (ix2 r l)
    = if f (cell r l) = lit 2 then stand f (lit 2) (first f 2) r l else v77 (ix2 r l) := by
  pointwise [k0_pay27, k0_pay25, k0_pay23]
  simp only [incl2 f x0 hx, table f x0 hx, below, ← lit_two]
  rw [first2 f x0 hx]
  rfl

theorem first3 : k0_pay44 x0 (ix2 0 0) = first f 3 := by
  rw [first_three, ← first2 f x0 hx, ← count2 f x0 hx]
  pointwise [k0_pay44, k0_pay29, room]

/-! ### The group 3 -/

theorem incl3 (r l : Fin 128) : k0_pay31 (k0_pay36 x0) (k0_pay37 x0) (lit 3) (ix2 r l) = incl f (lit 3) r l := by
  pointwise [k0_pay31, k0_pay30]
  simp only [table f x0 hx, upper]
  rfl

theorem count3 : ∑ r : Fin 128, k0_pay31 (k0_pay36 x0) (k0_pay37 x0) (lit 3) (ix2 r 127) = count f (lit 3) := by
  rw [← sum_incl]
  exact Finset.sum_congr rfl fun r _ => incl3 f x0 hx r 127

theorem pos3 (v115 : FVec Ideal S128x128 .f32) (r l : Fin 128) :
    k0_pay34 (k0_pay36 x0) (k0_pay37 x0) (k0_pay38 x0) v115 (k0_pay44 x0) (lit 3) (ix2 r l)
    = Ideal.fptosi 32 (if f (cell r l) = lit 3 then stand f (lit 3) (first f 3) r l else v115 (ix2 r l)) := by
  pointwise [k0_pay34, k0_pay32, k0_pay30]
  simp only [incl3 f x0 hx, table f x0 hx, below]
  rw [first3 f x0 hx]
  rfl

/-- The positions that the body stores. -/
theorem stored (r l : Fin 128) : out0_1 x0 (ix2 r l) = Ideal.fptosi 32 (place f (cell r l)) := by
  unfold out0_1
  rw [third]
  frame_out
  rw [pos3 f x0 hx, pos2 f x0 hx, pos1 f x0 hx, pos0 f x0 hx, choices]

/-- The summary that the body stores. -/
theorem stored' (b : Fin 128) : out0_2 x0 (ix2 0 b) = Ideal.fptosi 32 (summary f b) := by
  unfold out0_2
  rw [third]
  frame_out
  rw [← lanes, ← first3 f x0 hx, ← first2 f x0 hx, ← first1 f x0 hx, ← count3 f x0 hx, ← count2 f x0 hx, ← count1 f x0 hx,
    ← count0 f x0 hx, first_zero, ite_self]
  pointwise [k0_pay1, k0_pay33, k0_pay32, k0_pay28, k0_pay20, k0_pay12, k0_pay13, k0_pay5, k0_pay6, room]
  rw [lane]
  repeat rw [word _ _ (by decide)]
  rfl

end Body

end Cert.Proof.Pos

end
-- ==== Proof.Pos.Ref.lean ====
/- The positions' reference at `Ideal`, read index by index: the rows' places and the groups' summary. -/
module

public import proofs.«01_k».proof.Proof.Pos.Count
public import proofs.«01_k».proof.Proof.Gen.PosRefIdeal.Read
public import Idealize.ShloMosaic.Lib.Pointwise

@[expose] public section

noncomputable section

open Idealize.ShloMosaic Idealize.ShloMosaic.TcCoe

namespace Cert.Proof.Pos

open Cert.PosRefIdeal

variable (x : Vec Ideal S16384 .f32)

/-- The rows' groups. -/
abbrev groups (t : Fin 16384) : EReal := x (ix1 t)

theorem zero1 (i : S4x4.Idx) : Read.val_main_call1_v2 (F := Ideal) i = 0 := Ideal.ofBits_zero_f32

theorem zero3 (i : S16384x4.Idx) : Read.val_main_call3_v1 (F := Ideal) i = 0 := Ideal.ofBits_zero_f32

theorem ref_v2 (t : Fin 16384) (g : Fin 4) : Read.val_main_v2 (F := Ideal) (ix2 t g) = lit g := by
  pointwise [Read.val_main_v2, Read.val_main_v1]
  show (((BitVec.ofNat 32 g.val).toInt : ℝ) : EReal) = _
  rw [toInt_small g.val (by omega)]
  simp [lit]

theorem ref_member (t : Fin 16384) (g : Fin 4) {α : Type} (y z : α) :
    Scalar.select (Read.val_main_v4 (F := Ideal) x (ix2 t g)) y z = if groups x t = lit g then y else z := by
  pointwise [Read.val_main_v4, Read.val_main_v3, Read.val_main_v0]
  rw [ref_v2]

theorem ref_v5 (t : Fin 16384) (g : Fin 4) : Read.val_main_v5 (F := Ideal) x (ix2 t g) = hot (lit g) (groups x t) := by
  pointwise [Read.val_main_v5, Read.val_main_call0_v0, Read.val_main_call0_v1, Read.val_main_cst, Read.val_main_cst_0]
  exact ref_member x t g _ _

theorem ref_v7 (g : Fin 4) : Read.val_main_v7 (F := Ideal) x (ix1 g) = count (groups x) (lit g) := by
  pointwise [Read.val_main_v7, Read.val_main_cst_1]
  exact Finset.sum_congr rfl fun t _ => ref_v5 x t g

theorem ref_v14 (g : Fin 4) : Read.val_main_v14 (F := Ideal) x (ix1 g) = room (count (groups x) (lit g)) := by
  pointwise [Read.val_main_v14, Read.val_main_v13, Read.val_main_v12, Read.val_main_v11, Read.val_main_v10, Read.val_main_v9, Read.val_main_v8, Read.val_main_cst_2, Read.val_main_cst_3, Read.val_main_cst_4]
  rw [ref_v7, div_tile]
  rfl

theorem ref_v20 (g : Fin 4) : Read.val_main_v20 (F := Ideal) x (ix1 g) = first (groups x) g := by
  pointwise [Read.val_main_v20, Read.val_main_v19, Read.val_main_v18, Read.val_main_v17, Read.val_main_v16, Read.val_main_v15, Read.val_main_call1_v1, Read.val_main_cst_6]
  unfold first
  refine Finset.sum_congr rfl fun k _ => ?_
  rw [lt_word _ _ (by omega) (by omega), ref_v14, zero1]

theorem ref_v30 (t s : Fin 16384) : Read.val_main_v30 (F := Ideal) x (ix2 t s)
    = if s.val ≤ t.val ∧ groups x s = groups x t then 1 else 0 := by
  pointwise [Read.val_main_v30, Read.val_main_v29, Read.val_main_v28, Read.val_main_v27, Read.val_main_v26, Read.val_main_v25, Read.val_main_v24, Read.val_main_v23, Read.val_main_v22, Read.val_main_v21, Read.val_main_call2_v0, Read.val_main_call2_v1, Read.val_main_cst_7, Read.val_main_cst_8]
  exact le_and_word _ _ (by omega) (by omega) _ _ _

theorem ref_v32 (t : Fin 16384) : Read.val_main_v32 (F := Ideal) x (ix1 t) = nth (groups x) t := by
  pointwise [Read.val_main_v32, Read.val_main_cst_9]
  exact Finset.sum_congr rfl fun s _ => ref_v30 x t s

theorem ref_v41 (t : Fin 16384) : Read.val_main_v41 (F := Ideal) x (ix1 t) = place (groups x) t := by
  pointwise [Read.val_main_v41, Read.val_main_v40, Read.val_main_v39, Read.val_main_v38, Read.val_main_v37, Read.val_main_v36, Read.val_main_v35, Read.val_main_v34, Read.val_main_v33, Read.val_main_cst_10, Read.val_main_cst_12]
  unfold place
  refine Finset.sum_congr rfl fun g _ => ?_
  rw [ref_member, ref_v20, ref_v32, zero3]
  try rfl

theorem ref_v45 (b : Fin 128) : Read.val_main_v45 (F := Ideal) x (ix1 b) = summary (groups x) b := by
  pointwise [Read.val_main_v45, Read.val_main_v44, Read.val_main_v43, Read.val_main_v42, Read.val_main_cst_14, Read.val_main_cst_13]
  simp only [ref_v20, ref_v7, ref_v14]
  rfl

theorem ref_v47 (r l : Fin 128) : Read.val_main_v47 (F := Ideal) x (ix2 r l) = Ideal.fptosi 32 (place (groups x) (cell r l)) := by
  pointwise [Read.val_main_v47, Read.val_main_v46]
  rw [ref_v41]
  rfl

theorem ref_v49 (b : Fin 128) : Read.val_main_v49 (F := Ideal) x (ix2 0 b) = Ideal.fptosi 32 (summary (groups x) b) := by
  pointwise [Read.val_main_v49, Read.val_main_v48]
  rw [ref_v45]
  rfl

end Cert.Proof.Pos

end
-- ==== Proof.Pos.Value.lean ====
/- The positions at `Ideal`: the call's two result arrays are the reference's, which are the rows' places and the groups'
   summary. -/
module

public import proofs.«01_k».proof.Defs
public import proofs.«01_k».proof.Proof.Pos.Pay
public import proofs.«01_k».proof.Proof.Pos.Ref
public import proofs.«01_k».proof.Proof.Gen.PosRefIdeal.Run
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Proof.Pos

open Cert.PosIdeal Cert.PosIdeal.Gen Cert.PosIdeal.Value

variable (m : (ℓ : Loc nD τ sig) → Buf (Elt Ideal) ℓ) (ρ : Dev nD → PrngReg)

/-- The only block of each array is the array. -/
theorem idx : ∀ t : Fin cfg0.N, win0_0.index t = ![0, 0] ∧ win0_1.index t = ![0, 0] ∧ win0_2.index t = ![0, 0] :=
  (by decide +kernel : ∀ t : Fin grid0.N, _)

/-- The host reads the groups as a table. -/
theorem V_main_v0 (c : Dev nD) : V m c main_v0 = shapeCast S128x128 (m ((c : Thread nD τ).loc main_arg0)) shapeCasts_S16384_S128x128 := by
  unfold V
  after_results
  rfl

theorem as_table (x : Vec Ideal S16384 .f32) (r l : Fin 128) : shapeCast S128x128 x shapeCasts_S16384_S128x128 (ix2 r l) = groups x (cell r l) := by
  pointwise

/-- The fetched block is the whole table. -/
theorem part0 (c : Dev nD) (t : Fin cfg0.N) (r l : Fin 128) : iblk m c 0 t (ix2 r l)
    = groups (m ((c : Thread nD τ).loc main_arg0)) (cell r l) := by
  have h : ((cfg0.win 0).blk t).view.emb (ix2 r l) = ix2 r l := by blk_ext [(idx t).1]
  show V m c main_v0 (((cfg0.win 0).blk t).view.emb _) = _
  rw [V_main_v0, h]
  exact as_table _ r l

/-- The positions' array is the reference's. -/
theorem final1 (c : Dev nD) : (dats m 0 c).arrAt 1 cfg0.N
    = Cert.PosRefIdeal.Read.val_main_v47 (F := Ideal) (m ((c : Thread nD τ).loc main_arg0)) := by
  refine (dats m 0 c).arrAt_eq_of_covers 1 _ (by decide +kernel) fun t hf y => ?_
  blk_simp
  rw [after0_1]
  obtain ⟨r, l, rfl⟩ : ∃ (r l : Fin 128), y = ix2 r l := ⟨y 0, y 1, eq_ix2 y⟩
  have hy : (win0_1.blk t).view.emb (ix2 r l) = ix2 r l := by blk_ext [(idx t).2.1]
  rw [hy, ref_v47]
  exact stored _ _ (part0 m c t) r l

/-- The summary's array is the reference's. -/
theorem final2 (c : Dev nD) : (dats m 0 c).arrAt 2 cfg0.N
    = Cert.PosRefIdeal.Read.val_main_v49 (F := Ideal) (m ((c : Thread nD τ).loc main_arg0)) := by
  refine (dats m 0 c).arrAt_eq_of_covers 2 _ (by decide +kernel) fun t hf y => ?_
  blk_simp
  rw [after0_2]
  obtain ⟨z, b, rfl⟩ : ∃ (z : Fin 1) (b : Fin 128), y = ix2 z b := ⟨y 0, y 1, eq_ix2 y⟩
  obtain rfl : z = 0 := Subsingleton.elim _ _
  have hy : (win0_2.blk t).view.emb (ix2 0 b) = ix2 0 b := by blk_ext [(idx t).2.2]
  rw [hy, ref_v49]
  exact stored' _ _ (part0 m c t) b

/-- At `Ideal` the kernel's result arrays and the reference's agree. -/
theorem algebraic : Cert.algebraic_PosIdeal_PosRefIdeal := by
  pair_intro
  · run_from Cert.PosIdeal.Value.run_blocks m g
  · refine θ_run_mono (Cert.PosRefIdeal.Value.run m' g') fun r hr c => ?_
    obtain ⟨a, b, d⟩ := hr c
    refine ⟨?_, ?_, d⟩
    · rw [final1 m c, ← hagree c]
      exact a.trans (Cert.PosRefIdeal.Read.val_main_v47_eq _)
    · rw [final2 m c, ← hagree c]
      exact b.trans (Cert.PosRefIdeal.Read.val_main_v49_eq _)

end Cert.Proof.Pos

end
-- ==== Proof.BackIdeal.Body.lean ====
/- The row gather's kernel, one grid point: 512 copies of rows started on one semaphore, then 512 waits. -/
module

public import proofs.«01_k».proof.Proof.Gen.BackIdeal.Launch
public import proofs.«01_k».proof.Proof.Gen.BackIdeal.Skeleton
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.BackIdeal.Rows

open Cert.BackIdeal Cert.BackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The operands -/

/-- The table of places, the rows read and the rows written, as the body is handed them. -/
abbrev tbM : Memref sig .tc .smem S16384 .i32 := Memref.whole main_arg0
abbrev srM : Memref sig .tc .hbm S18432x2048 .f32 := Memref.whole main_arg1
abbrev dsM : Memref sig .tc .hbm S16384x2048 .f32 := Memref.whole main_v0

abbrev Tb : Type := S16384.Idx → BitVec 32
abbrev Sr (F : FTy → Type) : Type := S18432x2048.Idx → Elt F .f32
abbrev Ds (F : FTy → Type) : Type := S16384x2048.Idx → Elt F .f32

/-- The table held for reading; rows of the source under a share; rows of the result. -/
abbrev tbPt (c : Dev nD) (p : Tb) : sProp 𝕄 := tbM.view.loc (c : Thread nD τ) ↦{fullShare.right} p
abbrev srPt (c : Dev nD) (S : Finset S18432x2048.Idx) (q : PosShare TreeShare) (f : Sr F) : sProp 𝕄 :=
  srM.view.loc (c : Thread nD τ) ↦[S]{q} f
abbrev dsPt (c : Dev nD) (S : Finset S16384x2048.Idx) (g : Ds F) : sProp 𝕄 :=
  dsM.view.loc (c : Thread nD τ) ↦[S]{fullShare} g

/-- Row `s` of the source, row `d` of the result: their elements. -/
def srRow (s : ℕ) : Finset S18432x2048.Idx := Finset.univ.filter fun y => (y 0).val = s
def dsRow (d : ℕ) : Finset S16384x2048.Idx := Finset.univ.filter fun y => (y 0).val = d

theorem mem_srRow (s : ℕ) (y : S18432x2048.Idx) : y ∈ srRow s ↔ (y 0).val = s := by
  unfold srRow; rw [Finset.mem_filter]; exact and_iff_right (Finset.mem_univ _)
theorem mem_dsRow (d : ℕ) (y : S16384x2048.Idx) : y ∈ dsRow d ↔ (y 0).val = d := by
  unfold dsRow; rw [Finset.mem_filter]; exact and_iff_right (Finset.mem_univ _)

/-- The place the table names for row `d` of the result. -/
def place (p : Tb) (d : ℕ) : ℕ := if h : d < 16384 then (p fun a => match a with | 0 => ⟨d, h⟩).toNat else 0

/-- The gathered rows: row `d` is the source's row at its place (a row the table does not list takes row zero). -/
def gathered (p : Tb) (f : Sr F) : Ds F := fun y =>
  f (fun a => match a with
    | 0 => ⟨place p (y 0).val % 18432, Nat.mod_lt _ (by decide)⟩
    | 1 => ⟨(y 1).val, (y 1).isLt⟩)

/-- Every place is a row of the source. -/
def Placed (p : Tb) : Prop := ∀ j, (p j).toNat < 18432

theorem place_lt {p : Tb} (h : Placed p) (d : ℕ) : place p d < 18432 := by
  unfold place; split
  · exact h _
  · decide

/-! ## The words the body computes -/

theorem coord_lt (i : grid0.Coords) : (i 0).val < 32 := (i 0).isLt
theorem trip1_lt (k : Fin k0_t1_loop.trips) : k.val < 512 := lt_of_lt_of_eq k.isLt (by decide)
theorem trip2_lt (k : Fin k0_t2_loop.trips) : k.val < 512 := lt_of_lt_of_eq k.isLt (by decide)

/-- The body's row number `512 a + k` does not wrap. -/
theorem word_row (a k : ℕ) (ha : a < 32) (hk : k < 512) :
    (Scalar.addi (Scalar.muli (BitVec.ofNat 32 a) 512#32) (Scf.iv 0#32 1#32 k)).toNat = 512 * a + k := by
  simp only [Scalar.addi, Scalar.muli, IntOp.addi, IntOp.muli, Scf.iv, BitVec.toNat_add, BitVec.toNat_mul, BitVec.toNat_ofNat]
  omega

/-- Where trip `k` of the first loop reads the table. -/
theorem off1_eq (i : grid0.Coords) (k : Fin k0_t1_loop.trips) : k0_off1 i k = ![512 * (i 0).val + k.val] := by
  unfold k0_off1
  dsimp only [Scalar.indexCast]
  have := word_row (i 0).val k.val (coord_lt i) (trip1_lt k)
  congr 1
/-- The row of the result trip `k` writes. -/
theorem off2_eq (i : grid0.Coords) (k : Fin k0_t1_loop.trips) : k0_off2 i k = ![512 * (i 0).val + k.val, 0] := by
  unfold k0_off2
  dsimp only
  rw [word_row (i 0).val k.val (coord_lt i) (trip1_lt k)]

/-! ## The transfers -/

/-- A row of the source, a row of the result, as the body slices them. -/
abbrev srSl (o : Fin 2 → ℕ) (h : ∀ a, o a + S1x2048.size a ≤ S18432x2048.size a) : Memref sig .tc .hbm S1x2048 .f32 :=
  srM.slice (Rect.unit (s := S18432x2048) o S1x2048.size h) (fun _ => rfl)
abbrev dsSl (o : Fin 2 → ℕ) (h : ∀ a, o a + S1x2048.size a ≤ S16384x2048.size a) : Memref sig .tc .hbm S1x2048 .f32 :=
  dsM.slice (Rect.unit (s := S16384x2048) o S1x2048.size h) (fun _ => rfl)

/-- One row's credit on the semaphore. -/
def NN : ℕ := (dsSl ![0, 0] (by decide)).view.dmaCredit
theorem NN_pos : 0 < NN := View.dmaCredit_pos _ (by decide)

section Point

variable (c : Dev nD) (p : Tb) (f : Sr F) (g : Ds F) (b : ℕ)

/-- What transfer `k` needs: row `b + k` of the result, as it was, and its place's row of the source under its own share. -/
def need (k : Fin 512) : sProp 𝕄 :=
  iprop(dsPt c (dsRow (b + k.val)) g ∗ srPt c (srRow (place p (b + k.val))) (Transfers.shareTokN fullShare k.val) f)
/-- What it delivers: that row gathered, and the source's row back. -/
def give (k : Fin 512) : sProp 𝕄 :=
  iprop(dsPt c (dsRow (b + k.val)) (gathered p f) ∗ srPt c (srRow (place p (b + k.val))) (Transfers.shareTokN fullShare k.val) f)

instance give_storable (k : Fin 512) : BI.Storable (upEmb : UEmb _ 𝕄) (give c p f b k) := by
  unfold give; infer_instance

/-- The batch: 512 transfers of one row each. -/
abbrev batch (j u : ℕ) : sProp 𝕄 :=
  Transfers.Batch (countersEmb (U := Pipeline.UD sig nD τ)) (c : Thread nD τ) (.dma cc0_scratch0.sem) () NN (give c p f b) j u

/-- Before trip `k` of the first loop: `k` transfers started, what the others need still in hand. -/
def issueAt (k : ℕ) (_ : Unit) : sProp 𝕄 :=
  iprop(batch c p f b k 0 ∗ tbPt c p ∗ bigSep (Ring.rangeSet 512 k 512) (need c p f g b))

end Point

/-! ## Rows as the transfers' ends -/

/-- The source's slice at row `s` is that row. -/
theorem srSl_set (s : ℕ) (o : Fin 2 → ℕ) (h) (ho : o = ![s, 0]) : (srSl o h).view.set = srRow s := by
  subst ho
  refine (View.set_slice_whole _ _).trans ?_
  ext y
  rw [Rect.mem_set_unit, mem_srRow]
  have h1 : (y 1).val < 2048 := (y 1).isLt
  constructor
  · intro H; have a0 : s ≤ (y 0).val ∧ (y 0).val < s + 1 := H 0; omega
  · intro H a; fin_cases a
    · show s ≤ (y 0).val ∧ (y 0).val < s + 1; omega
    · show 0 ≤ (y 1).val ∧ (y 1).val < 0 + 2048; omega

/-- The result's slice at row `s` is that row. -/
theorem dsSl_set (s : ℕ) (o : Fin 2 → ℕ) (h) (ho : o = ![s, 0]) : (dsSl o h).view.set = dsRow s := by
  subst ho
  refine (View.set_slice_whole _ _).trans ?_
  ext y
  rw [Rect.mem_set_unit, mem_dsRow]
  have h1 : (y 1).val < 2048 := (y 1).isLt
  constructor
  · intro H; have a0 : s ≤ (y 0).val ∧ (y 0).val < s + 1 := H 0; omega
  · intro H a; fin_cases a
    · show s ≤ (y 0).val ∧ (y 0).val < s + 1; omega
    · show 0 ≤ (y 1).val ∧ (y 1).val < 0 + 2048; omega

/-- What a transfer of row `place p d` to row `d` leaves in row `d`: the gathered row. -/
theorem landed (p : Tb) (hp : Placed p) (f : Sr F) (g : Ds F) (d : ℕ) (o3 : Fin 2 → ℕ) (h3) (ho3 : o3 = ![place p d, 0])
    (o2 : Fin 2 → ℕ) (h2) (ho2 : o2 = ![d, 0]) (y : S16384x2048.Idx) (hy : y ∈ dsRow d) :
    ((dsSl o2 h2).view.write (Elt F) g (ReadAs.same.apply ((srSl o3 h3).view.read (Elt F) f)) Finset.univ : Ds F) y = gathered p f y := by
  rw [← dsSl_set d o2 h2 ho2] at hy
  obtain ⟨x, -, rfl⟩ := Finset.mem_map.mp hy
  subst ho3 ho2
  refine (View.write_emb_of_mem (v := (dsSl _ h2).view) (Val := Elt F) g _ (Finset.mem_univ x)).trans ?_
  have hx0 : (x 0).val = 0 := by have : (x 0).val < 1 := (x 0).isLt; omega
  have hlt := place_lt hp d
  show f _ = f _
  congr 1
  funext a
  fin_cases a
  · apply Fin.ext
    show place p d + 1 * (x 0).val = place p (d + 1 * (x 0).val) % 18432
    rw [hx0, Nat.mul_zero, Nat.add_zero, Nat.add_zero, Nat.mod_eq_of_lt hlt]
  · apply Fin.ext
    show 0 + 1 * (x 1).val = 0 + 1 * (x 1).val
    rfl

/-- The word read from the table at an offset is the place of that row. -/
theorem read_place (p : Tb) (d : ℕ) (hd : d < 16384) (o : Fin 1 → ℕ) (h : ∀ a, o a + S1.size a ≤ S16384.size a) (ho : o = ![d])
    (x : (Rect.unit (s := S16384) o S1.size h).shape.Idx) :
    (((tbM.access (Rect.unit (s := S16384) o S1.size h)).read (Elt F) p x : BitVec 32)).toNat = place p d := by
  subst ho
  unfold place
  rw [dif_pos hd]
  have hx0 : (x 0).val = 0 := by have : (x 0).val < 1 := (x 0).isLt; omega
  show (p _).toNat = (p _).toNat
  congr 2
  funext a
  fin_cases a
  apply Fin.ext
  show d + 1 * (x 0).val = d
  omega

theorem off3_eq (w : BitVec 32) : k0_off3 w = ![w.toNat, 0] := rfl
theorem off6_eq (w : BitVec 32) : k0_off6 w = ![w.toNat, 0] := rfl

/-- A place among the source's rows passes the first loop's range check. -/
theorem chk1_of (w : BitVec 32) (h : w.toNat < 18432) : k0_chk1 w := by
  intro a; rw [off3_eq]; fin_cases a
  · show w.toNat + 1 ≤ 18432; omega
  · show 0 + 2048 ≤ 2048; omega
/-- A place among the source's rows passes the second loop's range check. -/
theorem chk2_of (w : BitVec 32) (h : w.toNat < 18432) : k0_chk2 w := by
  intro a; rw [off6_eq]; fin_cases a
  · show w.toNat + 1 ≤ 18432; omega
  · show 0 + 2048 ≤ 2048; omega

/-! ## The two loops -/

/-- One trip of the first loop: it reads a place and starts the copy of that row. -/
theorem issue_step [∀ e, Nonempty (Elt F e)] (c : Dev nD) (p : Tb) (f : Sr F) (g : Ds F) (hp : Placed p) (i : grid0.Coords)
    (k : Fin k0_t1_loop.trips) (acc : Unit) :
    issueAt c p f g (512 * (i 0).val) k acc ⊢ wp frame (wpE (defs₀ (F := F)) Variants.none (c : Thread nD τ) none) Set.univ
      (k0_t1_body i tbM (Memref.isWhole_whole _) srM (Memref.isWhole_whole _) dsM (Memref.isWhole_whole _) cc0_scratch0 k acc)
      (issueAt c p f g (512 * (i 0).val) (k.val + 1)) := by
  have hk := trip1_lt k
  unfold issueAt
  rw [Ring.bigSep_rangeSet_head (Φ := need c p f g (512 * (i 0).val)) hk hk]
  iintro ⟨HB, HT, HN, HNs⟩
  dsimp only [k0_t1_body]
  sl_exec
  have hw : (issue_step.sl.r (F := F) p i k : BitVec 32).toNat = place p (512 * (i 0).val + k.val) := by
    unfold issue_step.sl.r
    exact read_place (F := F) p _ (by have := coord_lt i; omega) _ (k0_off1_inb i k) (off1_eq i k) _
  generalize issue_step.sl.r (F := F) p i k = w at hw ⊢
  have hc : k0_chk1 w := chk1_of w (hw ▸ place_lt hp _)
  have h3 : ∀ a, k0_off3 w a + S1x2048.size a ≤ S18432x2048.size a := k0_off3_inb w hc
  have e3 : k0_off3 w = ![place p (512 * (i 0).val + k.val), 0] := by rw [off3_eq, hw]
  have es := srSl_set (place p (512 * (i 0).val + k.val)) (k0_off3 w) h3 e3
  have ed := dsSl_set (512 * (i 0).val + k.val) (k0_off2 i k) (k0_off2_inb i k) (off2_eq i k)
  iapply (wp_assume Variants.none (c : Thread nD τ) none Set.univ hc)
  dsimp only
  unfold need
  icases HN with ⟨HD, HS⟩
  iapply (Transfers.wp_dmaBatch (countersEmb (U := Pipeline.UD sig nD τ)) Variants.none (c : Thread nD τ) none
    (src := srSl (k0_off3 w) h3) (dst := dsSl (k0_off2 i k) (k0_off2_inb i k)) () NN rfl subset_rfl
    (q := Transfers.shareTokN fullShare k.val) (fs := f) (fd := g) (D := give c p f (512 * (i 0).val)) (j := k.val) (u := 0) hk (Nat.zero_le _) ?_) $$ [HS HD HB]
  · unfold give
    rw [es, ed]
    iintro ⟨H1, H2⟩
    isplitl [H1]
    · ihave H1 := (Entails.of_eq (pointsTo_congr (landed p hp f g (512 * (i 0).val + k.val) _ h3 e3 _ (k0_off2_inb i k) (off2_eq i k)))) $$ H1
      iexact H1
    iexact H2
  · rw [es, ed]
    isplitl [HS]; · iexact HS
    isplitl [HD]; · iexact HD
    iexact HB
  · iintro HB
    dsimp only [Prog.bind]
    sl_step
    isplitl [HB]; · iexact HB
    isplitl [HT]; · iexact HT
    iexact HNs

/-- Where trip `k` of the second loop reads the table. -/
theorem off4_eq (i : grid0.Coords) (k : Fin k0_t2_loop.trips) : k0_off4 i k = ![512 * (i 0).val + k.val] := k0_off4_eq i k

/-- Before trip `k` of the second loop: every transfer started, `k` rows' credit taken. -/
def drainAt (c : Dev nD) (p : Tb) (f : Sr F) (b : ℕ) (k : ℕ) (_ : Unit) : sProp 𝕄 :=
  iprop(batch c p f b 512 (k * NN) ∗ tbPt c p ∗ ∃ W, owes (c : Thread nD τ) 0 W)

/-- One trip of the second loop: it takes one row's credit off the semaphore. -/
theorem drain_step [∀ e, Nonempty (Elt F e)] (c : Dev nD) (p : Tb) (f : Sr F) (hp : Placed p) (i : grid0.Coords)
    (k : Fin k0_t2_loop.trips) (acc : Unit) :
    drainAt c p f (512 * (i 0).val) k acc ⊢ wp frame (wpE (defs₀ (F := F)) Variants.none (c : Thread nD τ) none) Set.univ
      (k0_t2_body i tbM (Memref.isWhole_whole _) srM (Memref.isWhole_whole _) dsM (Memref.isWhole_whole _) cc0_scratch0 k acc)
      (drainAt c p f (512 * (i 0).val) (k.val + 1)) := by
  have hk := trip2_lt k
  unfold drainAt
  iintro ⟨HB, HT, ⟨%W, HO⟩⟩
  dsimp only [k0_t2_body]
  sl_exec
  have hw : (drain_step.sl.r (F := F) p i k : BitVec 32).toNat = place p (512 * (i 0).val + k.val) := by
    unfold drain_step.sl.r
    exact read_place (F := F) p _ (by have := coord_lt i; omega) _ (k0_off4_inb i k) (off4_eq i k) _
  generalize drain_step.sl.r (F := F) p i k = w at hw ⊢
  have hc : k0_chk2 w := chk2_of w (hw ▸ place_lt hp _)
  iapply (wp_assume Variants.none (c : Thread nD τ) none Set.univ hc)
  dsimp only
  iapply (Transfers.wp_waitBatchMul (countersEmb (U := Pipeline.UD sig nD τ)) Variants.none (c : Thread nD τ) none
    (dstw := dsSl (k0_off5 i k) (k0_off5_inb i k)) () (N := NN) 1 (Nat.one_mul NN).symm
    (D := give c p f (512 * (i 0).val)) (j := 512) (u := k.val * NN) (by rw [← Nat.add_mul, Nat.mul_comm NN]; exact Nat.mul_le_mul_right _ hk)) $$ [HB HO]
  · isplitl [HB]; · iexact HB
    iexact HO
  iintro ⟨HB, HO⟩
  dsimp only [Prog.bind]
  sl_step
  isplitl [HB]
  · rw [Nat.add_mul]; iexact HB
  isplitl [HT]; · iexact HT
  iexists _; iexact HO

/-! ## One grid point -/

/-- The rows one point writes, `512` from row `b` on. -/
def block (b : ℕ) : Finset S16384x2048.Idx := Finset.univ.filter fun y => b ≤ (y 0).val ∧ (y 0).val < b + 512

theorem mem_block (b : ℕ) (y : S16384x2048.Idx) : y ∈ block b ↔ b ≤ (y 0).val ∧ (y 0).val < b + 512 := by
  unfold block; rw [Finset.mem_filter]; exact and_iff_right (Finset.mem_univ _)

/-- The result with those rows gathered. -/
def after (p : Tb) (f : Sr F) (g : Ds F) (b : ℕ) : Ds F := fun y => if b ≤ (y 0).val ∧ (y 0).val < b + 512 then gathered p f y else g y

/-- A point's rows of the result, held row by row. -/
theorem block_rows (c : Dev nD) (b : ℕ) (g : Ds F) :
    (dsPt c (block b) g : sProp 𝕄) = bigSep Finset.univ fun k : Fin 512 => dsPt c (dsRow (b + k.val)) g := by
  have hd : ∀ t ∈ (Finset.univ : Finset (Fin 512)), ∀ t' ∈ (Finset.univ : Finset (Fin 512)), t ≠ t' →
      Disjoint (dsRow (b + t.val)) (dsRow (b + t'.val)) := fun t _ t' _ hne => by
    rw [Finset.disjoint_left]
    intro y h h'
    rw [mem_dsRow] at h h'
    exact hne (Fin.ext (by omega))
  refine Eq.trans ?_ (pointsTo_biUnion (ℓ := dsM.view.loc (c : Thread nD τ)) (q := fullShare) (f := g) Finset.univ (fun k : Fin 512 => dsRow (b + k.val)) hd)
  refine congrArg (fun S : Finset S16384x2048.Idx => (dsPt c S g : sProp 𝕄)) ?_
  ext y
  rw [mem_block]
  refine Iff.trans ?_ Finset.mem_biUnion.symm
  constructor
  · intro h
    exact ⟨⟨(y 0).val - b, by omega⟩, Finset.mem_univ _, (mem_dsRow _ _).mpr (by show (y 0).val = b + ((y 0).val - b); omega)⟩
  · rintro ⟨k, -, hy⟩
    rw [mem_dsRow] at hy
    have := k.isLt
    omega

/-- A pair of families held is the family of pairs. -/
theorem two (Φ Ψ : Fin 512 → sProp 𝕄) :
    bigSep Finset.univ (fun k => iprop(Φ k ∗ Ψ k)) ⊢ (iprop(bigSep Finset.univ Φ ∗ bigSep Finset.univ Ψ) : sProp 𝕄) :=
  Entails.of_eq (BI.bigSep_sep Finset.univ Φ Ψ)
/-- The family of pairs held is the pair of families. -/
theorem two' (Φ Ψ : Fin 512 → sProp 𝕄) :
    (iprop(bigSep Finset.univ Φ ∗ bigSep Finset.univ Ψ) : sProp 𝕄) ⊢ bigSep Finset.univ (fun k => iprop(Φ k ∗ Ψ k)) :=
  Entails.of_eq (BI.bigSep_sep Finset.univ Φ Ψ).symm
/-- A family is turned into another member by member. -/
theorem each (Φ Ψ : Fin 512 → sProp 𝕄) (h : ∀ k, Φ k ⊢ Ψ k) : (bigSep Finset.univ Φ : sProp 𝕄) ⊢ bigSep Finset.univ Ψ :=
  BI.bigSep_mono fun k _ => h k

/-- The source under its tokens, a row of each apart. -/
theorem split_sr (c : Dev nD) (p : Tb) (f : Sr F) (b : ℕ) :
    (srPt c Finset.univ fullShare f : sProp 𝕄) ⊣⊢ iprop(srPt c Finset.univ (Transfers.shareDrop fullShare 512) f
      ∗ bigSep Finset.univ (fun k : Fin 512 => srPt c (srRow (place p (b + k.val))) (Transfers.shareTokN fullShare k.val) f)
      ∗ bigSep Finset.univ (fun k : Fin 512 => srPt c (Finset.univ \ srRow (place p (b + k.val))) (Transfers.shareTokN fullShare k.val) f)) := by
  have h1 := each (F := F) (fun k : Fin 512 => srPt c Finset.univ (Transfers.shareTokN fullShare k.val) f) (fun k : Fin 512 => iprop(srPt c (srRow (place p (b + k.val))) (Transfers.shareTokN fullShare k.val) f ∗ srPt c (Finset.univ \ srRow (place p (b + k.val))) (Transfers.shareTokN fullShare k.val) f))
    fun k => (pointsTo_split_subset (Finset.subset_univ (srRow (place p (b + k.val))))).1
  have h2 := each (F := F) (fun k : Fin 512 => iprop(srPt c (srRow (place p (b + k.val))) (Transfers.shareTokN fullShare k.val) f ∗ srPt c (Finset.univ \ srRow (place p (b + k.val))) (Transfers.shareTokN fullShare k.val) f)) (fun k : Fin 512 => srPt c Finset.univ (Transfers.shareTokN fullShare k.val) f)
    fun k => (pointsTo_split_subset (Finset.subset_univ (srRow (place p (b + k.val))))).2
  constructor
  · iintro H
    ihave H := (Transfers.pointsTo_toks fullShare 512).1 $$ H
    icases H with ⟨H1, H2⟩
    isplitl [H1]; · iexact H1
    iapply (two (F := F) (fun k : Fin 512 => srPt c (srRow (place p (b + k.val))) (Transfers.shareTokN fullShare k.val) f) (fun k : Fin 512 => srPt c (Finset.univ \ srRow (place p (b + k.val))) (Transfers.shareTokN fullShare k.val) f))
    iapply h1
    iexact H2
  · iintro ⟨H1, H2⟩
    iapply (Transfers.pointsTo_toks fullShare 512).2
    isplitl [H1]; · iexact H1
    iapply h2
    iapply (two' (F := F) (fun k : Fin 512 => srPt c (srRow (place p (b + k.val))) (Transfers.shareTokN fullShare k.val) f) (fun k : Fin 512 => srPt c (Finset.univ \ srRow (place p (b + k.val))) (Transfers.shareTokN fullShare k.val) f))
    iexact H2

/-- One grid point: it gathers its 512 rows, and gives back the table, the source and the semaphore as they were. -/
theorem point_run [∀ e, Nonempty (Elt F e)] (c : Dev nD) (p : Tb) (f : Sr F) (g : Ds F) (hp : Placed p) (i : grid0.Coords) :
    iprop(tbPt c p ∗ srPt c Finset.univ fullShare f ∗ dsPt c Finset.univ g ∗ semVal ((c : Thread nD τ), SemLoc.dma cc0_scratch0.sem) 0
        ∗ (∃ W, owes (c : Thread nD τ) 0 W) : sProp 𝕄)
      ⊢ wp frame (wpE (defs₀ (F := F)) Variants.none (c : Thread nD τ) none) Set.univ
        (cc0_gather_rows i tbM (Memref.isWhole_whole _) srM (Memref.isWhole_whole _) dsM (Memref.isWhole_whole _) cc0_scratch0)
        (fun _ => iprop(tbPt c p ∗ srPt c Finset.univ fullShare f ∗ dsPt c Finset.univ (after p f g (512 * (i 0).val))
          ∗ semVal ((c : Thread nD τ), SemLoc.dma cc0_scratch0.sem) 0 ∗ (∃ W, owes (c : Thread nD τ) 0 W))) := by
  iintro ⟨HT, HS, HD, Hc, HO⟩
  ihave HS := (split_sr c p f (512 * (i 0).val)).1 $$ HS
  icases HS with ⟨HS0, HSr, HSx⟩
  ihave HD := (pointsTo_split_subset (Finset.subset_univ (block (512 * (i 0).val)))).1 $$ HD
  icases HD with ⟨HDr, HDx⟩
  ihave HDr := (Entails.of_eq (block_rows c (512 * (i 0).val) g)) $$ HDr
  imod (Transfers.batch_alloc' (Lvl := ℕ) (countersEmb (U := Pipeline.UD sig nD τ)) (c : Thread nD τ) () NN (give c p f (512 * (i 0).val))
    (sm := .dma cc0_scratch0.sem) (E := Set.univ)) $$ Hc with HB
  rw [cc0_gather_rows_eq_skeleton]
  sl_unfold [cc0_gather_rows_skel]
  sl_for (issueAt c p f g (512 * (i 0).val)) $$ [HB HT HSr HDr]
  · intro k acc; exact issue_step c p f g hp i k acc
  · unfold issueAt
    isplitl [HB]; · iexact HB
    isplitl [HT]; · iexact HT
    rw [Ring.rangeSet_univ]
    unfold need
    iapply (two' (F := F) (fun k : Fin 512 => dsPt c (dsRow (512 * (i 0).val + k.val)) g)
      (fun k : Fin 512 => srPt c (srRow (place p (512 * (i 0).val + k.val))) (Transfers.shareTokN fullShare k.val) f))
    isplitl [HDr]; · iexact HDr
    iexact HSr
  iintro %acc HI
  unfold issueAt
  rw [show Scf.trips k0_t1_loop.lb k0_t1_loop.ub k0_t1_loop.st = 512 by decide]
  icases HI with ⟨HB, HT, -⟩
  sl_for (drainAt c p f (512 * (i 0).val)) $$ [HB HT HO]
  · intro k acc; exact drain_step c p f hp i k acc
  · unfold drainAt
    rw [Nat.zero_mul]
    isplitl [HB]; · iexact HB
    isplitl [HT]; · iexact HT
    iexact HO
  iintro %acc' HI
  unfold drainAt
  rw [show Scf.trips k0_t2_loop.lb k0_t2_loop.ub k0_t2_loop.st = 512 by decide, Nat.mul_comm 512 NN]
  icases HI with ⟨HB, HT, HO⟩
  imod (Transfers.batch_collect' (countersEmb (U := Pipeline.UD sig nD τ)) (c : Thread nD τ) NN_pos) $$ HB with ⟨HG, Hc⟩
  unfold give
  ihave HG := (two (F := F) (fun k : Fin 512 => dsPt c (dsRow (512 * (i 0).val + k.val)) (gathered p f))
      (fun k : Fin 512 => srPt c (srRow (place p (512 * (i 0).val + k.val))) (Transfers.shareTokN fullShare k.val) f)) $$ HG
  icases HG with ⟨HDr, HSr⟩
  sl_step
  isplitl [HT]; · iexact HT
  isplitl [HS0 HSr HSx]
  · iapply (split_sr c p f (512 * (i 0).val)).2
    isplitl [HS0]; · iexact HS0
    isplitl [HSr]; · iexact HSr
    iexact HSx
  isplitl [HDr HDx]
  · iapply (pointsTo_split_subset (Finset.subset_univ (block (512 * (i 0).val)))).2
    isplitl [HDr]
    · ihave HDr := (Entails.of_eq (block_rows c (512 * (i 0).val) (gathered p f)).symm) $$ HDr
      ihave HDr := (Entails.of_eq (pointsTo_congr (g := after p f g (512 * (i 0).val)) (fun y hy => (if_pos ((mem_block _ y).mp hy)).symm))) $$ HDr
      iexact HDr
    · ihave HDx := (Entails.of_eq (pointsTo_congr (g := after p f g (512 * (i 0).val)) (fun y hy => (if_neg (fun h => (Finset.mem_sdiff.mp hy).2 ((mem_block _ y).mpr h))).symm))) $$ HDx
      iexact HDx
  isplitl [Hc]; · iexact Hc
  iexact HO

end Cert.BackIdeal.Rows

end
-- ==== Proof.BackIdeal.Run.lean ====
/- The row gather's kernel: its run point by point, which leaves the result's every row gathered and the arguments as they were. -/
module

public import proofs.«01_k».proof.Proof.BackIdeal.Body
public import Idealize.ShloMosaic.Lib.Pipeline.Kit
public import Idealize.ShloMosaic.Lib.Pipeline.ValueKit
public import Idealize.ShloMosaic.Lib.Claim

@[expose] public section

set_option maxRecDepth 16384

noncomputable section

namespace Cert.BackIdeal.Rows

open Cert.BackIdeal Cert.BackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The launch -/

/-- The kernel is @main's first operation: it finds every buffer as launched. -/
abbrev V (c : Dev nD) (b : Ref sig .tc) : Buf (Elt F) ((c : Thread nD τ).loc b) := m ((c : Thread nD τ).loc b)

/-- @main is the kernel's launch. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main (fun c => (main_chain c).trans rfl)

/-- The table of places, as launched (there is one device). -/
def tbl : pre0.Contents (Elt F) := fun j => V m (0 : Dev nD) (pre0.ref j)
/-- The table's words are the same on every device. -/
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- The places the table names. -/
def places : Tb := tbl m 0

/-- The table, held for reading. -/
theorem PhiT0_eq (c : Dev nD) : (Pipeline.ΦT pre0 (tbl m) c : sProp 𝕄) = iprop(tbPt c (places m)) := by
  unfold Pipeline.ΦT Pipeline.prefHeld
  rw [show (Finset.univ : Finset (Fin 1)) = {(0 : Fin 1)} from by decide, bigSep_singleton]
  rfl

/-- The kernel's own semaphore, the array it reads and the array it writes. -/
abbrev osem0 : Fin 1 → SemLoc sig := fun _ => SemLoc.dma cc0_scratch0.sem
theorem ownSemFacts0 : Pipeline.OwnSemFacts spec0 osem0 := by decide
/-- The kernel's own semaphore, at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch0.sem) 0) := by
  rw [Pipeline.ownSems0_eq_of_list c osem0 [0] (by decide) (by decide)]; rfl
def H0 : Finset (Ref sig .tc) := {main_arg1}
def R0 : Finset (Ref sig .tc) := {main_v0}
theorem H0_sub : H0 ⊆ Pipeline.restRefsP sig pre0 spec0 := by decide
theorem R0_sub : R0 ⊆ Pipeline.restRefsP sig pre0 spec0 \ H0 := by decide
/-- The source, held whole. -/
theorem read_eq (c : Dev nD) :
    (bigSep H0 (fun b => ((c : Thread nD τ).loc b) ↦{fullShare} V m c b) : sProp 𝕄) = iprop(srPt c Finset.univ fullShare (V m c main_arg1)) := by
  rw [BI.bigSep_eq_bigSepL_of_eq [main_arg1] (by decide) (by decide)]; rfl
/-- The result, held whole. -/
theorem written_eq (c : Dev nD) (W : (b : Ref sig .tc) → Buf (Elt F) ((c : Thread nD τ).loc b)) :
    (Pipeline.routed R0 c W : sProp 𝕄) = iprop(dsPt c Finset.univ (W main_v0)) := by
  unfold Pipeline.routed; rw [BI.bigSep_eq_bigSepL_of_eq [main_v0] (by decide) (by decide)]; rfl

/-! ## The result, point by point -/

/-- The result before point `n`: the rows of the points before it gathered. -/
def upTo (p : Tb) (f : Sr F) (g : Ds F) (n : ℕ) : Ds F := fun y => if (y 0).val < 512 * n then gathered p f y else g y

/-- Before the first point nothing is gathered. -/
theorem upTo_zero (p : Tb) (f : Sr F) (g : Ds F) : upTo p f g 0 = g := by
  funext y; unfold upTo; exact if_neg (by omega)
/-- A point gathers the next 512 rows. -/
theorem upTo_succ (p : Tb) (f : Sr F) (g : Ds F) (n : ℕ) : after p f (upTo p f g n) (512 * n) = upTo p f g (n + 1) := by
  funext y; unfold after upTo
  by_cases h : (y 0).val < 512 * n
  · rw [if_neg (by omega), if_pos h, if_pos (by omega)]
  · by_cases h' : (y 0).val < 512 * (n + 1)
    · rw [if_pos (by omega), if_pos h']
    · rw [if_neg (by omega), if_neg h, if_neg h']
/-- After the last point every row is gathered. -/
theorem upTo_last (p : Tb) (f : Sr F) (g : Ds F) : upTo p f g 32 = gathered p f := by
  funext y; unfold upTo; have : (y 0).val < 16384 := (y 0).isLt; exact if_pos (by omega)

/-- The grid has one axis: a point's coordinate is its number. -/
theorem coords_val : ∀ t : Fin grid0.N, (grid0.coords t 0).val = t.val := by decide

/-- What the kernel holds before point `n`. -/
def Held (c : Dev nD) (n : ℕ) : sProp 𝕄 :=
  iprop((∃ r, prngReg c r) ∗ semVal ((c : Thread nD τ), SemLoc.dma cc0_scratch0.sem) 0
    ∗ srPt c Finset.univ fullShare (V m c main_arg1)
    ∗ dsPt c Finset.univ (upTo (places m) (V m c main_arg1) (V m c main_v0) n) ∗ tbPt c (places m))

/-- The call's proof data: it has no staged window, so only what is held between its points. -/
def dats (_ : Fin 1) (c : Dev nD) : Dat τ (Elt F) Unit ℕ (Pipeline.UD sig nD τ) ℕ (cfgM m) c where
  A w := V m c (Pipeline.arrRef spec0 w)
  after w _ := w.elim0
  Φ n := Held m c n.val
  q _ := fullShare
  owed _ := 0

theorem A_eq (c : Dev nD) (w : Fin (cfgM m).W) : (dats m 0 c).A w = V m c (Pipeline.arrRef spec0 w) := w.elim0

/-- The kernel body at point `t`. -/
abbrev bodyAt0 (t : Fin (cfgM m).N) : Prog (TpuEff nD τ sig (Elt F) Λ₀ .tc) PUnit :=
  cc0_gather_rows (grid0.coords t) tbM (Memref.isWhole_whole _) srM (Memref.isWhole_whole _) dsM (Memref.isWhole_whole _) cc0_scratch0

theorem defs₀_row (t : Fin (cfgM m).N) :
    defs₀ (F := F) .tc (cfgM m).body ((cfgM m).bodyArgs t ((cfgM m).slots t)) = bodyAt0 m t := by
  unfold defs₀; rw [Defs.onTc_tc]

/-- The body at point `t` takes what is held before it to what is held after. -/
theorem sound_body (hp : Placed (places m)) (c : Dev nD) (t : Fin (cfgM m).N) :
    iprop((dats m 0 c).Φ t.castSucc ∗ (dats m 0 c).owesAt () t.castSucc)
      ⊢ wp frame (wpE (defs₀ (F := F)) Variants.none c none) Set.univ (bodyAt0 m t)
        (fun _ => iprop((dats m 0 c).Φ t.succ ∗ (dats m 0 c).owesAt () t.succ)) := by
  rw [show (dats m 0 c).Φ t.succ = Held m c (t.val + 1) from rfl, show (dats m 0 c).Φ t.castSucc = Held m c t.val from rfl]
  unfold Held bodyAt0 Dat.owesAt Pipeline.owesWithin
  rw [show (dats m 0 c).owed t.castSucc = 0 from rfl, show (dats m 0 c).owed t.succ = 0 from rfl]
  have h := point_run c (places m) (V m c main_arg1) (upTo (places m) (V m c main_arg1) (V m c main_v0) t.val) hp (grid0.coords t)
  rw [show (grid0.coords t 0).val = t.val from coords_val t, upTo_succ] at h
  iintro ⟨⟨Hg, Hc, HS, HD, HT⟩, ⟨%W, -, HW⟩⟩
  iapply (wp_wand_r _ _ _)
  isplitl [HT HS HD Hc HW]
  · iapply h $$ [HT HS HD Hc HW]
    isplitl [HT]; · iexact HT
    isplitl [HS]; · iexact HS
    isplitl [HD]; · iexact HD
    isplitl [Hc]; · iexact Hc
    iexists W; iexact HW
  iintro %_ ⟨HT, HS, HD, Hc, ⟨%W', HW⟩⟩
  isplitl [Hg HT HS HD Hc]
  · isplitl [Hg]; · iexact Hg
    isplitl [Hc]; · iexact Hc
    isplitl [HS]; · iexact HS
    isplitl [HD]; · iexact HD
    iexact HT
  iexists W'
  isplitr
  · ipureintro; exact fun _ _ => Or.inl trivial
  iexact HW

/-- The launch's obligation at every point. -/
theorem body0 (hp : Placed (places m)) (c : Dev nD) : BodyObligation (dats m 0 c) (defs₀ (F := F)) Variants.none () Set.univ := fun t => by
  rw [show (Finset.univ : Finset (Fin (cfgM m).W)) = ∅ from rfl, bigSep_empty, bigSep_empty, defs₀_row]
  refine triple_restated (sound_body m hp c t) rfl ?_ fun _ => ?_
  · iintro ⟨HP, HW, -⟩
    isplitl [HP]; · iexact HP
    iexact HW
  · iintro ⟨HP, HW⟩
    isplitl [HP]; · iexact HP
    isplitl [HW]; · iexact HW
    iempintro

/-! ## The whole run -/

/-- What the launch hands the kernel, which holds it before its first point. -/
theorem held_first (c : Dev nD) :
    iprop(Pipeline.ΦDRG osem0 spec0 H0 R0 (V m) (V m) c ∗ Pipeline.ΦT pre0 (tbl m) c) ⊢ Held m c 0 := by
  rw [Pipeline.ΦDRG_eq, scopedRest0_eq, ownSems00_eq, read_eq, written_eq, PhiT0_eq]
  unfold Held
  rw [upTo_zero]
  iintro ⟨⟨-, Hg, Hc, HS, HD⟩, HT⟩
  isplitl [Hg]; · iexact Hg
  isplitl [Hc]; · iexact Hc
  isplitl [HS]; · iexact HS
  isplitl [HD]; · iexact HD
  iexact HT

/-- What the written array holds at the end. -/
def G (c : Dev nD) (b : Ref sig .tc) : Buf (Elt F) ((c : Thread nD τ).loc b) :=
  if h : b = main_v0 then h ▸ (gathered (places m) (V m c main_arg1) : Buf (Elt F) ((c : Thread nD τ).loc main_v0)) else V m c b

/-- What the kernel holds after its last point, which it hands back. -/
theorem held_last (c : Dev nD) : Held m c 32 ⊢ Pipeline.ΦDRG osem0 spec0 H0 R0 (V m) (G m) c := by
  rw [Pipeline.ΦDRG_eq, scopedRest0_eq, ownSems00_eq, read_eq, written_eq,
    show G m c main_v0 = gathered (places m) (V m c main_arg1) from rfl]
  unfold Held
  rw [upTo_last]
  iintro ⟨Hg, Hc, HS, HD, -⟩
  isplitr; · iempintro
  isplitl [Hg]; · iexact Hg
  isplitl [Hc]; · iexact Hc
  isplitl [HS]; · iexact HS
  iexact HD

set_option backward.isDefEq.respectTransparency.types false in
/-- The whole program runs to the end, its result at the gathered rows, every other array as launched, every semaphore at zero. -/
theorem run_main (hp : Placed (places m)) : θ_run defs (onTc (τ := τ) (main (F := F))) (s₀ m ρ) (fun r =>
    Pipeline.FramePostRG (Pipeline.pin pcfgs fun _ => adm m) (dats m) 0 R0 (V m) (G m) r ∧ r.2.sem = fun _ => 0) :=
  Pipeline.θ_run_frameP_dmaRG (Q' := _) pcfgs (fun _ => adm m) (dats m) (0 : Fin 1) launch0 osem0 defs₀ Variants.none ownSemFacts0 H0 R0 H0_sub R0_sub m ρ main
    (hbody := fun c => (body0 m hp c).loose) (hshare := fun c => (dats m 0 c).share_full fun _ => rfl)
    (howed := fun _ _ => rfl) (V := V m) (hmain := hmain m Variants.none) (hA := A_eq m) (hpf := V_pre m) (G := G m)
    (hin := held_first m) (hout := held_last m) (hQ' := fun _ h => h)

/-- The run with the result's every row named, the arguments unchanged and the semaphores at zero. -/
theorem run_rows (hp : Placed (places m)) : θ_run defs (onTc (τ := τ) (main (F := F))) ⟨m, fun _ => 0, ρ⟩ (fun r => (∀ c : Dev nD,
      r.2.mem ((c.tc : Thread nD τ).loc main_v0) = (gathered (places m) (V m c main_arg1) : Ds F)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ hh => ⟨fun c => ⟨hh.1.written c (b := main_v0) (by decide),
      (hh.1.1 c).2 main_arg0 (by decide : main_arg0 ∈ Pipeline.restRefs sig spec0 \ R0),
      (hh.1.1 c).2 main_arg1 (by decide : main_arg1 ∈ Pipeline.restRefs sig spec0 \ R0)⟩, hh.2⟩) (run_main m ρ hp)

/-- The frame: the arguments end unchanged, every semaphore at zero. -/
theorem frame (hp : Placed (places m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ hh => ⟨fun c => (hh.1 c).2, hh.2⟩) (run_rows m ρ hp)

end Cert.BackIdeal.Rows

end
-- ==== Proof.Back.Value.lean ====
/- The row gather: at places that are rows of the source, the kernel's result and the reference's take agree. -/
module

public import proofs.«01_k».proof.Defs
public import proofs.«01_k».proof.Proof.Back.Run
public import proofs.«01_k».proof.Proof.BackIdeal.Run
public import proofs.«01_k».proof.Proof.Gen.BackRefIdeal.Run
public import proofs.«01_k».proof.Proof.Gen.BackRefIdeal.Read
public import Idealize.ShloMosaic.Lib.Pipeline.ValueKit
public import Idealize.ShloMosaic.Lib.ReduceAll
public import Idealize.ShloMosaic.Lib.Routing.Ops
public import Idealize.ShloMosaic.Lib.Claim
public import Idealize.ShloMosaic.Lib.Pointwise

@[expose] public section

noncomputable section

namespace Cert.Proof.Back

open Idealize.ShloMosaic Idealize.ShloMosaic.TcCoe Idealize.ShloMosaic.Tactic
open Idealize.SL Idealize.SL.Sem

/-! ## The precondition, word by word -/

instance : Subsingleton Cert.Pre_placed.S_.Idx := ⟨fun a b => funext fun k => k.elim0⟩

/-- A word that reads signed at least zero and below the source's rows is a row of the source. -/
theorem word_lt (w : BitVec 32) (h : IntOp.andi (IntOp.cmpi .sge w 0#32) (IntOp.cmpi .slt w 18432#32) = 1#1) : w.toNat < 18432 := by
  obtain ⟨h1, h2⟩ := IntOp.andi_eq_one.1 h
  rw [IntOp.cmpi_sge, show (0#32 : BitVec 32).toInt = 0 from rfl] at h1
  rw [IntOp.cmpi_slt, show (18432#32 : BitVec 32).toInt = 18432 from rfl] at h2
  have h3 := BitVec.toInt_eq_toNat_cond w
  have h4 := w.isLt
  split at h3 <;> omega

/-- The precondition puts every place among the source's rows. -/
theorem placed_of [Cert.Pre_placed.Facts] {F : FTy → Type} [FloatOps F] (p : Cert.Pre_placed.S16384.Idx → BitVec 32) (f : FVec F Cert.Pre_placed.S18432x2048 .f32)
    (h : Cert.Pre_placed.fn p f = fun _ => 1#1) (j : Cert.Pre_placed.S16384.Idx) : (p j).toNat < 18432 := by
  have e := congrFun h (fun k => k.elim0)
  simp only [Cert.Pre_placed.fn] at e
  exact word_lt _ (Host.reduce_andi_all _ _ _ _ _ e j)

/-! ## The reference -/

open Cert.BackRefIdeal in
/-- The reference's take at places among the source's rows. -/
theorem take_eq (p : S16384.Idx → BitVec 32) (f : Vec Ideal S18432x2048 .f32) (hp : ∀ j, (p j).toNat < 18432) :
    Cert.BackRefIdeal.Read.val_main_v6 p f = Cert.BackIdeal.Rows.gathered (F := Ideal) p f := by
  funext y
  have hy : (y 0).val < 16384 := (y 0).isLt
  have hy1 : (y 1).val < 2048 := (y 1).isLt
  obtain ⟨c, k, rfl⟩ : ∃ (c : Fin 16384) (k : Fin 2048), y = ix2 c k :=
    ⟨⟨(y 0).val, hy⟩, ⟨(y 1).val, hy1⟩, funext fun a => match a with | ⟨0, _⟩ => rfl | ⟨1, _⟩ => rfl⟩
  have hl := Cert.BackIdeal.Rows.place_lt (p := p) hp c.val
  have hpl : Cert.BackIdeal.Rows.place p c.val = (p (ix1 c)).toNat := by
    unfold Cert.BackIdeal.Rows.place
    rw [dif_pos c.isLt]
    exact congrArg (fun j => (p j).toNat) (funext fun a => match a with | ⟨0, _⟩ => rfl)
  have hidx : Cert.BackRefIdeal.Read.val_main_v5 (F := Ideal) p (ix2 c (0 : Fin 1)) = BitVec.ofNat 32 (Cert.BackIdeal.Rows.place p c.val) := by
    rw [Cert.BackRefIdeal.Read.val_main_v5_apply, Cert.BackRefIdeal.Read.val_main_v4_apply,
      show Cert.BackRefIdeal.Read.idx_main_v5 (ix2 c (0 : Fin 1)) = ix1 c from funext fun a => match a with | ⟨0, _⟩ => rfl, hpl,
      BitVec.ofNat_toNat, BitVec.setWidth_eq]
    have h0 : ¬ Cert.BackRefIdeal.Read.val_main_v1 (F := Ideal) p (ix1 c) = 1#1 := by
      rw [Cert.BackRefIdeal.Read.val_main_v1_apply, Cert.BackRefIdeal.Read.val_main_v0_apply, Cert.BackRefIdeal.Read.val_main_c_apply]
      intro h
      have h' := IntOp.cmpi_slt.1 h
      rw [show (0#32 : BitVec 32).toInt = 0 from rfl, BitVec.toInt_eq_toNat_cond] at h'
      have := hp (ix1 c)
      split at h' <;> omega
    unfold Scalar.select
    exact if_neg h0
  refine (Routing.gather_row gather_S18432x2048_S16384x1_S16384x2048_1_0_n_n_0_1_12048 rfl rfl rfl rfl rfl f
    (Cert.BackRefIdeal.Read.val_main_v5 (F := Ideal) p) c k ⟨Cert.BackIdeal.Rows.place p c.val, hl⟩ hidx (by decide)).trans ?_
  unfold Cert.BackIdeal.Rows.gathered
  refine congrArg f (funext fun a => Fin.ext ?_)
  match a with
  | ⟨0, _⟩ => exact (Nat.mod_eq_of_lt hl).symm
  | ⟨1, _⟩ => rfl

/-! ## The claims -/

/-- The frame of the program. -/
theorem frame [Cert.Pre_placed.Facts] : Cert.quiescent_Back := fun m ρ h =>
  Cert.Back.Rows.frame m ρ fun j => placed_of (F := Bits) _ _ (h 0) j

/-- The frame of the exact reading. -/
theorem frameIdeal [Cert.Pre_placed.Facts] : Cert.quiescent_BackIdeal := fun m ρ h =>
  Cert.BackIdeal.Rows.frame m ρ fun j => placed_of (F := Ideal) _ _ (h 0) j

open Cert.BackIdeal in
/-- The reference's take of the same arrays is what the kernel leaves. -/
theorem result_eq (c : Dev nD) (m : (ℓ : Loc nD τ sig) → Buf (Elt Ideal) ℓ) (p : S16384.Idx → BitVec 32) (f : Vec Ideal S18432x2048 .f32)
    (hp : ∀ j, (p j).toNat < 18432) (h0 : p = m ((c : Thread nD τ).loc main_arg0)) (h1 : f = m ((c : Thread nD τ).loc main_arg1)) :
    Cert.BackRefIdeal.Read.val_main_v6 p f = Cert.BackIdeal.Rows.gathered (F := Ideal) (Rows.places m) (Rows.V m c main_arg1) := by
  obtain rfl : c = 0 := Subsingleton.elim _ _
  rw [take_eq p f hp, h0, h1]
  rfl

/-- At `Ideal` the kernel's result array and the reference's agree. -/
theorem algebraic [Cert.Pre_placed.Facts] : Cert.algebraic_BackIdeal_BackRefIdeal := by
  intro m g m' g' hpre hagree
  refine ⟨fun c => (Cert.BackIdeal.Rows.gathered (F := Ideal) (Cert.BackIdeal.Rows.places m) (Cert.BackIdeal.Rows.V m c Cert.BackIdeal.main_arg1)), ?_, ?_⟩
  · refine (θ_run _ _ _).mono (fun r h c => h.1 c) (Cert.BackIdeal.Rows.run_rows m g fun j => placed_of (F := Ideal) _ _ (hpre 0) j)
  · refine (θ_run _ _ _).mono (fun r h c => ⟨?_, (h c).2⟩) (Cert.BackRefIdeal.Value.run m' g')
    obtain ⟨a0, a1⟩ := hagree c
    refine (h c).1.trans ((Cert.BackRefIdeal.Read.val_main_v6_eq _ _).trans (result_eq c m _ _ (fun j => ?_) a0 a1))
    rw [a0]
    exact placed_of (F := Ideal) _ _ (hpre c) j

end Cert.Proof.Back

end
-- ==== Proof.LnB.Value.lean ====
/- The second normalisation at `Ideal`: every row block that the kernel writes back is the block of the layer norm of
   `√2 · h + ff + (ple · w) · sigmoid(h · gate)` over the argument arrays. -/
module

public import proofs.«01_k».proof.Defs
public import proofs.«01_k».proof.Proof.Gen.LnBIdeal.Value
public import proofs.«01_k».proof.Proof.Gen.LnBRefIdeal.Run
public import proofs.«01_k».proof.Proof.Gen.LnBRefIdeal.Read
public import Idealize.ShloMosaic.Lib.Pipeline.ValueKit
public import Idealize.ShloMosaic.Lib.Claim
public import Idealize.ShloMosaic.Lib.Pointwise

@[expose] public section

noncomputable section

open Idealize.ShloMosaic Idealize.ShloMosaic.TcCoe Idealize.SL.Sem
open Idealize.ShloMosaic.Pipeline (Dat)

namespace Cert.Proof.LnB

open Cert.LnBIdeal Cert.LnBIdeal.Gen Cert.LnBIdeal.Value

variable (m : (ℓ : Loc nD τ sig) → Buf (Elt Ideal) ℓ) (ρ : Dev nD → PrngReg)

/-- The mean of a row of 2048. -/
def mean (f : Fin 2048 → EReal) : EReal := Ideal.div (∑ k : Fin 2048, f k) (Ideal.ofBits .f32 0x45000000#32)

/-- The layer norm of a row, with gain `g` and offset `b`, at column `j`. -/
def norm (f : Fin 2048 → EReal) (g b : EReal) (j : Fin 2048) : EReal :=
  (f j - mean f) * Ideal.rsqrt (mean (fun k => (f k - mean f) * (f k - mean f)) + Ideal.ofBits .f32 0x3727C5AC#32) * g + b

/-- A row before the norm: the residual, the feed-forward part and the gated per-layer embedding. -/
def row (h ff : Fin 2048 → EReal) (p : Fin 256 → EReal) (w : Fin 256 → Fin 2048 → EReal) (gate : Fin 2048 → Fin 2048 → EReal)
    (j : Fin 2048) : EReal :=
  Ideal.ofBits .f32 0x3FB504F3#32 * h j + ff j + (∑ k : Fin 256, p k * w k j) * Ideal.logistic (∑ k : Fin 2048, h k * gate k j)

/-- What the body stores, at an index of the block. -/
theorem pay_apply (v0 v12 : Vec Ideal S512x2048 .f32) (v1 : Vec Ideal S512x256 .f32) (v3 : Vec Ideal S256x2048 .bf16)
    (v7 : Vec Ideal S2048x2048 .bf16) (v17 v19 : Vec Ideal S1x2048 .f32) (p : Fin 512) (q : Fin 2048) :
    k0_pay1 (F := Ideal) (k0_pay2 v17) (k0_pay3 v19) (k0_pay4 v0 v1 v3 v7 v12) (ix2 p q)
      = norm (row (fun k => v0 (ix2 p k)) (fun k => v12 (ix2 p k)) (fun k => v1 (ix2 p k))
          (fun k l => v3 (ix2 k l)) (fun k l => v7 (ix2 k l))) (v17 (ix2 0 q)) (v19 (ix2 0 q)) q := by
  pointwise [k0_pay1, k0_pay2, k0_pay3, k0_pay4, norm, mean, row]

/-- The blocks' indices at a grid point. -/
theorem idx : ∀ t : Fin cfg0.N,
    win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![(grid0.coords t 0).val, 0] :=
  (by decide +kernel : ∀ t : Fin grid0.N, _)

/-- The result over the extended reals, index by index. -/
def out (x0 : Vec Ideal S16384x2176 .f32) (x1 : Vec Ideal S16384x2048 .f32) (x2 : Vec Ideal S16384x256 .f32)
    (x3 : Vec Ideal S256x2048 .f32) (x4 : Vec Ideal S2048x2048 .f32) (x5 x6 : Vec Ideal S2048 .f32) :
    Vec Ideal S16384x2048 .f32 := fun i =>
  norm (row (fun k => x0 (ix2 (i 0) ⟨k.val, by omega⟩)) (fun k => x1 (ix2 (i 0) k)) (fun k => x2 (ix2 (i 0) k))
    (fun k l => x3 (ix2 k l)) (fun k l => x4 (ix2 k l))) (x5 (ix1 (i 1))) (x6 (ix1 (i 1))) (i 1)

/-- The host's rounded copies of the weights are, at `Ideal`, the weights; the gain and the offset are read as one row. -/
theorem V_main_v0 (c : Dev nD) : V m c main_v0 = m ((c : Thread nD τ).loc main_arg3) := by
  unfold V
  after_results
  rfl
theorem V_main_v1 (c : Dev nD) : V m c main_v1 = m ((c : Thread nD τ).loc main_arg4) := by
  unfold V
  after_results
  rfl
theorem V_main_v2 (c : Dev nD) : V m c main_v2 = shapeCast S1x2048 (m ((c : Thread nD τ).loc main_arg5)) shapeCasts_S2048_S1x2048 := by
  unfold V
  after_results
  rfl
theorem V_main_v3 (c : Dev nD) : V m c main_v3 = shapeCast S1x2048 (m ((c : Thread nD τ).loc main_arg6)) shapeCasts_S2048_S1x2048 := by
  unfold V
  after_results
  rfl

theorem row_lt (t : Fin cfg0.N) (p : Fin 512) : (grid0.coords t 0).val * 512 + p.val < 16384 := by
  have h : (grid0.coords t 0).val < 32 := (grid0.coords t 0).isLt
  omega

/-- No fetched block of the residual is cut: it is its part of the array's first 2048 columns. -/
theorem part0 (c : Dev nD) (t : Fin cfg0.N) (p : Fin 512) (k : Fin 2048) : X0_0 m c t (ix2 p k)
    = m ((c : Thread nD τ).loc main_arg0) (ix2 ⟨(grid0.coords t 0).val * 512 + p.val, row_lt t p⟩ ⟨k.val, by omega⟩) := by
  obtain ⟨e0, e1, e2, e3, e4, e5, e6, e7⟩ := idx t
  unfold X0_0 Pipeline.Window.fill
  rw [dif_pos (moved0_0 t (ix2 p k))]
  show V m c main_arg0 (((cfg0.win 0).blk t).view.emb _) = _
  rw [V_main_arg0]
  congr 1
  blk_ext [e0]

theorem as_row (x : Vec Ideal S2048 .f32) (q : Fin 2048) : shapeCast S1x2048 x shapeCasts_S2048_S1x2048 (ix2 0 q) = x (ix1 q) := by
  pointwise
theorem part1 (c : Dev nD) (t : Fin cfg0.N) (p : Fin 512) (k : Fin 2048) : iblk m c 1 t (ix2 p k)
    = m ((c : Thread nD τ).loc main_arg1) (ix2 ⟨(grid0.coords t 0).val * 512 + p.val, row_lt t p⟩ k) := by
  obtain ⟨e0, e1, e2, e3, e4, e5, e6, e7⟩ := idx t
  show V m c main_arg1 (((cfg0.win 1).blk t).view.emb _) = _
  rw [V_main_arg1]
  congr 1
  blk_ext [e1]
theorem part2 (c : Dev nD) (t : Fin cfg0.N) (p : Fin 512) (k : Fin 256) : iblk m c 2 t (ix2 p k)
    = m ((c : Thread nD τ).loc main_arg2) (ix2 ⟨(grid0.coords t 0).val * 512 + p.val, row_lt t p⟩ k) := by
  obtain ⟨e0, e1, e2, e3, e4, e5, e6, e7⟩ := idx t
  show V m c main_arg2 (((cfg0.win 2).blk t).view.emb _) = _
  rw [V_main_arg2]
  congr 1
  blk_ext [e2]
theorem part3 (c : Dev nD) (t : Fin cfg0.N) (k : Fin 256) (l : Fin 2048) : iblk m c 3 t (ix2 k l)
    = m ((c : Thread nD τ).loc main_arg3) (ix2 k l) := by
  obtain ⟨e0, e1, e2, e3, e4, e5, e6, e7⟩ := idx t
  show V m c main_v0 (((cfg0.win 3).blk t).view.emb _) = _
  rw [V_main_v0]
  congr 1
  blk_ext [e3]
theorem part4 (c : Dev nD) (t : Fin cfg0.N) (k : Fin 2048) (l : Fin 2048) : iblk m c 4 t (ix2 k l)
    = m ((c : Thread nD τ).loc main_arg4) (ix2 k l) := by
  obtain ⟨e0, e1, e2, e3, e4, e5, e6, e7⟩ := idx t
  show V m c main_v1 (((cfg0.win 4).blk t).view.emb _) = _
  rw [V_main_v1]
  congr 1
  blk_ext [e4]
theorem part5 (c : Dev nD) (t : Fin cfg0.N) (q : Fin 2048) : iblk m c 5 t (ix2 0 q)
    = m ((c : Thread nD τ).loc main_arg5) (ix1 q) := by
  obtain ⟨e0, e1, e2, e3, e4, e5, e6, e7⟩ := idx t
  have h : ((cfg0.win 5).blk t).view.emb (ix2 0 q) = ix2 0 q := by blk_ext [e5]
  show V m c main_v2 (((cfg0.win 5).blk t).view.emb _) = _
  rw [V_main_v2, h]
  exact as_row _ q
theorem part6 (c : Dev nD) (t : Fin cfg0.N) (q : Fin 2048) : iblk m c 6 t (ix2 0 q)
    = m ((c : Thread nD τ).loc main_arg6) (ix1 q) := by
  obtain ⟨e0, e1, e2, e3, e4, e5, e6, e7⟩ := idx t
  have h : ((cfg0.win 6).blk t).view.emb (ix2 0 q) = ix2 0 q := by blk_ext [e6]
  show V m c main_v3 (((cfg0.win 6).blk t).view.emb _) = _
  rw [V_main_v3, h]
  exact as_row _ q

theorem norm_row_congr {h h' ff ff' : Fin 2048 → EReal} {p p' : Fin 256 → EReal} {w w' : Fin 256 → Fin 2048 → EReal}
    {g g' : Fin 2048 → Fin 2048 → EReal} {a a' b b' : EReal} {j : Fin 2048} (eh : ∀ k, h k = h' k) (ef : ∀ k, ff k = ff' k)
    (ep : ∀ k, p k = p' k) (ew : ∀ k l, w k l = w' k l) (eg : ∀ k l, g k l = g' k l) (ea : a = a') (eb : b = b') :
    norm (row h ff p w g) a b j = norm (row h' ff' p' w' g') a' b' j := by
  obtain rfl : h = h' := funext eh
  obtain rfl : ff = ff' := funext ef
  obtain rfl : p = p' := funext ep
  obtain rfl : w = w' := funext fun k => funext (ew k)
  obtain rfl : g = g' := funext fun k => funext (eg k)
  rw [ea, eb]

/-- The norm over a block's rows is the function's part at those rows. -/
theorem block_out (c : Dev nD) (t : Fin cfg0.N) (p : Fin 512) (q : Fin 2048) :
    norm (row (fun k => X0_0 m c t (ix2 p k)) (fun k => iblk m c 1 t (ix2 p k)) (fun k => iblk m c 2 t (ix2 p k))
      (fun k l => iblk m c 3 t (ix2 k l)) (fun k l => iblk m c 4 t (ix2 k l))) (iblk m c 5 t (ix2 0 q)) (iblk m c 6 t (ix2 0 q)) q
    = out (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) (m ((c : Thread nD τ).loc main_arg6))
      (ix2 (⟨(grid0.coords t 0).val * 512 + p.val, row_lt t p⟩ : Fin 16384) q) := by
  rw [part5, part6]
  exact norm_row_congr (fun k => part0 m c t p k) (fun k => part1 m c t p k) (fun k => part2 m c t p k) (fun k l => part3 m c t k l)
    (fun k l => part4 m c t k l) rfl rfl

/-- The result array is that function of the argument arrays. -/
theorem final (c : Dev nD) : (dats m 0 c).arrAt 7 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  obtain ⟨e0, e1, e2, e3, e4, e5, e6, e7⟩ := idx t
  blk_simp
  rw [after0_7]
  unfold outsAt0
  frame_out
  obtain ⟨p, q, rfl⟩ : ∃ (p : Fin 512) (q : Fin 2048), y = ix2 p q := ⟨y 0, y 1, eq_ix2 y⟩
  rw [pay_apply]
  have hy : (win0_7.blk t).view.emb (ix2 p q) = ix2 (⟨(grid0.coords t 0).val * 512 + p.val, row_lt t p⟩ : Fin 16384) q := by
    blk_ext [e7]
  rw [hy]
  exact block_out m c t p q

/-- The reference's result is the same function of its arguments. -/
theorem reference_eq (x0 : Vec Ideal S16384x2176 .f32) (x1 : Vec Ideal S16384x2048 .f32) (x2 : Vec Ideal S16384x256 .f32)
    (x3 : Vec Ideal S256x2048 .f32) (x4 : Vec Ideal S2048x2048 .f32) (x5 x6 : Vec Ideal S2048 .f32) :
    Cert.LnBRefIdeal.Read.val_main_v37 (F := Ideal) x0 x1 x2 x3 x4 x5 x6 = out x0 x1 x2 x3 x4 x5 x6 := by
  funext i
  pointwise [Cert.LnBRefIdeal.Read.val_main_v0, Cert.LnBRefIdeal.Read.val_main_v1, Cert.LnBRefIdeal.Read.val_main_v2, Cert.LnBRefIdeal.Read.val_main_v3, Cert.LnBRefIdeal.Read.val_main_v4, Cert.LnBRefIdeal.Read.val_main_v5, Cert.LnBRefIdeal.Read.val_main_v6, Cert.LnBRefIdeal.Read.val_main_v7, Cert.LnBRefIdeal.Read.val_main_v8, Cert.LnBRefIdeal.Read.val_main_v9, Cert.LnBRefIdeal.Read.val_main_v10, Cert.LnBRefIdeal.Read.val_main_v11, Cert.LnBRefIdeal.Read.val_main_v12, Cert.LnBRefIdeal.Read.val_main_v13, Cert.LnBRefIdeal.Read.val_main_v14, Cert.LnBRefIdeal.Read.val_main_v15, Cert.LnBRefIdeal.Read.val_main_v16, Cert.LnBRefIdeal.Read.val_main_v17, Cert.LnBRefIdeal.Read.val_main_v18, Cert.LnBRefIdeal.Read.val_main_v19, Cert.LnBRefIdeal.Read.val_main_v20, Cert.LnBRefIdeal.Read.val_main_v21, Cert.LnBRefIdeal.Read.val_main_v22, Cert.LnBRefIdeal.Read.val_main_v23, Cert.LnBRefIdeal.Read.val_main_v24, Cert.LnBRefIdeal.Read.val_main_v25, Cert.LnBRefIdeal.Read.val_main_v26, Cert.LnBRefIdeal.Read.val_main_v27, Cert.LnBRefIdeal.Read.val_main_v28, Cert.LnBRefIdeal.Read.val_main_v29, Cert.LnBRefIdeal.Read.val_main_v30, Cert.LnBRefIdeal.Read.val_main_v31, Cert.LnBRefIdeal.Read.val_main_v32, Cert.LnBRefIdeal.Read.val_main_v33, Cert.LnBRefIdeal.Read.val_main_v34, Cert.LnBRefIdeal.Read.val_main_v35, Cert.LnBRefIdeal.Read.val_main_v36, Cert.LnBRefIdeal.Read.val_main_v37, Cert.LnBRefIdeal.Read.val_main_cst, Cert.LnBRefIdeal.Read.val_main_cst_0, Cert.LnBRefIdeal.Read.val_main_cst_1, Cert.LnBRefIdeal.Read.val_main_cst_2, Cert.LnBRefIdeal.Read.val_main_cst_3, Cert.LnBRefIdeal.Read.val_main_cst_4, Cert.LnBRefIdeal.Read.val_main_cst_5, Cert.LnBRefIdeal.Read.val_main_cst_6,
    out, norm, mean, row, Ideal.logistic]

/-- At `Ideal` the kernel's result array and the reference's agree. -/
theorem algebraic : Cert.algebraic_LnBIdeal_LnBRefIdeal := by
  pair_intro
  · run_from Cert.LnBIdeal.Value.run_blocks m g
  · run_from Cert.LnBRefIdeal.Value.run m' g'
    rw [final m c]
    rw [Cert.LnBRefIdeal.Read.val_main_v37_eq, reference_eq]
    obtain ⟨h0, h1, h2, h3, h4, h5, h6⟩ := hagree c
    rw [h0, h1, h2, h3, h4, h5, h6]

end Cert.Proof.LnB

end
-- ==== Proof.lean ====
/- The layer's calls, each on its own: its own program and its exact reading run to the end with every counter at zero, and
   the exact reading's results are those of the reference. The values are in the modules imported here, one per call. -/
module

public import proofs.«01_k».proof.Defs
public import proofs.«01_k».proof.Proof.Moe.Value
public import proofs.«01_k».proof.Proof.In.Value
public import proofs.«01_k».proof.Proof.Kv.Value
public import proofs.«01_k».proof.Proof.Mix.Value
public import proofs.«01_k».proof.Proof.LnA.Value
public import proofs.«01_k».proof.Proof.Pos.Value
public import proofs.«01_k».proof.Proof.Back.Value
public import proofs.«01_k».proof.Proof.LnB.Value
public import proofs.«01_k».proof.Proof.Gen.Moe
public import proofs.«01_k».proof.Proof.Gen.MoeIdeal
public import proofs.«01_k».proof.Proof.Gen.MoeRefIdeal
public import proofs.«01_k».proof.Proof.Gen.In
public import proofs.«01_k».proof.Proof.Gen.InIdeal
public import proofs.«01_k».proof.Proof.Gen.InRefIdeal
public import proofs.«01_k».proof.Proof.Gen.Kv
public import proofs.«01_k».proof.Proof.Gen.KvIdeal
public import proofs.«01_k».proof.Proof.Gen.KvRefIdeal
public import proofs.«01_k».proof.Proof.Gen.Mix
public import proofs.«01_k».proof.Proof.Gen.MixIdeal
public import proofs.«01_k».proof.Proof.Gen.MixRefIdeal
public import proofs.«01_k».proof.Proof.Gen.LnA
public import proofs.«01_k».proof.Proof.Gen.LnAIdeal
public import proofs.«01_k».proof.Proof.Gen.LnARefIdeal
public import proofs.«01_k».proof.Proof.Gen.Pos
public import proofs.«01_k».proof.Proof.Gen.PosIdeal
public import proofs.«01_k».proof.Proof.Gen.PosRefIdeal
public import proofs.«01_k».proof.Proof.Gen.Back
public import proofs.«01_k».proof.Proof.Gen.BackIdeal
public import proofs.«01_k».proof.Proof.Gen.BackRefIdeal
public import proofs.«01_k».proof.Proof.Gen.LnB
public import proofs.«01_k».proof.Proof.Gen.LnBIdeal
public import proofs.«01_k».proof.Proof.Gen.LnBRefIdeal
public import proofs.«01_k».proof.Proof.Gen.Pre_tiled
public import proofs.«01_k».proof.Proof.Gen.Pre_placed
public import proofs.«01_k».proof.Proof.Gen.In.Frame
public import proofs.«01_k».proof.Proof.Gen.InIdeal.Frame
public import proofs.«01_k».proof.Proof.Gen.Kv.Frame
public import proofs.«01_k».proof.Proof.Gen.KvIdeal.Frame
public import proofs.«01_k».proof.Proof.Gen.Mix.Frame
public import proofs.«01_k».proof.Proof.Gen.MixIdeal.Frame
public import proofs.«01_k».proof.Proof.Gen.LnA.Frame
public import proofs.«01_k».proof.Proof.Gen.LnAIdeal.Frame
public import proofs.«01_k».proof.Proof.Gen.Pos.Frame
public import proofs.«01_k».proof.Proof.Gen.PosIdeal.Frame
public import proofs.«01_k».proof.Proof.Gen.LnB.Frame
public import proofs.«01_k».proof.Proof.Gen.LnBIdeal.Frame

@[expose] public section

noncomputable section

namespace Cert.Proof

open Idealize.ShloMosaic Idealize.SL.Sem

/-- Every claim about the calls. -/
theorem claim : Cert.Claim := ⟨Cert.Moe.Gen.facts, Cert.MoeIdeal.Gen.facts, Cert.MoeRefIdeal.Gen.facts, Cert.In.Gen.facts, Cert.InIdeal.Gen.facts, Cert.InRefIdeal.Gen.facts, Cert.Kv.Gen.facts, Cert.KvIdeal.Gen.facts, Cert.KvRefIdeal.Gen.facts, Cert.Mix.Gen.facts, Cert.MixIdeal.Gen.facts, Cert.MixRefIdeal.Gen.facts, Cert.LnA.Gen.facts, Cert.LnAIdeal.Gen.facts, Cert.LnARefIdeal.Gen.facts, Cert.Pos.Gen.facts, Cert.PosIdeal.Gen.facts, Cert.PosRefIdeal.Gen.facts, Cert.Back.Gen.facts, Cert.BackIdeal.Gen.facts, Cert.BackRefIdeal.Gen.facts, Cert.LnB.Gen.facts, Cert.LnBIdeal.Gen.facts, Cert.LnBRefIdeal.Gen.facts, Cert.Pre_tiled.Gen.facts, Cert.Pre_placed.Gen.facts,
    fun m ρ _ => Cert.Moe.Routed.frame m ρ (Cert.Moe.Routed.ok m),
    fun m ρ _ => Cert.MoeIdeal.Routed.frame m ρ (Cert.MoeIdeal.Routed.ok m),
    fun m ρ _ => Cert.MoeIdeal.Routed.frame m ρ (Cert.MoeIdeal.Routed.ok m),
    fun m ρ _ => (θ_run Cert.MoeRefIdeal.defs _ _).mono (fun r h => ⟨fun c => (h c).2, sem_eq_zero_of_no_sems (by decide) r.2⟩)
      (Cert.MoeRefIdeal.Value.run m ρ),
    fun m ρ _ => (θ_run Cert.MoeRefIdeal.defs _ _).mono (fun r h => ⟨fun c => (h c).2, sem_eq_zero_of_no_sems (by decide) r.2⟩)
      (Cert.MoeRefIdeal.Value.run m ρ),
    fun m ρ _ => Cert.In.Proj.frame m ρ,
    fun m ρ _ => Cert.InIdeal.Proj.frame m ρ,
    fun m ρ _ => (θ_run Cert.InRefIdeal.defs _ _).mono (fun r h => ⟨fun c => (h c).2.2.2, sem_eq_zero_of_no_sems (by decide) r.2⟩)
      (Cert.InRefIdeal.Value.run m ρ),
    fun m ρ _ => Cert.Kv.Gen.frame m ρ,
    fun m ρ _ => Cert.KvIdeal.Gen.frame m ρ,
    fun m ρ _ => (θ_run Cert.KvRefIdeal.defs _ _).mono (fun r h => ⟨fun c => (h c).2, sem_eq_zero_of_no_sems (by decide) r.2⟩)
      (Cert.KvRefIdeal.Value.run m ρ),
    fun m ρ _ => Cert.Mix.Gen.frame m ρ,
    fun m ρ _ => Cert.MixIdeal.Gen.frame m ρ,
    fun m ρ _ => (θ_run Cert.MixRefIdeal.defs _ _).mono (fun r h => ⟨fun c => (h c).2, sem_eq_zero_of_no_sems (by decide) r.2⟩)
      (Cert.MixRefIdeal.Value.run m ρ),
    fun m ρ _ => Cert.LnA.Gen.frame m ρ,
    fun m ρ _ => Cert.LnAIdeal.Gen.frame m ρ,
    fun m ρ _ => (θ_run Cert.LnARefIdeal.defs _ _).mono (fun r h => ⟨fun c => (h c).2.2, sem_eq_zero_of_no_sems (by decide) r.2⟩)
      (Cert.LnARefIdeal.Value.run m ρ),
    fun m ρ _ => Cert.Pos.Gen.frame m ρ,
    fun m ρ _ => Cert.PosIdeal.Gen.frame m ρ,
    fun m ρ _ => (θ_run Cert.PosRefIdeal.defs _ _).mono (fun r h => ⟨fun c => (h c).2.2, sem_eq_zero_of_no_sems (by decide) r.2⟩)
      (Cert.PosRefIdeal.Value.run m ρ),
    @Cert.Proof.Back.frame Cert.Pre_placed.Gen.facts,
    @Cert.Proof.Back.frameIdeal Cert.Pre_placed.Gen.facts,
    fun m ρ _ => (θ_run Cert.BackRefIdeal.defs _ _).mono (fun r h => ⟨fun c => (h c).2, sem_eq_zero_of_no_sems (by decide) r.2⟩)
      (Cert.BackRefIdeal.Value.run m ρ),
    fun m ρ _ => (θ_run Cert.BackRefIdeal.defs _ _).mono (fun r h => ⟨fun c => (h c).2, sem_eq_zero_of_no_sems (by decide) r.2⟩)
      (Cert.BackRefIdeal.Value.run m ρ),
    fun m ρ _ => Cert.LnB.Gen.frame m ρ,
    fun m ρ _ => Cert.LnBIdeal.Gen.frame m ρ,
    fun m ρ _ => (θ_run Cert.LnBRefIdeal.defs _ _).mono (fun r h => ⟨fun c => (h c).2, sem_eq_zero_of_no_sems (by decide) r.2⟩)
      (Cert.LnBRefIdeal.Value.run m ρ),
    trivial,
    @Cert.Proof.Moe.algebraic Cert.Pre_tiled.Gen.facts,
    trivial,
    Cert.Proof.In.algebraic,
    trivial,
    Cert.Proof.Kv.algebraic,
    trivial,
    Cert.Proof.Mix.algebraic,
    trivial,
    Cert.Proof.LnA.algebraic,
    trivial,
    Cert.Proof.Pos.algebraic,
    trivial,
    @Cert.Proof.Back.algebraic Cert.Pre_placed.Gen.facts,
    trivial,
    Cert.Proof.LnB.algebraic⟩

end Cert.Proof

end
